-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Out0 (m : (ℓ : Loc Cert.Out0.nD Cert.Out0.τ Cert.Out0.sig) → Buf (Elt Bits) ℓ) : Prop :=
  True

def Pre_Out0Ideal (m : (ℓ : Loc Cert.Out0Ideal.nD Cert.Out0Ideal.τ Cert.Out0Ideal.sig) → Buf (Elt Ideal) ℓ) : Prop :=
  True

def Pre_Out0RefIdeal (m : (ℓ : Loc Cert.Out0RefIdeal.nD Cert.Out0RefIdeal.τ Cert.Out0RefIdeal.sig) → Buf (Elt Ideal) ℓ) : Prop :=
  True

def Pre_Out1 (m : (ℓ : Loc Cert.Out1.nD Cert.Out1.τ Cert.Out1.sig) → Buf (Elt Bits) ℓ) : Prop :=
  True

def Pre_Out1Ideal (m : (ℓ : Loc Cert.Out1Ideal.nD Cert.Out1Ideal.τ Cert.Out1Ideal.sig) → Buf (Elt Ideal) ℓ) : Prop :=
  True

def Pre_Out1RefIdeal (m : (ℓ : Loc Cert.Out1RefIdeal.nD Cert.Out1RefIdeal.τ Cert.Out1RefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Out0 [hOut0 : Cert.Out0.Facts] : Prop :=
  ∀ (m : (ℓ : Loc Cert.Out0.nD Cert.Out0.τ Cert.Out0.sig) → Buf (Elt Bits) ℓ) (g : Dev Cert.Out0.nD → PrngReg), Pre_Out0 m →
    θ_run (Cert.Out0.defs (F := Bits)) (onTc (τ := Cert.Out0.τ) (Cert.Out0.main (F := Bits))) ⟨m, fun _ => 0, g⟩ (fun r => (∀ c : Dev Cert.Out0.nD,
      r.2.mem ((c.tc : Thread Cert.Out0.nD Cert.Out0.τ).loc Cert.Out0.main_arg0) = m ((c.tc : Thread Cert.Out0.nD Cert.Out0.τ).loc Cert.Out0.main_arg0)
      ∧ r.2.mem ((c.tc : Thread Cert.Out0.nD Cert.Out0.τ).loc Cert.Out0.main_arg1) = m ((c.tc : Thread Cert.Out0.nD Cert.Out0.τ).loc Cert.Out0.main_arg1)
      ∧ r.2.mem ((c.tc : Thread Cert.Out0.nD Cert.Out0.τ).loc Cert.Out0.main_arg2) = m ((c.tc : Thread Cert.Out0.nD Cert.Out0.τ).loc Cert.Out0.main_arg2)
      ∧ r.2.mem ((c.tc : Thread Cert.Out0.nD Cert.Out0.τ).loc Cert.Out0.main_arg3) = m ((c.tc : Thread Cert.Out0.nD Cert.Out0.τ).loc Cert.Out0.main_arg3)
      ∧ r.2.mem ((c.tc : Thread Cert.Out0.nD Cert.Out0.τ).loc Cert.Out0.main_arg4) = m ((c.tc : Thread Cert.Out0.nD Cert.Out0.τ).loc Cert.Out0.main_arg4))
      ∧ r.2.sem = fun _ => 0)

def quiescent_Out0Ideal [hOut0Ideal : Cert.Out0Ideal.Facts] : Prop :=
  ∀ (m : (ℓ : Loc Cert.Out0Ideal.nD Cert.Out0Ideal.τ Cert.Out0Ideal.sig) → Buf (Elt Ideal) ℓ) (g : Dev Cert.Out0Ideal.nD → PrngReg), Pre_Out0Ideal m →
    θ_run (Cert.Out0Ideal.defs (F := Ideal)) (onTc (τ := Cert.Out0Ideal.τ) (Cert.Out0Ideal.main (F := Ideal))) ⟨m, fun _ => 0, g⟩ (fun r => (∀ c : Dev Cert.Out0Ideal.nD,
      r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
      ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
      ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
      ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3)
      ∧ r.2.mem ((c.tc : Thread Cert.Out0Ideal.nD Cert.Out0Ideal.τ).loc Cert.Out0Ideal.main_arg4) = m ((c.tc : Thread Cert.Out0Ideal.nD Cert.Out0Ideal.τ).loc Cert.Out0Ideal.main_arg4))
      ∧ r.2.sem = fun _ => 0)

def quiescent_Out0RefIdeal [hOut0RefIdeal : Cert.Out0RefIdeal.Facts] : Prop :=
  ∀ (m : (ℓ : Loc Cert.Out0RefIdeal.nD Cert.Out0RefIdeal.τ Cert.Out0RefIdeal.sig) → Buf (Elt Ideal) ℓ) (g : Dev Cert.Out0RefIdeal.nD → PrngReg), Pre_Out0RefIdeal m →
    θ_run (Cert.Out0RefIdeal.defs (F := Ideal)) (onTc (τ := Cert.Out0RefIdeal.τ) (Cert.Out0RefIdeal.main (F := Ideal))) ⟨m, fun _ => 0, g⟩ (fun r => (∀ c : Dev Cert.Out0RefIdeal.nD,
      r.2.mem ((c.tc : Thread Cert.Out0RefIdeal.nD Cert.Out0RefIdeal.τ).loc Cert.Out0RefIdeal.main_arg0) = m ((c.tc : Thread Cert.Out0RefIdeal.nD Cert.Out0RefIdeal.τ).loc Cert.Out0RefIdeal.main_arg0)
      ∧ r.2.mem ((c.tc : Thread Cert.Out0RefIdeal.nD Cert.Out0RefIdeal.τ).loc Cert.Out0RefIdeal.main_arg1) = m ((c.tc : Thread Cert.Out0RefIdeal.nD Cert.Out0RefIdeal.τ).loc Cert.Out0RefIdeal.main_arg1)
      ∧ r.2.mem ((c.tc : Thread Cert.Out0RefIdeal.nD Cert.Out0RefIdeal.τ).loc Cert.Out0RefIdeal.main_arg2) = m ((c.tc : Thread Cert.Out0RefIdeal.nD Cert.Out0RefIdeal.τ).loc Cert.Out0RefIdeal.main_arg2)
      ∧ r.2.mem ((c.tc : Thread Cert.Out0RefIdeal.nD Cert.Out0RefIdeal.τ).loc Cert.Out0RefIdeal.main_arg3) = m ((c.tc : Thread Cert.Out0RefIdeal.nD Cert.Out0RefIdeal.τ).loc Cert.Out0RefIdeal.main_arg3)
      ∧ r.2.mem ((c.tc : Thread Cert.Out0RefIdeal.nD Cert.Out0RefIdeal.τ).loc Cert.Out0RefIdeal.main_arg4) = m ((c.tc : Thread Cert.Out0RefIdeal.nD Cert.Out0RefIdeal.τ).loc Cert.Out0RefIdeal.main_arg4))
      ∧ r.2.sem = fun _ => 0)

def quiescent_Out1 [hOut1 : Cert.Out1.Facts] : Prop :=
  ∀ (m : (ℓ : Loc Cert.Out1.nD Cert.Out1.τ Cert.Out1.sig) → Buf (Elt Bits) ℓ) (g : Dev Cert.Out1.nD → PrngReg), Pre_Out1 m →
    θ_run (Cert.Out1.defs (F := Bits)) (onTc (τ := Cert.Out1.τ) (Cert.Out1.main (F := Bits))) ⟨m, fun _ => 0, g⟩ (fun r => (∀ c : Dev Cert.Out1.nD,
      r.2.mem ((c.tc : Thread Cert.Out1.nD Cert.Out1.τ).loc Cert.Out1.main_arg0) = m ((c.tc : Thread Cert.Out1.nD Cert.Out1.τ).loc Cert.Out1.main_arg0)
      ∧ r.2.mem ((c.tc : Thread Cert.Out1.nD Cert.Out1.τ).loc Cert.Out1.main_arg1) = m ((c.tc : Thread Cert.Out1.nD Cert.Out1.τ).loc Cert.Out1.main_arg1)
      ∧ r.2.mem ((c.tc : Thread Cert.Out1.nD Cert.Out1.τ).loc Cert.Out1.main_arg2) = m ((c.tc : Thread Cert.Out1.nD Cert.Out1.τ).loc Cert.Out1.main_arg2)
      ∧ r.2.mem ((c.tc : Thread Cert.Out1.nD Cert.Out1.τ).loc Cert.Out1.main_arg3) = m ((c.tc : Thread Cert.Out1.nD Cert.Out1.τ).loc Cert.Out1.main_arg3)
      ∧ r.2.mem ((c.tc : Thread Cert.Out1.nD Cert.Out1.τ).loc Cert.Out1.main_arg4) = m ((c.tc : Thread Cert.Out1.nD Cert.Out1.τ).loc Cert.Out1.main_arg4)
      ∧ r.2.mem ((c.tc : Thread Cert.Out1.nD Cert.Out1.τ).loc Cert.Out1.main_arg5) = m ((c.tc : Thread Cert.Out1.nD Cert.Out1.τ).loc Cert.Out1.main_arg5))
      ∧ r.2.sem = fun _ => 0)

def quiescent_Out1Ideal [hOut1Ideal : Cert.Out1Ideal.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
      ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
      ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
      ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4)
      ∧ r.2.mem ((c.tc : Thread Cert.Out1Ideal.nD Cert.Out1Ideal.τ).loc Cert.Out1Ideal.main_arg5) = m ((c.tc : Thread Cert.Out1Ideal.nD Cert.Out1Ideal.τ).loc Cert.Out1Ideal.main_arg5))
      ∧ r.2.sem = fun _ => 0)

def quiescent_Out1RefIdeal [hOut1RefIdeal : Cert.Out1RefIdeal.Facts] : Prop :=
  ∀ (m : (ℓ : Loc Cert.Out1RefIdeal.nD Cert.Out1RefIdeal.τ Cert.Out1RefIdeal.sig) → Buf (Elt Ideal) ℓ) (g : Dev Cert.Out1RefIdeal.nD → PrngReg), Pre_Out1RefIdeal m →
    θ_run (Cert.Out1RefIdeal.defs (F := Ideal)) (onTc (τ := Cert.Out1RefIdeal.τ) (Cert.Out1RefIdeal.main (F := Ideal))) ⟨m, fun _ => 0, g⟩ (fun r => (∀ c : Dev Cert.Out1RefIdeal.nD,
      r.2.mem ((c.tc : Thread Cert.Out1RefIdeal.nD Cert.Out1RefIdeal.τ).loc Cert.Out1RefIdeal.main_arg0) = m ((c.tc : Thread Cert.Out1RefIdeal.nD Cert.Out1RefIdeal.τ).loc Cert.Out1RefIdeal.main_arg0)
      ∧ r.2.mem ((c.tc : Thread Cert.Out1RefIdeal.nD Cert.Out1RefIdeal.τ).loc Cert.Out1RefIdeal.main_arg1) = m ((c.tc : Thread Cert.Out1RefIdeal.nD Cert.Out1RefIdeal.τ).loc Cert.Out1RefIdeal.main_arg1)
      ∧ r.2.mem ((c.tc : Thread Cert.Out1RefIdeal.nD Cert.Out1RefIdeal.τ).loc Cert.Out1RefIdeal.main_arg2) = m ((c.tc : Thread Cert.Out1RefIdeal.nD Cert.Out1RefIdeal.τ).loc Cert.Out1RefIdeal.main_arg2)
      ∧ r.2.mem ((c.tc : Thread Cert.Out1RefIdeal.nD Cert.Out1RefIdeal.τ).loc Cert.Out1RefIdeal.main_arg3) = m ((c.tc : Thread Cert.Out1RefIdeal.nD Cert.Out1RefIdeal.τ).loc Cert.Out1RefIdeal.main_arg3)
      ∧ r.2.mem ((c.tc : Thread Cert.Out1RefIdeal.nD Cert.Out1RefIdeal.τ).loc Cert.Out1RefIdeal.main_arg4) = m ((c.tc : Thread Cert.Out1RefIdeal.nD Cert.Out1RefIdeal.τ).loc Cert.Out1RefIdeal.main_arg4)
      ∧ r.2.mem ((c.tc : Thread Cert.Out1RefIdeal.nD Cert.Out1RefIdeal.τ).loc Cert.Out1RefIdeal.main_arg5) = m ((c.tc : Thread Cert.Out1RefIdeal.nD Cert.Out1RefIdeal.τ).loc Cert.Out1RefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Out0_Out0Ideal : Prop :=
  True

def algebraic_Out0Ideal_Out0RefIdeal [hOut0Ideal : Cert.Out0Ideal.Facts] [hOut0RefIdeal : Cert.Out0RefIdeal.Facts] : Prop :=
  ∀ (m : (ℓ : Loc Cert.Out0Ideal.nD Cert.Out0Ideal.τ Cert.Out0Ideal.sig) → Buf (Elt Ideal) ℓ) (g : Dev Cert.Out0Ideal.nD → PrngReg)
    (m' : (ℓ : Loc Cert.Out0RefIdeal.nD Cert.Out0RefIdeal.τ Cert.Out0RefIdeal.sig) → Buf (Elt Ideal) ℓ) (g' : Dev Cert.Out0RefIdeal.nD → PrngReg), Pre_Out0Ideal m →
    (∀ c : Dev Cert.Out0Ideal.nD,
      m' ((c.tc : Thread Cert.Out0RefIdeal.nD Cert.Out0RefIdeal.τ).loc Cert.Out0RefIdeal.main_arg0) = m ((c.tc : Thread Cert.Out0Ideal.nD Cert.Out0Ideal.τ).loc Cert.Out0Ideal.main_arg0)
      ∧ m' ((c.tc : Thread Cert.Out0RefIdeal.nD Cert.Out0RefIdeal.τ).loc Cert.Out0RefIdeal.main_arg1) = m ((c.tc : Thread Cert.Out0Ideal.nD Cert.Out0Ideal.τ).loc Cert.Out0Ideal.main_arg1)
      ∧ m' ((c.tc : Thread Cert.Out0RefIdeal.nD Cert.Out0RefIdeal.τ).loc Cert.Out0RefIdeal.main_arg2) = m ((c.tc : Thread Cert.Out0Ideal.nD Cert.Out0Ideal.τ).loc Cert.Out0Ideal.main_arg2)
      ∧ m' ((c.tc : Thread Cert.Out0RefIdeal.nD Cert.Out0RefIdeal.τ).loc Cert.Out0RefIdeal.main_arg3) = m ((c.tc : Thread Cert.Out0Ideal.nD Cert.Out0Ideal.τ).loc Cert.Out0Ideal.main_arg3)
      ∧ m' ((c.tc : Thread Cert.Out0RefIdeal.nD Cert.Out0RefIdeal.τ).loc Cert.Out0RefIdeal.main_arg4) = m ((c.tc : Thread Cert.Out0Ideal.nD Cert.Out0Ideal.τ).loc Cert.Out0Ideal.main_arg4)) →
    ∃ (v0 : (c : Dev Cert.Out0Ideal.nD) → Buf (Elt Ideal) ((c.tc : Thread Cert.Out0Ideal.nD Cert.Out0Ideal.τ).loc Cert.Out0Ideal.main_v1)),
      θ_run (Cert.Out0Ideal.defs (F := Ideal)) (onTc (τ := Cert.Out0Ideal.τ) (Cert.Out0Ideal.main (F := Ideal))) ⟨m, fun _ => 0, g⟩ (fun r => ∀ c : Dev Cert.Out0Ideal.nD,
          r.2.mem ((c.tc : Thread Cert.Out0Ideal.nD Cert.Out0Ideal.τ).loc Cert.Out0Ideal.main_v1) = v0 c
          ∧ r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
          ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
          ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
          ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3)
          ∧ r.2.mem ((c.tc : Thread Cert.Out0Ideal.nD Cert.Out0Ideal.τ).loc Cert.Out0Ideal.main_arg4) = m ((c.tc : Thread Cert.Out0Ideal.nD Cert.Out0Ideal.τ).loc Cert.Out0Ideal.main_arg4))
      ∧ θ_run (Cert.Out0RefIdeal.defs (F := Ideal)) (onTc (τ := Cert.Out0RefIdeal.τ) (Cert.Out0RefIdeal.main (F := Ideal))) ⟨m', fun _ => 0, g'⟩ (fun r => ∀ c : Dev Cert.Out0RefIdeal.nD,
          r.2.mem ((c.tc : Thread Cert.Out0RefIdeal.nD Cert.Out0RefIdeal.τ).loc Cert.Out0RefIdeal.main_v7) = v0 c
          ∧ r.2.mem ((c.tc : Thread Cert.Out0RefIdeal.nD Cert.Out0RefIdeal.τ).loc Cert.Out0RefIdeal.main_arg0) = m' ((c.tc : Thread Cert.Out0RefIdeal.nD Cert.Out0RefIdeal.τ).loc Cert.Out0RefIdeal.main_arg0)
          ∧ r.2.mem ((c.tc : Thread Cert.Out0RefIdeal.nD Cert.Out0RefIdeal.τ).loc Cert.Out0RefIdeal.main_arg1) = m' ((c.tc : Thread Cert.Out0RefIdeal.nD Cert.Out0RefIdeal.τ).loc Cert.Out0RefIdeal.main_arg1)
          ∧ r.2.mem ((c.tc : Thread Cert.Out0RefIdeal.nD Cert.Out0RefIdeal.τ).loc Cert.Out0RefIdeal.main_arg2) = m' ((c.tc : Thread Cert.Out0RefIdeal.nD Cert.Out0RefIdeal.τ).loc Cert.Out0RefIdeal.main_arg2)
          ∧ r.2.mem ((c.tc : Thread Cert.Out0RefIdeal.nD Cert.Out0RefIdeal.τ).loc Cert.Out0RefIdeal.main_arg3) = m' ((c.tc : Thread Cert.Out0RefIdeal.nD Cert.Out0RefIdeal.τ).loc Cert.Out0RefIdeal.main_arg3)
          ∧ r.2.mem ((c.tc : Thread Cert.Out0RefIdeal.nD Cert.Out0RefIdeal.τ).loc Cert.Out0RefIdeal.main_arg4) = m' ((c.tc : Thread Cert.Out0RefIdeal.nD Cert.Out0RefIdeal.τ).loc Cert.Out0RefIdeal.main_arg4))

def preserves_Out1_Out1Ideal : Prop :=
  True

def algebraic_Out1Ideal_Out1RefIdeal [hOut1Ideal : Cert.Out1Ideal.Facts] [hOut1RefIdeal : Cert.Out1RefIdeal.Facts] : Prop :=
  ∀ (m : (ℓ : Loc Cert.Out1Ideal.nD Cert.Out1Ideal.τ Cert.Out1Ideal.sig) → Buf (Elt Ideal) ℓ) (g : Dev Cert.Out1Ideal.nD → PrngReg)
    (m' : (ℓ : Loc Cert.Out1RefIdeal.nD Cert.Out1RefIdeal.τ Cert.Out1RefIdeal.sig) → Buf (Elt Ideal) ℓ) (g' : Dev Cert.Out1RefIdeal.nD → PrngReg), Pre_Out1Ideal m →
    (∀ c : Dev Cert.Out1Ideal.nD,
      m' ((c.tc : Thread Cert.Out1RefIdeal.nD Cert.Out1RefIdeal.τ).loc Cert.Out1RefIdeal.main_arg0) = m ((c.tc : Thread Cert.Out1Ideal.nD Cert.Out1Ideal.τ).loc Cert.Out1Ideal.main_arg0)
      ∧ m' ((c.tc : Thread Cert.Out1RefIdeal.nD Cert.Out1RefIdeal.τ).loc Cert.Out1RefIdeal.main_arg1) = m ((c.tc : Thread Cert.Out1Ideal.nD Cert.Out1Ideal.τ).loc Cert.Out1Ideal.main_arg1)
      ∧ m' ((c.tc : Thread Cert.Out1RefIdeal.nD Cert.Out1RefIdeal.τ).loc Cert.Out1RefIdeal.main_arg2) = m ((c.tc : Thread Cert.Out1Ideal.nD Cert.Out1Ideal.τ).loc Cert.Out1Ideal.main_arg2)
      ∧ m' ((c.tc : Thread Cert.Out1RefIdeal.nD Cert.Out1RefIdeal.τ).loc Cert.Out1RefIdeal.main_arg3) = m ((c.tc : Thread Cert.Out1Ideal.nD Cert.Out1Ideal.τ).loc Cert.Out1Ideal.main_arg3)
      ∧ m' ((c.tc : Thread Cert.Out1RefIdeal.nD Cert.Out1RefIdeal.τ).loc Cert.Out1RefIdeal.main_arg4) = m ((c.tc : Thread Cert.Out1Ideal.nD Cert.Out1Ideal.τ).loc Cert.Out1Ideal.main_arg4)
      ∧ m' ((c.tc : Thread Cert.Out1RefIdeal.nD Cert.Out1RefIdeal.τ).loc Cert.Out1RefIdeal.main_arg5) = m ((c.tc : Thread Cert.Out1Ideal.nD Cert.Out1Ideal.τ).loc Cert.Out1Ideal.main_arg5)) →
    ∃ (v0 : (c : Dev Cert.Out1Ideal.nD) → Buf (Elt Ideal) ((c.tc : Thread Cert.Out1Ideal.nD Cert.Out1Ideal.τ).loc Cert.Out1Ideal.main_v2)),
      θ_run (Cert.Out1Ideal.defs (F := Ideal)) (onTc (τ := Cert.Out1Ideal.τ) (Cert.Out1Ideal.main (F := Ideal))) ⟨m, fun _ => 0, g⟩ (fun r => ∀ c : Dev Cert.Out1Ideal.nD,
          r.2.mem ((c.tc : Thread Cert.Out1Ideal.nD Cert.Out1Ideal.τ).loc Cert.Out1Ideal.main_v2) = v0 c
          ∧ r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
          ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
          ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
          ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3)
          ∧ r.2.mem ((c.tc : Thread Cert.Out1Ideal.nD Cert.Out1Ideal.τ).loc Cert.Out1Ideal.main_arg4) = m ((c.tc : Thread Cert.Out1Ideal.nD Cert.Out1Ideal.τ).loc Cert.Out1Ideal.main_arg4)
          ∧ r.2.mem ((c.tc : Thread Cert.Out1Ideal.nD Cert.Out1Ideal.τ).loc Cert.Out1Ideal.main_arg5) = m ((c.tc : Thread Cert.Out1Ideal.nD Cert.Out1Ideal.τ).loc Cert.Out1Ideal.main_arg5))
      ∧ θ_run (Cert.Out1RefIdeal.defs (F := Ideal)) (onTc (τ := Cert.Out1RefIdeal.τ) (Cert.Out1RefIdeal.main (F := Ideal))) ⟨m', fun _ => 0, g'⟩ (fun r => ∀ c : Dev Cert.Out1RefIdeal.nD,
          r.2.mem ((c.tc : Thread Cert.Out1RefIdeal.nD Cert.Out1RefIdeal.τ).loc Cert.Out1RefIdeal.main_v21) = v0 c
          ∧ r.2.mem ((c.tc : Thread Cert.Out1RefIdeal.nD Cert.Out1RefIdeal.τ).loc Cert.Out1RefIdeal.main_arg0) = m' ((c.tc : Thread Cert.Out1RefIdeal.nD Cert.Out1RefIdeal.τ).loc Cert.Out1RefIdeal.main_arg0)
          ∧ r.2.mem ((c.tc : Thread Cert.Out1RefIdeal.nD Cert.Out1RefIdeal.τ).loc Cert.Out1RefIdeal.main_arg1) = m' ((c.tc : Thread Cert.Out1RefIdeal.nD Cert.Out1RefIdeal.τ).loc Cert.Out1RefIdeal.main_arg1)
          ∧ r.2.mem ((c.tc : Thread Cert.Out1RefIdeal.nD Cert.Out1RefIdeal.τ).loc Cert.Out1RefIdeal.main_arg2) = m' ((c.tc : Thread Cert.Out1RefIdeal.nD Cert.Out1RefIdeal.τ).loc Cert.Out1RefIdeal.main_arg2)
          ∧ r.2.mem ((c.tc : Thread Cert.Out1RefIdeal.nD Cert.Out1RefIdeal.τ).loc Cert.Out1RefIdeal.main_arg3) = m' ((c.tc : Thread Cert.Out1RefIdeal.nD Cert.Out1RefIdeal.τ).loc Cert.Out1RefIdeal.main_arg3)
          ∧ r.2.mem ((c.tc : Thread Cert.Out1RefIdeal.nD Cert.Out1RefIdeal.τ).loc Cert.Out1RefIdeal.main_arg4) = m' ((c.tc : Thread Cert.Out1RefIdeal.nD Cert.Out1RefIdeal.τ).loc Cert.Out1RefIdeal.main_arg4)
          ∧ r.2.mem ((c.tc : Thread Cert.Out1RefIdeal.nD Cert.Out1RefIdeal.τ).loc Cert.Out1RefIdeal.main_arg5) = m' ((c.tc : Thread Cert.Out1RefIdeal.nD Cert.Out1RefIdeal.τ).loc Cert.Out1RefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v19_0)) (v1 : (c : Dev Cert.ProjIdeal.nD) → Buf (Elt Ideal) ((c.tc : Thread Cert.ProjIdeal.nD Cert.ProjIdeal.τ).loc Cert.ProjIdeal.main_v19_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v19_0) = v0 c
          ∧ r.2.mem ((c.tc : Thread Cert.ProjIdeal.nD Cert.ProjIdeal.τ).loc Cert.ProjIdeal.main_v19_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v30) = v0 c
          ∧ r.2.mem ((c.tc : Thread Cert.ProjRefIdeal.nD Cert.ProjRefIdeal.τ).loc Cert.ProjRefIdeal.main_v31) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)
      ∧ m' ((c.tc : Thread Cert.OddRefIdeal.nD Cert.OddRefIdeal.τ).loc Cert.OddRefIdeal.main_arg3) = m ((c.tc : Thread Cert.OddIdeal.nD Cert.OddIdeal.τ).loc Cert.OddIdeal.main_arg3)) →
    ∃ (v0 : (c : Dev Cert.OddIdeal.nD) → Buf (Elt Ideal) ((c.tc : Thread Cert.OddIdeal.nD Cert.OddIdeal.τ).loc Cert.OddIdeal.main_v29_0)) (v1 : (c : Dev Cert.OddIdeal.nD) → Buf (Elt Ideal) ((c.tc : Thread Cert.OddIdeal.nD Cert.OddIdeal.τ).loc Cert.OddIdeal.main_v29_1)) (v2 : (c : Dev Cert.OddIdeal.nD) → Buf (Elt Ideal) ((c.tc : Thread Cert.OddIdeal.nD Cert.OddIdeal.τ).loc Cert.OddIdeal.main_v29_2)) (v3 : (c : Dev Cert.OddIdeal.nD) → Buf (Elt Ideal) ((c.tc : Thread Cert.OddIdeal.nD Cert.OddIdeal.τ).loc Cert.OddIdeal.main_v29_3)) (v4 : (c : Dev Cert.OddIdeal.nD) → Buf (Elt Ideal) ((c.tc : Thread Cert.OddIdeal.nD Cert.OddIdeal.τ).loc Cert.OddIdeal.main_v29_4)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v29_0) = v0 c
          ∧ r.2.mem ((c.tc : Thread Cert.OddIdeal.nD Cert.OddIdeal.τ).loc Cert.OddIdeal.main_v29_1) = v1 c
          ∧ r.2.mem ((c.tc : Thread Cert.OddIdeal.nD Cert.OddIdeal.τ).loc Cert.OddIdeal.main_v29_2) = v2 c
          ∧ r.2.mem ((c.tc : Thread Cert.OddIdeal.nD Cert.OddIdeal.τ).loc Cert.OddIdeal.main_v29_3) = v3 c
          ∧ r.2.mem ((c.tc : Thread Cert.OddIdeal.nD Cert.OddIdeal.τ).loc Cert.OddIdeal.main_v29_4) = v4 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v49) = v0 c
          ∧ r.2.mem ((c.tc : Thread Cert.OddRefIdeal.nD Cert.OddRefIdeal.τ).loc Cert.OddRefIdeal.main_v50) = v1 c
          ∧ r.2.mem ((c.tc : Thread Cert.OddRefIdeal.nD Cert.OddRefIdeal.τ).loc Cert.OddRefIdeal.main_v51) = v2 c
          ∧ r.2.mem ((c.tc : Thread Cert.OddRefIdeal.nD Cert.OddRefIdeal.τ).loc Cert.OddRefIdeal.main_v52) = v3 c
          ∧ r.2.mem ((c.tc : Thread Cert.OddRefIdeal.nD Cert.OddRefIdeal.τ).loc Cert.OddRefIdeal.main_v46) = v4 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3))

def Claim : Prop :=
  ∃ (hKernel : Cert.Kernel.Facts) (hKernelIdeal : Cert.KernelIdeal.Facts) (hReferenceIdeal : Cert.ReferenceIdeal.Facts) (hOut0 : Cert.Out0.Facts) (hOut0Ideal : Cert.Out0Ideal.Facts) (hOut0RefIdeal : Cert.Out0RefIdeal.Facts) (hOut1 : Cert.Out1.Facts) (hOut1Ideal : Cert.Out1Ideal.Facts) (hOut1RefIdeal : Cert.Out1RefIdeal.Facts) (hProj : Cert.Proj.Facts) (hProjIdeal : Cert.ProjIdeal.Facts) (hProjRefIdeal : Cert.ProjRefIdeal.Facts) (hOdd : Cert.Odd.Facts) (hOddIdeal : Cert.OddIdeal.Facts) (hOddRefIdeal : Cert.OddRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Out0 (hOut0 := hOut0)
    ∧ quiescent_Out0Ideal (hOut0Ideal := hOut0Ideal)
    ∧ quiescent_Out0RefIdeal (hOut0RefIdeal := hOut0RefIdeal)
    ∧ quiescent_Out1 (hOut1 := hOut1)
    ∧ quiescent_Out1Ideal (hOut1Ideal := hOut1Ideal)
    ∧ quiescent_Out1RefIdeal (hOut1RefIdeal := hOut1RefIdeal)
    ∧ quiescent_Proj (hProj := hProj)
    ∧ quiescent_ProjIdeal (hProjIdeal := hProjIdeal)
    ∧ quiescent_ProjRefIdeal (hProjRefIdeal := hProjRefIdeal)
    ∧ quiescent_Odd (hOdd := hOdd)
    ∧ quiescent_OddIdeal (hOddIdeal := hOddIdeal)
    ∧ quiescent_OddRefIdeal (hOddRefIdeal := hOddRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Out0_Out0Ideal
    ∧ algebraic_Out0Ideal_Out0RefIdeal (hOut0Ideal := hOut0Ideal) (hOut0RefIdeal := hOut0RefIdeal)
    ∧ preserves_Out1_Out1Ideal
    ∧ algebraic_Out1Ideal_Out1RefIdeal (hOut1Ideal := hOut1Ideal) (hOut1RefIdeal := hOut1RefIdeal)
    ∧ preserves_Proj_ProjIdeal
    ∧ algebraic_ProjIdeal_ProjRefIdeal (hProjIdeal := hProjIdeal) (hProjRefIdeal := hProjRefIdeal)
    ∧ preserves_Odd_OddIdeal
    ∧ algebraic_OddIdeal_OddRefIdeal (hOddIdeal := hOddIdeal) (hOddRefIdeal := hOddRefIdeal)
-- ==== Pre_finite.lean ====
abbrev S4x8192x8x64 : Shape := ⟨4, ![4, 8192, 8, 64]⟩
abbrev S4x8192x8 : Shape := ⟨3, ![4, 8192, 8]⟩
abbrev S_ : Shape := ⟨0, ![]⟩

class Facts : Prop where
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  h_S_ : 0 < S_.numel
  bcast_S_S4x8192x8 : S_.BroadcastsInDim S4x8192x8 (![] : Fin 0 → Fin S4x8192x8.rank)
  reducesTo_S4x8192x8_S_d0_1_2 : S4x8192x8.ReducesTo [0, 1, 2] S_

variable [Facts]

def fn {F : FTy → Type} [FloatOps F] (main_arg0 : FVec F S4x8192x8x64 .f32) (main_arg1 : FVec F S4x8192x8x64 .f32) (main_arg2 : FVec F S4x8192x8x64 .f32) (main_arg3 : FVec F S4x8192x8 .f32) : IVec S_ 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_c : IVec S_ 1 := constantI S_ 1 1#1
  let main_v3 : IVec S_ 1 := (fun x v => Host.reduce IntOp.andi x v reducesTo_S4x8192x8x64_S_d0_1_2_3 h_S_) main_v2 main_c
  let main_v4 : FVec F S4x8192x8x64 .f32 := Host.absf main_arg1
  let main_cst_0 : FVec F S_ .f32 := constant S_ .f32 0x7F800000#32
  let main_v5 : FVec F S4x8192x8x64 .f32 := broadcastInDim S4x8192x8x64 ![] bcast_S_S4x8192x8x64 main_cst_0
  let main_v6 : IVec S4x8192x8x64 1 := cmpf .olt main_v4 main_v5
  let main_c_1 : IVec S_ 1 := constantI S_ 1 1#1
  let main_v7 : IVec S_ 1 := (fun x v => Host.reduce IntOp.andi x v reducesTo_S4x8192x8x64_S_d0_1_2_3 h_S_) main_v6 main_c_1
  let main_v8 : IVec S_ 1 := andi main_v3 main_v7
  let main_v9 : FVec F S4x8192x8 .f32 := Host.absf main_arg3
  let main_cst_2 : FVec F S_ .f32 := constant S_ .f32 0x7F800000#32
  let main_v10 : FVec F S4x8192x8 .f32 := broadcastInDim S4x8192x8 ![] bcast_S_S4x8192x8 main_cst_2
  let main_v11 : IVec S4x8192x8 1 := cmpf .olt main_v9 main_v10
  let main_c_3 : IVec S_ 1 := constantI S_ 1 1#1
  let main_v12 : IVec S_ 1 := (fun x v => Host.reduce IntOp.andi x v reducesTo_S4x8192x8_S_d0_1_2 h_S_) main_v11 main_c_3
  let main_v13 : IVec S_ 1 := andi main_v8 main_v12
  main_v13
-- ==== Kernel.lean ====
abbrev S4x8192x8x64 : Shape := ⟨4, ![4, 8192, 8, 64]⟩
abbrev S4x8192x8 : Shape := ⟨3, ![4, 8192, 8]⟩
abbrev S_ : Shape := ⟨0, ![]⟩
abbrev S4x8192x512 : Shape := ⟨3, ![4, 8192, 512]⟩
abbrev S4x8192x1024 : Shape := ⟨3, ![4, 8192, 1024]⟩
abbrev S4x1024x8192 : Shape := ⟨3, ![4, 1024, 8192]⟩
abbrev S4x8192x4x2 : Shape := ⟨4, ![4, 8192, 4, 2]⟩
abbrev S4x4x8192x2 : Shape := ⟨4, ![4, 4, 8192, 2]⟩
abbrev S4x4x8192x128 : Shape := ⟨4, ![4, 4, 8192, 128]⟩
abbrev S4x4x8192x1 : Shape := ⟨4, ![4, 4, 8192, 1]⟩
abbrev S4x4x2x16x8192 : Shape := ⟨5, ![4, 4, 2, 16, 8192]⟩
abbrev S4x4x2x8192 : Shape := ⟨4, ![4, 4, 2, 8192]⟩
abbrev S4x4x2x1x8192 : Shape := ⟨5, ![4, 4, 2, 1, 8192]⟩
abbrev S512x512 : Shape := ⟨2, ![512, 512]⟩
abbrev S1x128x512 : Shape := ⟨3, ![1, 128, 512]⟩
abbrev S1x1x2x16x512 : Shape := ⟨5, ![1, 1, 2, 16, 512]⟩
abbrev S1x8192x128 : Shape := ⟨3, ![1, 8192, 128]⟩
abbrev S1x1x8192x128 : Shape := ⟨4, ![1, 1, 8192, 128]⟩
abbrev S1x128x8192 : Shape := ⟨3, ![1, 128, 8192]⟩
abbrev S1x512x128 : Shape := ⟨3, ![1, 512, 128]⟩
abbrev S256x1024 : Shape := ⟨2, ![256, 1024]⟩
abbrev S512x1024 : Shape := ⟨2, ![512, 1024]⟩
abbrev S2x1x1024 : Shape := ⟨3, ![2, 1, 1024]⟩
abbrev S2x80x512 : Shape := ⟨3, ![2, 80, 512]⟩
abbrev S1x64x512 : Shape := ⟨3, ![1, 64, 512]⟩
abbrev S64x512 : Shape := ⟨2, ![64, 512]⟩
abbrev S1x1x1x16x512 : Shape := ⟨5, ![1, 1, 1, 16, 512]⟩
abbrev S16x512 : Shape := ⟨2, ![16, 512]⟩
abbrev S512x128 : Shape := ⟨2, ![512, 128]⟩
abbrev S1x1x512x128 : Shape := ⟨4, ![1, 1, 512, 128]⟩
abbrev S512x256 : Shape := ⟨2, ![512, 256]⟩
abbrev S256x512 : Shape := ⟨2, ![256, 512]⟩
abbrev S512 : Shape := ⟨1, ![512]⟩
abbrev S1x512 : Shape := ⟨2, ![1, 512]⟩
abbrev S1x1x512 : Shape := ⟨3, ![1, 1, 512]⟩
abbrev S80x512 : Shape := ⟨2, ![80, 512]⟩
abbrev S1x80x512 : Shape := ⟨3, ![1, 80, 512]⟩
abbrev S64x256 : Shape := ⟨2, ![64, 256]⟩
abbrev S16x256 : Shape := ⟨2, ![16, 256]⟩
abbrev S80x256 : Shape := ⟨2, ![80, 256]⟩
abbrev S1x256 : Shape := ⟨2, ![1, 256]⟩
abbrev S256x256 : Shape := ⟨2, ![256, 256]⟩
abbrev S256 : Shape := ⟨1, ![256]⟩
abbrev S1x80x256 : Shape := ⟨3, ![1, 80, 256]⟩
abbrev S128x512 : Shape := ⟨2, ![128, 512]⟩

abbrev nBuf : Space → Nat
  | .hbm => 137
  | .vmem => 18
  | .smem => 0
  | _ => 0

abbrev hbmTy0_0 (i : Nat) : BufTy := match i % 128 with
  | 0 => ⟨S4x8192x8x64, .f32⟩
  | 1 => ⟨S4x8192x8x64, .f32⟩
  | 2 => ⟨S4x8192x8x64, .f32⟩
  | 3 => ⟨S4x8192x8, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S4x8192x512, .f32⟩
  | 11 => ⟨S4x8192x512, .f32⟩
  | 12 => ⟨S4x8192x512, .f32⟩
  | 13 => ⟨S4x8192x512, .f32⟩
  | 14 => ⟨S4x8192x1024, .f32⟩
  | 15 => ⟨S4x1024x8192, .f32⟩
  | 16 => ⟨S4x1024x8192, .bf16⟩
  | 17 => ⟨S4x8192x512, .f32⟩
  | 18 => ⟨S4x8192x512, .bf16⟩
  | 19 => ⟨S_, .f32⟩
  | 20 => ⟨S_, .f32⟩
  | 21 => ⟨S_, .f32⟩
  | 22 => ⟨S_, .f32⟩
  | 23 => ⟨S4x8192x8, .f32⟩
  | 24 => ⟨S4x8192x8, .f32⟩
  | 25 => ⟨S4x8192x8, .bf16⟩
  | 26 => ⟨S4x8192x8, .f32⟩
  | 27 => ⟨S4x8192x8, .f32⟩
  | 28 => ⟨S4x8192x8, .bf16⟩
  | 29 => ⟨S4x8192x8, .f32⟩
  | 30 => ⟨S4x8192x8, .f32⟩
  | 31 => ⟨S4x8192x8, .bf16⟩
  | 32 => ⟨S4x8192x8, .f32⟩
  | 33 => ⟨S4x8192x4x2, .f32⟩
  | 34 => ⟨S4x4x8192x2, .f32⟩
  | 35 => ⟨S4x8192x4x2, .f32⟩
  | 36 => ⟨S4x4x8192x2, .f32⟩
  | 37 => ⟨S4x8192x4x2, .f32⟩
  | 38 => ⟨S4x4x8192x2, .f32⟩
  | 39 => ⟨S4x4x8192x128, .i32⟩
  | 40 => ⟨S_, .i32⟩
  | 41 => ⟨S4x4x8192x128, .i32⟩
  | 42 => ⟨S4x4x8192x128, .i1⟩
  | 43 => ⟨S_, .f32⟩
  | 44 => ⟨S_, .f32⟩
  | 45 => ⟨S4x4x8192x128, .f32⟩
  | 46 => ⟨S4x4x8192x128, .f32⟩
  | 47 => ⟨S4x4x8192x128, .f32⟩
  | 48 => ⟨S4x4x8192x1, .f32⟩
  | 49 => ⟨S4x4x8192x1, .f32⟩
  | 50 => ⟨S4x4x8192x1, .f32⟩
  | 51 => ⟨S4x4x8192x1, .f32⟩
  | 52 => ⟨S4x4x8192x1, .f32⟩
  | 53 => ⟨S4x4x8192x1, .f32⟩
  | 54 => ⟨S_, .i32⟩
  | 55 => ⟨S4x4x8192x128, .i32⟩
  | 56 => ⟨S4x4x8192x128, .i1⟩
  | 57 => ⟨S4x4x8192x128, .f32⟩
  | 58 => ⟨S4x4x8192x128, .f32⟩
  | 59 => ⟨S4x4x8192x128, .f32⟩
  | 60 => ⟨S_, .i32⟩
  | 61 => ⟨S4x4x8192x128, .i32⟩
  | 62 => ⟨S4x4x8192x128, .i1⟩
  | 63 => ⟨S4x4x8192x128, .f32⟩
  | 64 => ⟨S4x4x8192x128, .f32⟩
  | 65 => ⟨S_, .i32⟩
  | 66 => ⟨S4x4x8192x128, .i32⟩
  | 67 => ⟨S4x4x8192x128, .i1⟩
  | 68 => ⟨S4x4x8192x128, .f32⟩
  | 69 => ⟨S4x4x8192x128, .f32⟩
  | 70 => ⟨S_, .i32⟩
  | 71 => ⟨S4x4x8192x128, .i32⟩
  | 72 => ⟨S4x4x8192x128, .i1⟩
  | 73 => ⟨S4x4x8192x128, .f32⟩
  | 74 => ⟨S4x4x8192x128, .f32⟩
  | 75 => ⟨S_, .i32⟩
  | 76 => ⟨S4x4x8192x128, .i32⟩
  | 77 => ⟨S4x4x8192x128, .i1⟩
  | 78 => ⟨S4x4x8192x128, .f32⟩
  | 79 => ⟨S4x4x8192x128, .f32⟩
  | 80 => ⟨S_, .i32⟩
  | 81 => ⟨S4x4x8192x128, .i32⟩
  | 82 => ⟨S4x4x8192x128, .i1⟩
  | 83 => ⟨S4x4x8192x128, .f32⟩
  | 84 => ⟨S4x4x8192x128, .f32⟩
  | 85 => ⟨S4x4x2x16x8192, .i32⟩
  | 86 => ⟨S4x4x2x16x8192, .i32⟩
  | 87 => ⟨S_, .i32⟩
  | 88 => ⟨S4x4x2x16x8192, .i32⟩
  | 89 => ⟨S4x4x2x16x8192, .i32⟩
  | 90 => ⟨S4x4x2x16x8192, .i1⟩
  | 91 => ⟨S_, .i32⟩
  | 92 => ⟨S4x4x2x16x8192, .i32⟩
  | 93 => ⟨S4x4x2x16x8192, .i32⟩
  | 94 => ⟨S_, .i32⟩
  | 95 => ⟨S4x4x2x16x8192, .i32⟩
  | 96 => ⟨S4x4x2x16x8192, .i32⟩
  | 97 => ⟨S4x4x2x16x8192, .i1⟩
  | 98 => ⟨S4x4x2x16x8192, .i1⟩
  | 99 => ⟨S_, .f32⟩
  | 100 => ⟨S_, .f32⟩
  | 101 => ⟨S4x4x2x16x8192, .f32⟩
  | 102 => ⟨S4x4x2x16x8192, .f32⟩
  | 103 => ⟨S4x4x2x16x8192, .f32⟩
  | 104 => ⟨S_, .i32⟩
  | 105 => ⟨S4x4x2x16x8192, .i32⟩
  | 106 => ⟨S4x4x2x16x8192, .i1⟩
  | 107 => ⟨S4x4x2x8192, .f32⟩
  | 108 => ⟨S4x4x2x1x8192, .f32⟩
  | 109 => ⟨S4x4x2x16x8192, .f32⟩
  | 110 => ⟨S4x4x2x16x8192, .f32⟩
  | 111 => ⟨S4x4x2x16x8192, .f32⟩
  | 112 => ⟨S_, .i32⟩
  | 113 => ⟨S4x4x2x16x8192, .i32⟩
  | 114 => ⟨S4x4x2x16x8192, .i1⟩
  | 115 => ⟨S4x4x2x8192, .f32⟩
  | 116 => ⟨S4x4x2x1x8192, .f32⟩
  | 117 => ⟨S4x4x2x16x8192, .f32⟩
  | 118 => ⟨S4x4x2x16x8192, .f32⟩
  | 119 => ⟨S_, .i32⟩
  | 120 => ⟨S4x4x2x16x8192, .i32⟩
  | 121 => ⟨S4x4x2x16x8192, .i1⟩
  | 122 => ⟨S4x4x2x8192, .f32⟩
  | 123 => ⟨S4x4x2x1x8192, .f32⟩
  | 124 => ⟨S4x4x2x16x8192, .f32⟩
  | 125 => ⟨S4x4x2x16x8192, .f32⟩
  | 126 => ⟨S4x4x8192x128, .bf16⟩
  | 127 => ⟨S4x4x2x16x8192, .bf16⟩
  | _ => ⟨S4x8192x8x64, .f32⟩

abbrev hbmTy0_1 (i : Nat) : BufTy := match i % 128 with
  | 0 => ⟨S512x512, .i32⟩
  | 1 => ⟨S512x512, .i32⟩
  | 2 => ⟨S512x512, .i1⟩
  | 3 => ⟨S_, .f32⟩
  | 4 => ⟨S_, .f32⟩
  | 5 => ⟨S512x512, .f32⟩
  | 6 => ⟨S512x512, .f32⟩
  | 7 => ⟨S512x512, .f32⟩
  | 8 => ⟨S4x8192x512, .bf16⟩
  | _ => ⟨S4x8192x8x64, .f32⟩

abbrev hbmTy (i : Nat) : BufTy := match i / 128 with
  | 0 => hbmTy0_0 i
  | 1 => hbmTy0_1 i
  | _ => ⟨S4x8192x8x64, .f32⟩

abbrev bufTy : (tb : Table) → Fin (tcTables nBuf tb) → BufTy
  | .hbm, ⟨i, _⟩ => hbmTy i
  | .local _ .vmem, ⟨0, _⟩ => ⟨S1x128x512, .bf16⟩
  | .local _ .vmem, ⟨1, _⟩ => ⟨S1x128x512, .bf16⟩
  | .local _ .vmem, ⟨2, _⟩ => ⟨S1x1x2x16x512, .bf16⟩
  | .local _ .vmem, ⟨3, _⟩ => ⟨S1x1x2x16x512, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1x8192x128, .bf16⟩
  | .local _ .vmem, ⟨7, _⟩ => ⟨S1x1x8192x128, .bf16⟩
  | .local _ .vmem, ⟨8, _⟩ => ⟨S1x128x8192, .bf16⟩
  | .local _ .vmem, ⟨9, _⟩ => ⟨S1x128x8192, .bf16⟩
  | .local _ .vmem, ⟨10, _⟩ => ⟨S512x512, .f32⟩
  | .local _ .vmem, ⟨11, _⟩ => ⟨S1x512x128, .bf16⟩
  | .local _ .vmem, ⟨12, _⟩ => ⟨S1x512x128, .bf16⟩
  | .local _ .vmem, ⟨13, _⟩ => ⟨S256x1024, .bf16⟩
  | .local _ .vmem, ⟨14, _⟩ => ⟨S512x1024, .f32⟩
  | .local _ .vmem, ⟨15, _⟩ => ⟨S512x1024, .f32⟩
  | .local _ .vmem, ⟨16, _⟩ => ⟨S2x1x1024, .f32⟩
  | .local _ .vmem, ⟨17, _⟩ => ⟨S2x80x512, .f32⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_call1_v0 : Ref sig .tc := ⟨.hbm, 57, rfl⟩
abbrev main_call1_v1 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_call2_v0 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_call3_v0 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_call4_v0 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_call5_v0 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_call6_v0 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_cst_16 : Ref sig .tc := ⟨.hbm, 100, rfl⟩
abbrev main_call7_v0 : Ref sig .tc := ⟨.hbm, 101, rfl⟩
abbrev main_call7_v1 : Ref sig .tc := ⟨.hbm, 102, rfl⟩
abbrev main_v69 : Ref sig .tc := ⟨.hbm, 103, rfl⟩
abbrev main_c_17 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_call8_v0 : Ref sig .tc := ⟨.hbm, 109, rfl⟩
abbrev main_call8_v1 : Ref sig .tc := ⟨.hbm, 110, rfl⟩
abbrev main_v74 : Ref sig .tc := ⟨.hbm, 111, rfl⟩
abbrev main_c_18 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_call9_v0 : Ref sig .tc := ⟨.hbm, 117, rfl⟩
abbrev main_v79 : Ref sig .tc := ⟨.hbm, 118, rfl⟩
abbrev main_c_19 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_call10_v0 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_20 : Ref sig .tc := ⟨.hbm, 131, rfl⟩
abbrev main_cst_21 : Ref sig .tc := ⟨.hbm, 132, rfl⟩
abbrev main_call11_v0 : Ref sig .tc := ⟨.hbm, 133, rfl⟩
abbrev main_call11_v1 : Ref sig .tc := ⟨.hbm, 134, rfl⟩
abbrev main_v90 : Ref sig .tc := ⟨.hbm, 135, rfl⟩
abbrev main_v91 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 4, 16], ![false, false, false]⟩

def k0_mult1 : BitVec 32 :=
  let c0_i32_31 : BitVec 32 := 0#32
  c0_i32_31
def k0_mult2 : BitVec 32 :=
  let c0_i32_46 : BitVec 32 := 0#32
  c0_i32_46
@[reducible] def k0_t1_loop (i : grid0.Coords) : Scf.Loop 32 :=
  let c0_i32_68 : BitVec 32 := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c0_i32_62 : BitVec 32 := 0#32
  let v85 : BitVec 1 := Scalar.cmpi .sgt v41 c0_i32_62
  let v86 : BitVec 32 := Scalar.extui v85
  let c0_i32_63 : BitVec 32 := 0#32
  let v87 : BitVec 1 := Scalar.cmpi .slt v41 c0_i32_63
  let v88 : BitVec 32 := Scalar.extui v87
  let v89 : BitVec 32 := Scalar.subi v86 v88
  let c2_i32 : BitVec 32 := 2#32
  let c0_i32_64 : BitVec 32 := 0#32
  let v90 : BitVec 1 := Scalar.cmpi .sgt c2_i32 c0_i32_64
  let v91 : BitVec 32 := Scalar.extui v90
  let c0_i32_65 : BitVec 32 := 0#32
  let v92 : BitVec 1 := Scalar.cmpi .slt c2_i32 c0_i32_65
  let v93 : BitVec 32 := Scalar.extui v92
  let v94 : BitVec 32 := Scalar.subi v91 v93
  let v95 : BitVec 1 := Scalar.cmpi .ne v89 v94
  let v96 : BitVec 32 := Scalar.remsi v41 c2_i32
  let c0_i32_66 : BitVec 32 := 0#32
  let v97 : BitVec 1 := Scalar.cmpi .ne v96 c0_i32_66
  let v98 : BitVec 1 := Scalar.andi v95 v97
  let v84 : BitVec 32 := Scalar.divsi v41 c2_i32
  let c1_i32_67 : BitVec 32 := 1#32
  let v99 : BitVec 32 := Scalar.subi v84 c1_i32_67
  let v100 : BitVec 32 := Scalar.select v98 v99 v84
  let v101 : BitVec 32 := Scalar.subi v100 c0_i32_68
  let c1_i32_69 : BitVec 32 := 1#32
  let v103 : BitVec 32 := Scalar.divsi v101 c1_i32_69
  let v104 : BitVec 32 := Scalar.muli v103 c1_i32_69
  let v105 : BitVec 32 := Scalar.addi c0_i32_68 v104
  let c1_i32_70 : BitVec 32 := 1#32
  ⟨c0_i32_68, v105, c1_i32_70⟩
def k0_mult3 (i : grid0.Coords) (k0_t1 : Fin (k0_t1_loop i).trips) : BitVec 32 :=
  let c2_i32_92 : BitVec 32 := 2#32
  let c0_i32_68 : BitVec 32 := 0#32
  let c1_i32_70 : BitVec 32 := 1#32
  let arg15 : BitVec 32 := Scf.iv c0_i32_68 c1_i32_70 k0_t1
  let v144 : BitVec 32 := Scalar.muli c2_i32_92 arg15
  let c1_i32_93 : BitVec 32 := 1#32
  let v145 : BitVec 32 := Scalar.addi v144 c1_i32_93
  let c512_i32_96 : BitVec 32 := 512#32
  let v148 : BitVec 32 := Scalar.muli v145 c512_i32_96
  v148
def k0_off1 (i : grid0.Coords) (k0_t1 : Fin (k0_t1_loop i).trips) (c1_i32_93 : BitVec 32) : Fin 3 → Nat :=
  let c0_97 : Index := 0#32
  let c2_i32_92 : BitVec 32 := 2#32
  let c0_i32_68 : BitVec 32 := 0#32
  let c1_i32_70 : BitVec 32 := 1#32
  let arg15 : BitVec 32 := Scf.iv c0_i32_68 c1_i32_70 k0_t1
  let v144 : BitVec 32 := Scalar.muli c2_i32_92 arg15
  let v145 : BitVec 32 := Scalar.addi v144 c1_i32_93
  let c512_i32_96 : BitVec 32 := 512#32
  let v148 : BitVec 32 := Scalar.muli v145 c512_i32_96
  let v149 : BitVec 32 := v148
  let v150 : Index := Scalar.indexCast v149
  let c0_98 : Index := 0#32
  ![0, v150.toNat, 0]
def k0_off2 (i : grid0.Coords) (k0_t1 : Fin (k0_t1_loop i).trips) (c1_i32_93 : BitVec 32) : Fin 4 → Nat :=
  let c0_99 : Index := 0#32
  let c0_100 : Index := 0#32
  let c2_i32_92 : BitVec 32 := 2#32
  let c0_i32_68 : BitVec 32 := 0#32
  let c1_i32_70 : BitVec 32 := 1#32
  let arg15 : BitVec 32 := Scf.iv c0_i32_68 c1_i32_70 k0_t1
  let v144 : BitVec 32 := Scalar.muli c2_i32_92 arg15
  let v145 : BitVec 32 := Scalar.addi v144 c1_i32_93
  let c512_i32_96 : BitVec 32 := 512#32
  let v148 : BitVec 32 := Scalar.muli v145 c512_i32_96
  let v149 : BitVec 32 := v148
  let v153 : Index := Scalar.indexCast v149
  let c0_101 : Index := 0#32
  ![0, 0, v153.toNat, 0]
def k0_mult4 (i : grid0.Coords) (k0_t1 : Fin (k0_t1_loop i).trips) : BitVec 32 :=
  let c2_i32_91 : BitVec 32 := 2#32
  let c0_i32_68 : BitVec 32 := 0#32
  let c1_i32_70 : BitVec 32 := 1#32
  let arg15 : BitVec 32 := Scf.iv c0_i32_68 c1_i32_70 k0_t1
  let v143 : BitVec 32 := Scalar.muli c2_i32_91 arg15
  let c512_i32_111 : BitVec 32 := 512#32
  let v167 : BitVec 32 := Scalar.muli v143 c512_i32_111
  v167
def k0_off3 (i : grid0.Coords) (k0_t1 : Fin (k0_t1_loop i).trips) : Fin 3 → Nat :=
  let c0_117 : Index := 0#32
  let c0_118 : Index := 0#32
  let c2_i32_91 : BitVec 32 := 2#32
  let c0_i32_68 : BitVec 32 := 0#32
  let c1_i32_70 : BitVec 32 := 1#32
  let arg15 : BitVec 32 := Scf.iv c0_i32_68 c1_i32_70 k0_t1
  let v143 : BitVec 32 := Scalar.muli c2_i32_91 arg15
  let c512_i32_111 : BitVec 32 := 512#32
  let v167 : BitVec 32 := Scalar.muli v143 c512_i32_111
  let v168 : BitVec 32 := v167
  let v179 : Index := Scalar.indexCast v168
  ![0, 0, v179.toNat]
def k0_mult5 (i : grid0.Coords) (k0_t1 : Fin (k0_t1_loop i).trips) : BitVec 32 :=
  let c2_i32_92 : BitVec 32 := 2#32
  let c0_i32_68 : BitVec 32 := 0#32
  let c1_i32_70 : BitVec 32 := 1#32
  let arg15 : BitVec 32 := Scf.iv c0_i32_68 c1_i32_70 k0_t1
  let v144 : BitVec 32 := Scalar.muli c2_i32_92 arg15
  let c1_i32_93 : BitVec 32 := 1#32
  let v145 : BitVec 32 := Scalar.addi v144 c1_i32_93
  let c512_i32_126 : BitVec 32 := 512#32
  let v192 : BitVec 32 := Scalar.muli v145 c512_i32_126
  v192
def k0_mult6 (i : grid0.Coords) (k0_t1 : Fin (k0_t1_loop i).trips) : BitVec 32 :=
  let c2_i32_91 : BitVec 32 := 2#32
  let c0_i32_68 : BitVec 32 := 0#32
  let c1_i32_70 : BitVec 32 := 1#32
  let arg15 : BitVec 32 := Scf.iv c0_i32_68 c1_i32_70 k0_t1
  let v143 : BitVec 32 := Scalar.muli c2_i32_91 arg15
  let c512_i32_141 : BitVec 32 := 512#32
  let v211 : BitVec 32 := Scalar.muli v143 c512_i32_141
  v211
def k0_off4 (i : grid0.Coords) (k0_t1 : Fin (k0_t1_loop i).trips) : Fin 3 → Nat :=
  let c0_147 : Index := 0#32
  let c64_148 : Index := 64#32
  let c2_i32_91 : BitVec 32 := 2#32
  let c0_i32_68 : BitVec 32 := 0#32
  let c1_i32_70 : BitVec 32 := 1#32
  let arg15 : BitVec 32 := Scf.iv c0_i32_68 c1_i32_70 k0_t1
  let v143 : BitVec 32 := Scalar.muli c2_i32_91 arg15
  let c512_i32_141 : BitVec 32 := 512#32
  let v211 : BitVec 32 := Scalar.muli v143 c512_i32_141
  let v212 : BitVec 32 := v211
  let v223 : Index := Scalar.indexCast v212
  ![0, 64, v223.toNat]
def k0_mult7 (i : grid0.Coords) (k0_t1 : Fin (k0_t1_loop i).trips) : BitVec 32 :=
  let c2_i32_94 : BitVec 32 := 2#32
  let c0_i32_68 : BitVec 32 := 0#32
  let c1_i32_70 : BitVec 32 := 1#32
  let arg15 : BitVec 32 := Scf.iv c0_i32_68 c1_i32_70 k0_t1
  let v146 : BitVec 32 := Scalar.muli c2_i32_94 arg15
  let c2_i32_95 : BitVec 32 := 2#32
  let v147 : BitVec 32 := Scalar.addi v146 c2_i32_95
  let c512_i32_156 : BitVec 32 := 512#32
  let v236 : BitVec 32 := Scalar.muli v147 c512_i32_156
  v236
def k0_mult8 (i : grid0.Coords) (k0_t1 : Fin (k0_t1_loop i).trips) : BitVec 32 :=
  let c2_i32_92 : BitVec 32 := 2#32
  let c0_i32_68 : BitVec 32 := 0#32
  let c1_i32_70 : BitVec 32 := 1#32
  let arg15 : BitVec 32 := Scf.iv c0_i32_68 c1_i32_70 k0_t1
  let v144 : BitVec 32 := Scalar.muli c2_i32_92 arg15
  let c1_i32_93 : BitVec 32 := 1#32
  let v145 : BitVec 32 := Scalar.addi v144 c1_i32_93
  let c512_i32_171 : BitVec 32 := 512#32
  let v255 : BitVec 32 := Scalar.muli v145 c512_i32_171
  v255
def k0_off5 (i : grid0.Coords) (k0_t1 : Fin (k0_t1_loop i).trips) : Fin 3 → Nat :=
  let c0_177 : Index := 0#32
  let c0_178 : Index := 0#32
  let c2_i32_92 : BitVec 32 := 2#32
  let c0_i32_68 : BitVec 32 := 0#32
  let c1_i32_70 : BitVec 32 := 1#32
  let arg15 : BitVec 32 := Scf.iv c0_i32_68 c1_i32_70 k0_t1
  let v144 : BitVec 32 := Scalar.muli c2_i32_92 arg15
  let c1_i32_93 : BitVec 32 := 1#32
  let v145 : BitVec 32 := Scalar.addi v144 c1_i32_93
  let c512_i32_171 : BitVec 32 := 512#32
  let v255 : BitVec 32 := Scalar.muli v145 c512_i32_171
  let v256 : BitVec 32 := v255
  let v267 : Index := Scalar.indexCast v256
  ![0, 0, v267.toNat]
def k0_mult9 (i : grid0.Coords) (k0_t1 : Fin (k0_t1_loop i).trips) : BitVec 32 :=
  let c2_i32_94 : BitVec 32 := 2#32
  let c0_i32_68 : BitVec 32 := 0#32
  let c1_i32_70 : BitVec 32 := 1#32
  let arg15 : BitVec 32 := Scf.iv c0_i32_68 c1_i32_70 k0_t1
  let v146 : BitVec 32 := Scalar.muli c2_i32_94 arg15
  let c2_i32_95 : BitVec 32 := 2#32
  let v147 : BitVec 32 := Scalar.addi v146 c2_i32_95
  let c512_i32_186 : BitVec 32 := 512#32
  let v280 : BitVec 32 := Scalar.muli v147 c512_i32_186
  v280
def k0_mult10 (i : grid0.Coords) (k0_t1 : Fin (k0_t1_loop i).trips) : BitVec 32 :=
  let c2_i32_92 : BitVec 32 := 2#32
  let c0_i32_68 : BitVec 32 := 0#32
  let c1_i32_70 : BitVec 32 := 1#32
  let arg15 : BitVec 32 := Scf.iv c0_i32_68 c1_i32_70 k0_t1
  let v144 : BitVec 32 := Scalar.muli c2_i32_92 arg15
  let c1_i32_93 : BitVec 32 := 1#32
  let v145 : BitVec 32 := Scalar.addi v144 c1_i32_93
  let c512_i32_201 : BitVec 32 := 512#32
  let v299 : BitVec 32 := Scalar.muli v145 c512_i32_201
  v299
def k0_off6 (i : grid0.Coords) (k0_t1 : Fin (k0_t1_loop i).trips) : Fin 3 → Nat :=
  let c0_207 : Index := 0#32
  let c64_208 : Index := 64#32
  let c2_i32_92 : BitVec 32 := 2#32
  let c0_i32_68 : BitVec 32 := 0#32
  let c1_i32_70 : BitVec 32 := 1#32
  let arg15 : BitVec 32 := Scf.iv c0_i32_68 c1_i32_70 k0_t1
  let v144 : BitVec 32 := Scalar.muli c2_i32_92 arg15
  let c1_i32_93 : BitVec 32 := 1#32
  let v145 : BitVec 32 := Scalar.addi v144 c1_i32_93
  let c512_i32_201 : BitVec 32 := 512#32
  let v299 : BitVec 32 := Scalar.muli v145 c512_i32_201
  let v300 : BitVec 32 := v299
  let v311 : Index := Scalar.indexCast v300
  ![0, 64, v311.toNat]
@[reducible] def k0_t2_loop (i : grid0.Coords) : Scf.Loop 32 :=
  let c0_i32_68 : BitVec 32 := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c0_i32_62 : BitVec 32 := 0#32
  let v85 : BitVec 1 := Scalar.cmpi .sgt v41 c0_i32_62
  let v86 : BitVec 32 := Scalar.extui v85
  let c0_i32_63 : BitVec 32 := 0#32
  let v87 : BitVec 1 := Scalar.cmpi .slt v41 c0_i32_63
  let v88 : BitVec 32 := Scalar.extui v87
  let v89 : BitVec 32 := Scalar.subi v86 v88
  let c2_i32 : BitVec 32 := 2#32
  let c0_i32_64 : BitVec 32 := 0#32
  let v90 : BitVec 1 := Scalar.cmpi .sgt c2_i32 c0_i32_64
  let v91 : BitVec 32 := Scalar.extui v90
  let c0_i32_65 : BitVec 32 := 0#32
  let v92 : BitVec 1 := Scalar.cmpi .slt c2_i32 c0_i32_65
  let v93 : BitVec 32 := Scalar.extui v92
  let v94 : BitVec 32 := Scalar.subi v91 v93
  let v95 : BitVec 1 := Scalar.cmpi .ne v89 v94
  let v96 : BitVec 32 := Scalar.remsi v41 c2_i32
  let c0_i32_66 : BitVec 32 := 0#32
  let v97 : BitVec 1 := Scalar.cmpi .ne v96 c0_i32_66
  let v98 : BitVec 1 := Scalar.andi v95 v97
  let v84 : BitVec 32 := Scalar.divsi v41 c2_i32
  let c1_i32_67 : BitVec 32 := 1#32
  let v99 : BitVec 32 := Scalar.subi v84 c1_i32_67
  let v100 : BitVec 32 := Scalar.select v98 v99 v84
  let v101 : BitVec 32 := Scalar.subi v100 c0_i32_68
  let c1_i32_69 : BitVec 32 := 1#32
  let v103 : BitVec 32 := Scalar.divsi v101 c1_i32_69
  let v104 : BitVec 32 := Scalar.muli v103 c1_i32_69
  let v105 : BitVec 32 := Scalar.addi c0_i32_68 v104
  let v102 : BitVec 32 := Scalar.addi c0_i32_68 v101
  let c1_i32_71 : BitVec 32 := 1#32
  ⟨v105, v102, c1_i32_71⟩
def k0_mult11 (i : grid0.Coords) (k0_t2 : Fin (k0_t2_loop i).trips) : BitVec 32 :=
  let c2_i32_92 : BitVec 32 := 2#32
  let c0_i32_68 : BitVec 32 := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c0_i32_62 : BitVec 32 := 0#32
  let v85 : BitVec 1 := Scalar.cmpi .sgt v41 c0_i32_62
  let v86 : BitVec 32 := Scalar.extui v85
  let c0_i32_63 : BitVec 32 := 0#32
  let v87 : BitVec 1 := Scalar.cmpi .slt v41 c0_i32_63
  let v88 : BitVec 32 := Scalar.extui v87
  let v89 : BitVec 32 := Scalar.subi v86 v88
  let c2_i32 : BitVec 32 := 2#32
  let c0_i32_64 : BitVec 32 := 0#32
  let v90 : BitVec 1 := Scalar.cmpi .sgt c2_i32 c0_i32_64
  let v91 : BitVec 32 := Scalar.extui v90
  let c0_i32_65 : BitVec 32 := 0#32
  let v92 : BitVec 1 := Scalar.cmpi .slt c2_i32 c0_i32_65
  let v93 : BitVec 32 := Scalar.extui v92
  let v94 : BitVec 32 := Scalar.subi v91 v93
  let v95 : BitVec 1 := Scalar.cmpi .ne v89 v94
  let v96 : BitVec 32 := Scalar.remsi v41 c2_i32
  let c0_i32_66 : BitVec 32 := 0#32
  let v97 : BitVec 1 := Scalar.cmpi .ne v96 c0_i32_66
  let v98 : BitVec 1 := Scalar.andi v95 v97
  let v84 : BitVec 32 := Scalar.divsi v41 c2_i32
  let c1_i32_67 : BitVec 32 := 1#32
  let v99 : BitVec 32 := Scalar.subi v84 c1_i32_67
  let v100 : BitVec 32 := Scalar.select v98 v99 v84
  let v101 : BitVec 32 := Scalar.subi v100 c0_i32_68
  let c1_i32_69 : BitVec 32 := 1#32
  let v103 : BitVec 32 := Scalar.divsi v101 c1_i32_69
  let v104 : BitVec 32 := Scalar.muli v103 c1_i32_69
  let v105 : BitVec 32 := Scalar.addi c0_i32_68 v104
  let c1_i32_71 : BitVec 32 := 1#32
  let arg15 : BitVec 32 := Scf.iv v105 c1_i32_71 k0_t2
  let v144 : BitVec 32 := Scalar.muli c2_i32_92 arg15
  let c1_i32_93 : BitVec 32 := 1#32
  let v145 : BitVec 32 := Scalar.addi v144 c1_i32_93
  let c512_i32_96 : BitVec 32 := 512#32
  let v148 : BitVec 32 := Scalar.muli v145 c512_i32_96
  v148
def k0_off7 (i : grid0.Coords) (k0_t2 : Fin (k0_t2_loop i).trips) (c1_i32_93 : BitVec 32) : Fin 3 → Nat :=
  let c0_97 : Index := 0#32
  let c2_i32_92 : BitVec 32 := 2#32
  let c0_i32_68 : BitVec 32 := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c0_i32_62 : BitVec 32 := 0#32
  let v85 : BitVec 1 := Scalar.cmpi .sgt v41 c0_i32_62
  let v86 : BitVec 32 := Scalar.extui v85
  let c0_i32_63 : BitVec 32 := 0#32
  let v87 : BitVec 1 := Scalar.cmpi .slt v41 c0_i32_63
  let v88 : BitVec 32 := Scalar.extui v87
  let v89 : BitVec 32 := Scalar.subi v86 v88
  let c2_i32 : BitVec 32 := 2#32
  let c0_i32_64 : BitVec 32 := 0#32
  let v90 : BitVec 1 := Scalar.cmpi .sgt c2_i32 c0_i32_64
  let v91 : BitVec 32 := Scalar.extui v90
  let c0_i32_65 : BitVec 32 := 0#32
  let v92 : BitVec 1 := Scalar.cmpi .slt c2_i32 c0_i32_65
  let v93 : BitVec 32 := Scalar.extui v92
  let v94 : BitVec 32 := Scalar.subi v91 v93
  let v95 : BitVec 1 := Scalar.cmpi .ne v89 v94
  let v96 : BitVec 32 := Scalar.remsi v41 c2_i32
  let c0_i32_66 : BitVec 32 := 0#32
  let v97 : BitVec 1 := Scalar.cmpi .ne v96 c0_i32_66
  let v98 : BitVec 1 := Scalar.andi v95 v97
  let v84 : BitVec 32 := Scalar.divsi v41 c2_i32
  let c1_i32_67 : BitVec 32 := 1#32
  let v99 : BitVec 32 := Scalar.subi v84 c1_i32_67
  let v100 : BitVec 32 := Scalar.select v98 v99 v84
  let v101 : BitVec 32 := Scalar.subi v100 c0_i32_68
  let c1_i32_69 : BitVec 32 := 1#32
  let v103 : BitVec 32 := Scalar.divsi v101 c1_i32_69
  let v104 : BitVec 32 := Scalar.muli v103 c1_i32_69
  let v105 : BitVec 32 := Scalar.addi c0_i32_68 v104
  let c1_i32_71 : BitVec 32 := 1#32
  let arg15 : BitVec 32 := Scf.iv v105 c1_i32_71 k0_t2
  let v144 : BitVec 32 := Scalar.muli c2_i32_92 arg15
  let v145 : BitVec 32 := Scalar.addi v144 c1_i32_93
  let c512_i32_96 : BitVec 32 := 512#32
  let v148 : BitVec 32 := Scalar.muli v145 c512_i32_96
  let v149 : BitVec 32 := v148
  let v150 : Index := Scalar.indexCast v149
  let c0_98 : Index := 0#32
  ![0, v150.toNat, 0]
def k0_off8 (i : grid0.Coords) (k0_t2 : Fin (k0_t2_loop i).trips) (c1_i32_93 : BitVec 32) : Fin 4 → Nat :=
  let c0_99 : Index := 0#32
  let c0_100 : Index := 0#32
  let c2_i32_92 : BitVec 32 := 2#32
  let c0_i32_68 : BitVec 32 := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c0_i32_62 : BitVec 32 := 0#32
  let v85 : BitVec 1 := Scalar.cmpi .sgt v41 c0_i32_62
  let v86 : BitVec 32 := Scalar.extui v85
  let c0_i32_63 : BitVec 32 := 0#32
  let v87 : BitVec 1 := Scalar.cmpi .slt v41 c0_i32_63
  let v88 : BitVec 32 := Scalar.extui v87
  let v89 : BitVec 32 := Scalar.subi v86 v88
  let c2_i32 : BitVec 32 := 2#32
  let c0_i32_64 : BitVec 32 := 0#32
  let v90 : BitVec 1 := Scalar.cmpi .sgt c2_i32 c0_i32_64
  let v91 : BitVec 32 := Scalar.extui v90
  let c0_i32_65 : BitVec 32 := 0#32
  let v92 : BitVec 1 := Scalar.cmpi .slt c2_i32 c0_i32_65
  let v93 : BitVec 32 := Scalar.extui v92
  let v94 : BitVec 32 := Scalar.subi v91 v93
  let v95 : BitVec 1 := Scalar.cmpi .ne v89 v94
  let v96 : BitVec 32 := Scalar.remsi v41 c2_i32
  let c0_i32_66 : BitVec 32 := 0#32
  let v97 : BitVec 1 := Scalar.cmpi .ne v96 c0_i32_66
  let v98 : BitVec 1 := Scalar.andi v95 v97
  let v84 : BitVec 32 := Scalar.divsi v41 c2_i32
  let c1_i32_67 : BitVec 32 := 1#32
  let v99 : BitVec 32 := Scalar.subi v84 c1_i32_67
  let v100 : BitVec 32 := Scalar.select v98 v99 v84
  let v101 : BitVec 32 := Scalar.subi v100 c0_i32_68
  let c1_i32_69 : BitVec 32 := 1#32
  let v103 : BitVec 32 := Scalar.divsi v101 c1_i32_69
  let v104 : BitVec 32 := Scalar.muli v103 c1_i32_69
  let v105 : BitVec 32 := Scalar.addi c0_i32_68 v104
  let c1_i32_71 : BitVec 32 := 1#32
  let arg15 : BitVec 32 := Scf.iv v105 c1_i32_71 k0_t2
  let v144 : BitVec 32 := Scalar.muli c2_i32_92 arg15
  let v145 : BitVec 32 := Scalar.addi v144 c1_i32_93
  let c512_i32_96 : BitVec 32 := 512#32
  let v148 : BitVec 32 := Scalar.muli v145 c512_i32_96
  let v149 : BitVec 32 := v148
  let v153 : Index := Scalar.indexCast v149
  let c0_101 : Index := 0#32
  ![0, 0, v153.toNat, 0]
def k0_mult12 (i : grid0.Coords) (k0_t2 : Fin (k0_t2_loop i).trips) : BitVec 32 :=
  let c2_i32_91 : BitVec 32 := 2#32
  let c0_i32_68 : BitVec 32 := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c0_i32_62 : BitVec 32 := 0#32
  let v85 : BitVec 1 := Scalar.cmpi .sgt v41 c0_i32_62
  let v86 : BitVec 32 := Scalar.extui v85
  let c0_i32_63 : BitVec 32 := 0#32
  let v87 : BitVec 1 := Scalar.cmpi .slt v41 c0_i32_63
  let v88 : BitVec 32 := Scalar.extui v87
  let v89 : BitVec 32 := Scalar.subi v86 v88
  let c2_i32 : BitVec 32 := 2#32
  let c0_i32_64 : BitVec 32 := 0#32
  let v90 : BitVec 1 := Scalar.cmpi .sgt c2_i32 c0_i32_64
  let v91 : BitVec 32 := Scalar.extui v90
  let c0_i32_65 : BitVec 32 := 0#32
  let v92 : BitVec 1 := Scalar.cmpi .slt c2_i32 c0_i32_65
  let v93 : BitVec 32 := Scalar.extui v92
  let v94 : BitVec 32 := Scalar.subi v91 v93
  let v95 : BitVec 1 := Scalar.cmpi .ne v89 v94
  let v96 : BitVec 32 := Scalar.remsi v41 c2_i32
  let c0_i32_66 : BitVec 32 := 0#32
  let v97 : BitVec 1 := Scalar.cmpi .ne v96 c0_i32_66
  let v98 : BitVec 1 := Scalar.andi v95 v97
  let v84 : BitVec 32 := Scalar.divsi v41 c2_i32
  let c1_i32_67 : BitVec 32 := 1#32
  let v99 : BitVec 32 := Scalar.subi v84 c1_i32_67
  let v100 : BitVec 32 := Scalar.select v98 v99 v84
  let v101 : BitVec 32 := Scalar.subi v100 c0_i32_68
  let c1_i32_69 : BitVec 32 := 1#32
  let v103 : BitVec 32 := Scalar.divsi v101 c1_i32_69
  let v104 : BitVec 32 := Scalar.muli v103 c1_i32_69
  let v105 : BitVec 32 := Scalar.addi c0_i32_68 v104
  let c1_i32_71 : BitVec 32 := 1#32
  let arg15 : BitVec 32 := Scf.iv v105 c1_i32_71 k0_t2
  let v143 : BitVec 32 := Scalar.muli c2_i32_91 arg15
  let c512_i32_111 : BitVec 32 := 512#32
  let v167 : BitVec 32 := Scalar.muli v143 c512_i32_111
  v167
def k0_off9 (i : grid0.Coords) (k0_t2 : Fin (k0_t2_loop i).trips) : Fin 3 → Nat :=
  let c0_117 : Index := 0#32
  let c0_118 : Index := 0#32
  let c2_i32_91 : BitVec 32 := 2#32
  let c0_i32_68 : BitVec 32 := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c0_i32_62 : BitVec 32 := 0#32
  let v85 : BitVec 1 := Scalar.cmpi .sgt v41 c0_i32_62
  let v86 : BitVec 32 := Scalar.extui v85
  let c0_i32_63 : BitVec 32 := 0#32
  let v87 : BitVec 1 := Scalar.cmpi .slt v41 c0_i32_63
  let v88 : BitVec 32 := Scalar.extui v87
  let v89 : BitVec 32 := Scalar.subi v86 v88
  let c2_i32 : BitVec 32 := 2#32
  let c0_i32_64 : BitVec 32 := 0#32
  let v90 : BitVec 1 := Scalar.cmpi .sgt c2_i32 c0_i32_64
  let v91 : BitVec 32 := Scalar.extui v90
  let c0_i32_65 : BitVec 32 := 0#32
  let v92 : BitVec 1 := Scalar.cmpi .slt c2_i32 c0_i32_65
  let v93 : BitVec 32 := Scalar.extui v92
  let v94 : BitVec 32 := Scalar.subi v91 v93
  let v95 : BitVec 1 := Scalar.cmpi .ne v89 v94
  let v96 : BitVec 32 := Scalar.remsi v41 c2_i32
  let c0_i32_66 : BitVec 32 := 0#32
  let v97 : BitVec 1 := Scalar.cmpi .ne v96 c0_i32_66
  let v98 : BitVec 1 := Scalar.andi v95 v97
  let v84 : BitVec 32 := Scalar.divsi v41 c2_i32
  let c1_i32_67 : BitVec 32 := 1#32
  let v99 : BitVec 32 := Scalar.subi v84 c1_i32_67
  let v100 : BitVec 32 := Scalar.select v98 v99 v84
  let v101 : BitVec 32 := Scalar.subi v100 c0_i32_68
  let c1_i32_69 : BitVec 32 := 1#32
  let v103 : BitVec 32 := Scalar.divsi v101 c1_i32_69
  let v104 : BitVec 32 := Scalar.muli v103 c1_i32_69
  let v105 : BitVec 32 := Scalar.addi c0_i32_68 v104
  let c1_i32_71 : BitVec 32 := 1#32
  let arg15 : BitVec 32 := Scf.iv v105 c1_i32_71 k0_t2
  let v143 : BitVec 32 := Scalar.muli c2_i32_91 arg15
  let c512_i32_111 : BitVec 32 := 512#32
  let v167 : BitVec 32 := Scalar.muli v143 c512_i32_111
  let v168 : BitVec 32 := v167
  let v179 : Index := Scalar.indexCast v168
  ![0, 0, v179.toNat]
def k0_mult13 (i : grid0.Coords) (k0_t2 : Fin (k0_t2_loop i).trips) : BitVec 32 :=
  let c2_i32_92 : BitVec 32 := 2#32
  let c0_i32_68 : BitVec 32 := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c0_i32_62 : BitVec 32 := 0#32
  let v85 : BitVec 1 := Scalar.cmpi .sgt v41 c0_i32_62
  let v86 : BitVec 32 := Scalar.extui v85
  let c0_i32_63 : BitVec 32 := 0#32
  let v87 : BitVec 1 := Scalar.cmpi .slt v41 c0_i32_63
  let v88 : BitVec 32 := Scalar.extui v87
  let v89 : BitVec 32 := Scalar.subi v86 v88
  let c2_i32 : BitVec 32 := 2#32
  let c0_i32_64 : BitVec 32 := 0#32
  let v90 : BitVec 1 := Scalar.cmpi .sgt c2_i32 c0_i32_64
  let v91 : BitVec 32 := Scalar.extui v90
  let c0_i32_65 : BitVec 32 := 0#32
  let v92 : BitVec 1 := Scalar.cmpi .slt c2_i32 c0_i32_65
  let v93 : BitVec 32 := Scalar.extui v92
  let v94 : BitVec 32 := Scalar.subi v91 v93
  let v95 : BitVec 1 := Scalar.cmpi .ne v89 v94
  let v96 : BitVec 32 := Scalar.remsi v41 c2_i32
  let c0_i32_66 : BitVec 32 := 0#32
  let v97 : BitVec 1 := Scalar.cmpi .ne v96 c0_i32_66
  let v98 : BitVec 1 := Scalar.andi v95 v97
  let v84 : BitVec 32 := Scalar.divsi v41 c2_i32
  let c1_i32_67 : BitVec 32 := 1#32
  let v99 : BitVec 32 := Scalar.subi v84 c1_i32_67
  let v100 : BitVec 32 := Scalar.select v98 v99 v84
  let v101 : BitVec 32 := Scalar.subi v100 c0_i32_68
  let c1_i32_69 : BitVec 32 := 1#32
  let v103 : BitVec 32 := Scalar.divsi v101 c1_i32_69
  let v104 : BitVec 32 := Scalar.muli v103 c1_i32_69
  let v105 : BitVec 32 := Scalar.addi c0_i32_68 v104
  let c1_i32_71 : BitVec 32 := 1#32
  let arg15 : BitVec 32 := Scf.iv v105 c1_i32_71 k0_t2
  let v144 : BitVec 32 := Scalar.muli c2_i32_92 arg15
  let c1_i32_93 : BitVec 32 := 1#32
  let v145 : BitVec 32 := Scalar.addi v144 c1_i32_93
  let c512_i32_126 : BitVec 32 := 512#32
  let v192 : BitVec 32 := Scalar.muli v145 c512_i32_126
  v192
def k0_mult14 (i : grid0.Coords) (k0_t2 : Fin (k0_t2_loop i).trips) : BitVec 32 :=
  let c2_i32_91 : BitVec 32 := 2#32
  let c0_i32_68 : BitVec 32 := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c0_i32_62 : BitVec 32 := 0#32
  let v85 : BitVec 1 := Scalar.cmpi .sgt v41 c0_i32_62
  let v86 : BitVec 32 := Scalar.extui v85
  let c0_i32_63 : BitVec 32 := 0#32
  let v87 : BitVec 1 := Scalar.cmpi .slt v41 c0_i32_63
  let v88 : BitVec 32 := Scalar.extui v87
  let v89 : BitVec 32 := Scalar.subi v86 v88
  let c2_i32 : BitVec 32 := 2#32
  let c0_i32_64 : BitVec 32 := 0#32
  let v90 : BitVec 1 := Scalar.cmpi .sgt c2_i32 c0_i32_64
  let v91 : BitVec 32 := Scalar.extui v90
  let c0_i32_65 : BitVec 32 := 0#32
  let v92 : BitVec 1 := Scalar.cmpi .slt c2_i32 c0_i32_65
  let v93 : BitVec 32 := Scalar.extui v92
  let v94 : BitVec 32 := Scalar.subi v91 v93
  let v95 : BitVec 1 := Scalar.cmpi .ne v89 v94
  let v96 : BitVec 32 := Scalar.remsi v41 c2_i32
  let c0_i32_66 : BitVec 32 := 0#32
  let v97 : BitVec 1 := Scalar.cmpi .ne v96 c0_i32_66
  let v98 : BitVec 1 := Scalar.andi v95 v97
  let v84 : BitVec 32 := Scalar.divsi v41 c2_i32
  let c1_i32_67 : BitVec 32 := 1#32
  let v99 : BitVec 32 := Scalar.subi v84 c1_i32_67
  let v100 : BitVec 32 := Scalar.select v98 v99 v84
  let v101 : BitVec 32 := Scalar.subi v100 c0_i32_68
  let c1_i32_69 : BitVec 32 := 1#32
  let v103 : BitVec 32 := Scalar.divsi v101 c1_i32_69
  let v104 : BitVec 32 := Scalar.muli v103 c1_i32_69
  let v105 : BitVec 32 := Scalar.addi c0_i32_68 v104
  let c1_i32_71 : BitVec 32 := 1#32
  let arg15 : BitVec 32 := Scf.iv v105 c1_i32_71 k0_t2
  let v143 : BitVec 32 := Scalar.muli c2_i32_91 arg15
  let c512_i32_141 : BitVec 32 := 512#32
  let v211 : BitVec 32 := Scalar.muli v143 c512_i32_141
  v211
def k0_off10 (i : grid0.Coords) (k0_t2 : Fin (k0_t2_loop i).trips) : Fin 3 → Nat :=
  let c0_147 : Index := 0#32
  let c64_148 : Index := 64#32
  let c2_i32_91 : BitVec 32 := 2#32
  let c0_i32_68 : BitVec 32 := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c0_i32_62 : BitVec 32 := 0#32
  let v85 : BitVec 1 := Scalar.cmpi .sgt v41 c0_i32_62
  let v86 : BitVec 32 := Scalar.extui v85
  let c0_i32_63 : BitVec 32 := 0#32
  let v87 : BitVec 1 := Scalar.cmpi .slt v41 c0_i32_63
  let v88 : BitVec 32 := Scalar.extui v87
  let v89 : BitVec 32 := Scalar.subi v86 v88
  let c2_i32 : BitVec 32 := 2#32
  let c0_i32_64 : BitVec 32 := 0#32
  let v90 : BitVec 1 := Scalar.cmpi .sgt c2_i32 c0_i32_64
  let v91 : BitVec 32 := Scalar.extui v90
  let c0_i32_65 : BitVec 32 := 0#32
  let v92 : BitVec 1 := Scalar.cmpi .slt c2_i32 c0_i32_65
  let v93 : BitVec 32 := Scalar.extui v92
  let v94 : BitVec 32 := Scalar.subi v91 v93
  let v95 : BitVec 1 := Scalar.cmpi .ne v89 v94
  let v96 : BitVec 32 := Scalar.remsi v41 c2_i32
  let c0_i32_66 : BitVec 32 := 0#32
  let v97 : BitVec 1 := Scalar.cmpi .ne v96 c0_i32_66
  let v98 : BitVec 1 := Scalar.andi v95 v97
  let v84 : BitVec 32 := Scalar.divsi v41 c2_i32
  let c1_i32_67 : BitVec 32 := 1#32
  let v99 : BitVec 32 := Scalar.subi v84 c1_i32_67
  let v100 : BitVec 32 := Scalar.select v98 v99 v84
  let v101 : BitVec 32 := Scalar.subi v100 c0_i32_68
  let c1_i32_69 : BitVec 32 := 1#32
  let v103 : BitVec 32 := Scalar.divsi v101 c1_i32_69
  let v104 : BitVec 32 := Scalar.muli v103 c1_i32_69
  let v105 : BitVec 32 := Scalar.addi c0_i32_68 v104
  let c1_i32_71 : BitVec 32 := 1#32
  let arg15 : BitVec 32 := Scf.iv v105 c1_i32_71 k0_t2
  let v143 : BitVec 32 := Scalar.muli c2_i32_91 arg15
  let c512_i32_141 : BitVec 32 := 512#32
  let v211 : BitVec 32 := Scalar.muli v143 c512_i32_141
  let v212 : BitVec 32 := v211
  let v223 : Index := Scalar.indexCast v212
  ![0, 64, v223.toNat]
def k0_mult15 (i : grid0.Coords) (k0_t2 : Fin (k0_t2_loop i).trips) : BitVec 32 :=
  let c2_i32_94 : BitVec 32 := 2#32
  let c0_i32_68 : BitVec 32 := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c0_i32_62 : BitVec 32 := 0#32
  let v85 : BitVec 1 := Scalar.cmpi .sgt v41 c0_i32_62
  let v86 : BitVec 32 := Scalar.extui v85
  let c0_i32_63 : BitVec 32 := 0#32
  let v87 : BitVec 1 := Scalar.cmpi .slt v41 c0_i32_63
  let v88 : BitVec 32 := Scalar.extui v87
  let v89 : BitVec 32 := Scalar.subi v86 v88
  let c2_i32 : BitVec 32 := 2#32
  let c0_i32_64 : BitVec 32 := 0#32
  let v90 : BitVec 1 := Scalar.cmpi .sgt c2_i32 c0_i32_64
  let v91 : BitVec 32 := Scalar.extui v90
  let c0_i32_65 : BitVec 32 := 0#32
  let v92 : BitVec 1 := Scalar.cmpi .slt c2_i32 c0_i32_65
  let v93 : BitVec 32 := Scalar.extui v92
  let v94 : BitVec 32 := Scalar.subi v91 v93
  let v95 : BitVec 1 := Scalar.cmpi .ne v89 v94
  let v96 : BitVec 32 := Scalar.remsi v41 c2_i32
  let c0_i32_66 : BitVec 32 := 0#32
  let v97 : BitVec 1 := Scalar.cmpi .ne v96 c0_i32_66
  let v98 : BitVec 1 := Scalar.andi v95 v97
  let v84 : BitVec 32 := Scalar.divsi v41 c2_i32
  let c1_i32_67 : BitVec 32 := 1#32
  let v99 : BitVec 32 := Scalar.subi v84 c1_i32_67
  let v100 : BitVec 32 := Scalar.select v98 v99 v84
  let v101 : BitVec 32 := Scalar.subi v100 c0_i32_68
  let c1_i32_69 : BitVec 32 := 1#32
  let v103 : BitVec 32 := Scalar.divsi v101 c1_i32_69
  let v104 : BitVec 32 := Scalar.muli v103 c1_i32_69
  let v105 : BitVec 32 := Scalar.addi c0_i32_68 v104
  let c1_i32_71 : BitVec 32 := 1#32
  let arg15 : BitVec 32 := Scf.iv v105 c1_i32_71 k0_t2
  let v146 : BitVec 32 := Scalar.muli c2_i32_94 arg15
  let c2_i32_95 : BitVec 32 := 2#32
  let v147 : BitVec 32 := Scalar.addi v146 c2_i32_95
  let c512_i32_156 : BitVec 32 := 512#32
  let v236 : BitVec 32 := Scalar.muli v147 c512_i32_156
  v236
def k0_mult16 (i : grid0.Coords) (k0_t2 : Fin (k0_t2_loop i).trips) : BitVec 32 :=
  let c2_i32_92 : BitVec 32 := 2#32
  let c0_i32_68 : BitVec 32 := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c0_i32_62 : BitVec 32 := 0#32
  let v85 : BitVec 1 := Scalar.cmpi .sgt v41 c0_i32_62
  let v86 : BitVec 32 := Scalar.extui v85
  let c0_i32_63 : BitVec 32 := 0#32
  let v87 : BitVec 1 := Scalar.cmpi .slt v41 c0_i32_63
  let v88 : BitVec 32 := Scalar.extui v87
  let v89 : BitVec 32 := Scalar.subi v86 v88
  let c2_i32 : BitVec 32 := 2#32
  let c0_i32_64 : BitVec 32 := 0#32
  let v90 : BitVec 1 := Scalar.cmpi .sgt c2_i32 c0_i32_64
  let v91 : BitVec 32 := Scalar.extui v90
  let c0_i32_65 : BitVec 32 := 0#32
  let v92 : BitVec 1 := Scalar.cmpi .slt c2_i32 c0_i32_65
  let v93 : BitVec 32 := Scalar.extui v92
  let v94 : BitVec 32 := Scalar.subi v91 v93
  let v95 : BitVec 1 := Scalar.cmpi .ne v89 v94
  let v96 : BitVec 32 := Scalar.remsi v41 c2_i32
  let c0_i32_66 : BitVec 32 := 0#32
  let v97 : BitVec 1 := Scalar.cmpi .ne v96 c0_i32_66
  let v98 : BitVec 1 := Scalar.andi v95 v97
  let v84 : BitVec 32 := Scalar.divsi v41 c2_i32
  let c1_i32_67 : BitVec 32 := 1#32
  let v99 : BitVec 32 := Scalar.subi v84 c1_i32_67
  let v100 : BitVec 32 := Scalar.select v98 v99 v84
  let v101 : BitVec 32 := Scalar.subi v100 c0_i32_68
  let c1_i32_69 : BitVec 32 := 1#32
  let v103 : BitVec 32 := Scalar.divsi v101 c1_i32_69
  let v104 : BitVec 32 := Scalar.muli v103 c1_i32_69
  let v105 : BitVec 32 := Scalar.addi c0_i32_68 v104
  let c1_i32_71 : BitVec 32 := 1#32
  let arg15 : BitVec 32 := Scf.iv v105 c1_i32_71 k0_t2
  let v144 : BitVec 32 := Scalar.muli c2_i32_92 arg15
  let c1_i32_93 : BitVec 32 := 1#32
  let v145 : BitVec 32 := Scalar.addi v144 c1_i32_93
  let c512_i32_171 : BitVec 32 := 512#32
  let v255 : BitVec 32 := Scalar.muli v145 c512_i32_171
  v255
def k0_off11 (i : grid0.Coords) (k0_t2 : Fin (k0_t2_loop i).trips) : Fin 3 → Nat :=
  let c0_177 : Index := 0#32
  let c0_178 : Index := 0#32
  let c2_i32_92 : BitVec 32 := 2#32
  let c0_i32_68 : BitVec 32 := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c0_i32_62 : BitVec 32 := 0#32
  let v85 : BitVec 1 := Scalar.cmpi .sgt v41 c0_i32_62
  let v86 : BitVec 32 := Scalar.extui v85
  let c0_i32_63 : BitVec 32 := 0#32
  let v87 : BitVec 1 := Scalar.cmpi .slt v41 c0_i32_63
  let v88 : BitVec 32 := Scalar.extui v87
  let v89 : BitVec 32 := Scalar.subi v86 v88
  let c2_i32 : BitVec 32 := 2#32
  let c0_i32_64 : BitVec 32 := 0#32
  let v90 : BitVec 1 := Scalar.cmpi .sgt c2_i32 c0_i32_64
  let v91 : BitVec 32 := Scalar.extui v90
  let c0_i32_65 : BitVec 32 := 0#32
  let v92 : BitVec 1 := Scalar.cmpi .slt c2_i32 c0_i32_65
  let v93 : BitVec 32 := Scalar.extui v92
  let v94 : BitVec 32 := Scalar.subi v91 v93
  let v95 : BitVec 1 := Scalar.cmpi .ne v89 v94
  let v96 : BitVec 32 := Scalar.remsi v41 c2_i32
  let c0_i32_66 : BitVec 32 := 0#32
  let v97 : BitVec 1 := Scalar.cmpi .ne v96 c0_i32_66
  let v98 : BitVec 1 := Scalar.andi v95 v97
  let v84 : BitVec 32 := Scalar.divsi v41 c2_i32
  let c1_i32_67 : BitVec 32 := 1#32
  let v99 : BitVec 32 := Scalar.subi v84 c1_i32_67
  let v100 : BitVec 32 := Scalar.select v98 v99 v84
  let v101 : BitVec 32 := Scalar.subi v100 c0_i32_68
  let c1_i32_69 : BitVec 32 := 1#32
  let v103 : BitVec 32 := Scalar.divsi v101 c1_i32_69
  let v104 : BitVec 32 := Scalar.muli v103 c1_i32_69
  let v105 : BitVec 32 := Scalar.addi c0_i32_68 v104
  let c1_i32_71 : BitVec 32 := 1#32
  let arg15 : BitVec 32 := Scf.iv v105 c1_i32_71 k0_t2
  let v144 : BitVec 32 := Scalar.muli c2_i32_92 arg15
  let c1_i32_93 : BitVec 32 := 1#32
  let v145 : BitVec 32 := Scalar.addi v144 c1_i32_93
  let c512_i32_171 : BitVec 32 := 512#32
  let v255 : BitVec 32 := Scalar.muli v145 c512_i32_171
  let v256 : BitVec 32 := v255
  let v267 : Index := Scalar.indexCast v256
  ![0, 0, v267.toNat]
def k0_mult17 (i : grid0.Coords) (k0_t2 : Fin (k0_t2_loop i).trips) : BitVec 32 :=
  let c2_i32_94 : BitVec 32 := 2#32
  let c0_i32_68 : BitVec 32 := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c0_i32_62 : BitVec 32 := 0#32
  let v85 : BitVec 1 := Scalar.cmpi .sgt v41 c0_i32_62
  let v86 : BitVec 32 := Scalar.extui v85
  let c0_i32_63 : BitVec 32 := 0#32
  let v87 : BitVec 1 := Scalar.cmpi .slt v41 c0_i32_63
  let v88 : BitVec 32 := Scalar.extui v87
  let v89 : BitVec 32 := Scalar.subi v86 v88
  let c2_i32 : BitVec 32 := 2#32
  let c0_i32_64 : BitVec 32 := 0#32
  let v90 : BitVec 1 := Scalar.cmpi .sgt c2_i32 c0_i32_64
  let v91 : BitVec 32 := Scalar.extui v90
  let c0_i32_65 : BitVec 32 := 0#32
  let v92 : BitVec 1 := Scalar.cmpi .slt c2_i32 c0_i32_65
  let v93 : BitVec 32 := Scalar.extui v92
  let v94 : BitVec 32 := Scalar.subi v91 v93
  let v95 : BitVec 1 := Scalar.cmpi .ne v89 v94
  let v96 : BitVec 32 := Scalar.remsi v41 c2_i32
  let c0_i32_66 : BitVec 32 := 0#32
  let v97 : BitVec 1 := Scalar.cmpi .ne v96 c0_i32_66
  let v98 : BitVec 1 := Scalar.andi v95 v97
  let v84 : BitVec 32 := Scalar.divsi v41 c2_i32
  let c1_i32_67 : BitVec 32 := 1#32
  let v99 : BitVec 32 := Scalar.subi v84 c1_i32_67
  let v100 : BitVec 32 := Scalar.select v98 v99 v84
  let v101 : BitVec 32 := Scalar.subi v100 c0_i32_68
  let c1_i32_69 : BitVec 32 := 1#32
  let v103 : BitVec 32 := Scalar.divsi v101 c1_i32_69
  let v104 : BitVec 32 := Scalar.muli v103 c1_i32_69
  let v105 : BitVec 32 := Scalar.addi c0_i32_68 v104
  let c1_i32_71 : BitVec 32 := 1#32
  let arg15 : BitVec 32 := Scf.iv v105 c1_i32_71 k0_t2
  let v146 : BitVec 32 := Scalar.muli c2_i32_94 arg15
  let c2_i32_95 : BitVec 32 := 2#32
  let v147 : BitVec 32 := Scalar.addi v146 c2_i32_95
  let c512_i32_186 : BitVec 32 := 512#32
  let v280 : BitVec 32 := Scalar.muli v147 c512_i32_186
  v280
def k0_mult18 (i : grid0.Coords) (k0_t2 : Fin (k0_t2_loop i).trips) : BitVec 32 :=
  let c2_i32_92 : BitVec 32 := 2#32
  let c0_i32_68 : BitVec 32 := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c0_i32_62 : BitVec 32 := 0#32
  let v85 : BitVec 1 := Scalar.cmpi .sgt v41 c0_i32_62
  let v86 : BitVec 32 := Scalar.extui v85
  let c0_i32_63 : BitVec 32 := 0#32
  let v87 : BitVec 1 := Scalar.cmpi .slt v41 c0_i32_63
  let v88 : BitVec 32 := Scalar.extui v87
  let v89 : BitVec 32 := Scalar.subi v86 v88
  let c2_i32 : BitVec 32 := 2#32
  let c0_i32_64 : BitVec 32 := 0#32
  let v90 : BitVec 1 := Scalar.cmpi .sgt c2_i32 c0_i32_64
  let v91 : BitVec 32 := Scalar.extui v90
  let c0_i32_65 : BitVec 32 := 0#32
  let v92 : BitVec 1 := Scalar.cmpi .slt c2_i32 c0_i32_65
  let v93 : BitVec 32 := Scalar.extui v92
  let v94 : BitVec 32 := Scalar.subi v91 v93
  let v95 : BitVec 1 := Scalar.cmpi .ne v89 v94
  let v96 : BitVec 32 := Scalar.remsi v41 c2_i32
  let c0_i32_66 : BitVec 32 := 0#32
  let v97 : BitVec 1 := Scalar.cmpi .ne v96 c0_i32_66
  let v98 : BitVec 1 := Scalar.andi v95 v97
  let v84 : BitVec 32 := Scalar.divsi v41 c2_i32
  let c1_i32_67 : BitVec 32 := 1#32
  let v99 : BitVec 32 := Scalar.subi v84 c1_i32_67
  let v100 : BitVec 32 := Scalar.select v98 v99 v84
  let v101 : BitVec 32 := Scalar.subi v100 c0_i32_68
  let c1_i32_69 : BitVec 32 := 1#32
  let v103 : BitVec 32 := Scalar.divsi v101 c1_i32_69
  let v104 : BitVec 32 := Scalar.muli v103 c1_i32_69
  let v105 : BitVec 32 := Scalar.addi c0_i32_68 v104
  let c1_i32_71 : BitVec 32 := 1#32
  let arg15 : BitVec 32 := Scf.iv v105 c1_i32_71 k0_t2
  let v144 : BitVec 32 := Scalar.muli c2_i32_92 arg15
  let c1_i32_93 : BitVec 32 := 1#32
  let v145 : BitVec 32 := Scalar.addi v144 c1_i32_93
  let c512_i32_201 : BitVec 32 := 512#32
  let v299 : BitVec 32 := Scalar.muli v145 c512_i32_201
  v299
def k0_off12 (i : grid0.Coords) (k0_t2 : Fin (k0_t2_loop i).trips) : Fin 3 → Nat :=
  let c0_207 : Index := 0#32
  let c64_208 : Index := 64#32
  let c2_i32_92 : BitVec 32 := 2#32
  let c0_i32_68 : BitVec 32 := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c0_i32_62 : BitVec 32 := 0#32
  let v85 : BitVec 1 := Scalar.cmpi .sgt v41 c0_i32_62
  let v86 : BitVec 32 := Scalar.extui v85
  let c0_i32_63 : BitVec 32 := 0#32
  let v87 : BitVec 1 := Scalar.cmpi .slt v41 c0_i32_63
  let v88 : BitVec 32 := Scalar.extui v87
  let v89 : BitVec 32 := Scalar.subi v86 v88
  let c2_i32 : BitVec 32 := 2#32
  let c0_i32_64 : BitVec 32 := 0#32
  let v90 : BitVec 1 := Scalar.cmpi .sgt c2_i32 c0_i32_64
  let v91 : BitVec 32 := Scalar.extui v90
  let c0_i32_65 : BitVec 32 := 0#32
  let v92 : BitVec 1 := Scalar.cmpi .slt c2_i32 c0_i32_65
  let v93 : BitVec 32 := Scalar.extui v92
  let v94 : BitVec 32 := Scalar.subi v91 v93
  let v95 : BitVec 1 := Scalar.cmpi .ne v89 v94
  let v96 : BitVec 32 := Scalar.remsi v41 c2_i32
  let c0_i32_66 : BitVec 32 := 0#32
  let v97 : BitVec 1 := Scalar.cmpi .ne v96 c0_i32_66
  let v98 : BitVec 1 := Scalar.andi v95 v97
  let v84 : BitVec 32 := Scalar.divsi v41 c2_i32
  let c1_i32_67 : BitVec 32 := 1#32
  let v99 : BitVec 32 := Scalar.subi v84 c1_i32_67
  let v100 : BitVec 32 := Scalar.select v98 v99 v84
  let v101 : BitVec 32 := Scalar.subi v100 c0_i32_68
  let c1_i32_69 : BitVec 32 := 1#32
  let v103 : BitVec 32 := Scalar.divsi v101 c1_i32_69
  let v104 : BitVec 32 := Scalar.muli v103 c1_i32_69
  let v105 : BitVec 32 := Scalar.addi c0_i32_68 v104
  let c1_i32_71 : BitVec 32 := 1#32
  let arg15 : BitVec 32 := Scf.iv v105 c1_i32_71 k0_t2
  let v144 : BitVec 32 := Scalar.muli c2_i32_92 arg15
  let c1_i32_93 : BitVec 32 := 1#32
  let v145 : BitVec 32 := Scalar.addi v144 c1_i32_93
  let c512_i32_201 : BitVec 32 := 512#32
  let v299 : BitVec 32 := Scalar.muli v145 c512_i32_201
  let v300 : BitVec 32 := v299
  let v311 : Index := Scalar.indexCast v300
  ![0, 64, v311.toNat]
def k0_cond1 (i : grid0.Coords) : BitVec 1 :=
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c2_i32_72 : BitVec 32 := 2#32
  let c0_i32_73 : BitVec 32 := 0#32
  let v108 : BitVec 1 := Scalar.cmpi .eq c2_i32_72 c0_i32_73
  let c1_i32_74 : BitVec 32 := 1#32
  let v109 : BitVec 32 := Scalar.select v108 c1_i32_74 c2_i32_72
  let v110 : BitVec 32 := Scalar.remsi v41 v109
  let c0_i32_76 : BitVec 32 := 0#32
  let v112 : BitVec 1 := Scalar.cmpi .slt v110 c0_i32_76
  let c0_i32_77 : BitVec 32 := 0#32
  let v113 : BitVec 1 := Scalar.cmpi .slt v109 c0_i32_77
  let v114 : BitVec 1 := Scalar.xori v112 v113
  let c0_i32_75 : BitVec 32 := 0#32
  let v111 : BitVec 1 := Scalar.cmpi .ne v110 c0_i32_75
  let v115 : BitVec 1 := Scalar.andi v114 v111
  let v116 : BitVec 32 := Scalar.addi v110 v109
  let v117 : BitVec 32 := Scalar.select v115 v116 v110
  let c1_i32_78 : BitVec 32 := 1#32
  let v118 : BitVec 1 := Scalar.cmpi .eq v117 c1_i32_78
  let v119 : BitVec 32 := Scalar.extui v118
  let c0_i32_79 : BitVec 32 := 0#32
  let v120 : BitVec 1 := Scalar.cmpi .ne v119 c0_i32_79
  v120

def k0_mult19 (i : grid0.Coords) : BitVec 32 :=
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c512_i32_92 : BitVec 32 := 512#32
  let v144 : BitVec 32 := Scalar.muli v41 c512_i32_92
  v144
def k0_off13 (i : grid0.Coords) : Fin 3 → Nat :=
  let c0_93 : Index := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c512_i32_92 : BitVec 32 := 512#32
  let v144 : BitVec 32 := Scalar.muli v41 c512_i32_92
  let v145 : BitVec 32 := v144
  let v146 : Index := Scalar.indexCast v145
  let c0_94 : Index := 0#32
  ![0, v146.toNat, 0]
def k0_off14 (i : grid0.Coords) : Fin 4 → Nat :=
  let c0_95 : Index := 0#32
  let c0_96 : Index := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c512_i32_92 : BitVec 32 := 512#32
  let v144 : BitVec 32 := Scalar.muli v41 c512_i32_92
  let v145 : BitVec 32 := v144
  let v149 : Index := Scalar.indexCast v145
  let c0_97 : Index := 0#32
  ![0, 0, v149.toNat, 0]
def k0_mult20 (i : grid0.Coords) : BitVec 32 :=
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c1_i32_91 : BitVec 32 := 1#32
  let v143 : BitVec 32 := Scalar.subi v41 c1_i32_91
  let c512_i32_107 : BitVec 32 := 512#32
  let v163 : BitVec 32 := Scalar.muli v143 c512_i32_107
  v163
def k0_off15 (i : grid0.Coords) : Fin 3 → Nat :=
  let c0_113 : Index := 0#32
  let c0_114 : Index := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c1_i32_91 : BitVec 32 := 1#32
  let v143 : BitVec 32 := Scalar.subi v41 c1_i32_91
  let c512_i32_107 : BitVec 32 := 512#32
  let v163 : BitVec 32 := Scalar.muli v143 c512_i32_107
  let v164 : BitVec 32 := v163
  let v175 : Index := Scalar.indexCast v164
  ![0, 0, v175.toNat]
def k0_mult21 (i : grid0.Coords) : BitVec 32 :=
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c512_i32_122 : BitVec 32 := 512#32
  let v188 : BitVec 32 := Scalar.muli v41 c512_i32_122
  v188
def k0_mult22 (i : grid0.Coords) : BitVec 32 :=
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c1_i32_91 : BitVec 32 := 1#32
  let v143 : BitVec 32 := Scalar.subi v41 c1_i32_91
  let c512_i32_137 : BitVec 32 := 512#32
  let v207 : BitVec 32 := Scalar.muli v143 c512_i32_137
  v207
def k0_off16 (i : grid0.Coords) : Fin 3 → Nat :=
  let c0_143 : Index := 0#32
  let c64_144 : Index := 64#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c1_i32_91 : BitVec 32 := 1#32
  let v143 : BitVec 32 := Scalar.subi v41 c1_i32_91
  let c512_i32_137 : BitVec 32 := 512#32
  let v207 : BitVec 32 := Scalar.muli v143 c512_i32_137
  let v208 : BitVec 32 := v207
  let v219 : Index := Scalar.indexCast v208
  ![0, 64, v219.toNat]
def k0_mult23 (i : grid0.Coords) : BitVec 32 :=
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c512_i32_154 : BitVec 32 := 512#32
  let v234 : BitVec 32 := Scalar.muli v41 c512_i32_154
  v234
def k0_off17 (i : grid0.Coords) : Fin 3 → Nat :=
  let c0_158 : Index := 0#32
  let c0_159 : Index := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c512_i32_154 : BitVec 32 := 512#32
  let v234 : BitVec 32 := Scalar.muli v41 c512_i32_154
  let v235 : BitVec 32 := v234
  let v248 : Index := Scalar.indexCast v235
  ![0, 0, v248.toNat]
def k0_mult24 (i : grid0.Coords) : BitVec 32 :=
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c512_i32_167 : BitVec 32 := 512#32
  let v263 : BitVec 32 := Scalar.muli v41 c512_i32_167
  v263
def k0_mult25 (i : grid0.Coords) : BitVec 32 :=
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c512_i32_179 : BitVec 32 := 512#32
  let v293 : BitVec 32 := Scalar.muli v41 c512_i32_179
  v293
def k0_off18 (i : grid0.Coords) : Fin 3 → Nat :=
  let c0_183 : Index := 0#32
  let c64_184 : Index := 64#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c512_i32_179 : BitVec 32 := 512#32
  let v293 : BitVec 32 := Scalar.muli v41 c512_i32_179
  let v294 : BitVec 32 := v293
  let v307 : Index := Scalar.indexCast v294
  ![0, 64, v307.toNat]
def k0_mult26 (i : grid0.Coords) : BitVec 32 :=
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c512_i32_192 : BitVec 32 := 512#32
  let v322 : BitVec 32 := Scalar.muli v41 c512_i32_192
  v322
def k0_mult27 (i : grid0.Coords) : BitVec 32 :=
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c512_i32_93 : BitVec 32 := 512#32
  let v145 : BitVec 32 := Scalar.muli v41 c512_i32_93
  v145
def k0_off19 (i : grid0.Coords) : Fin 3 → Nat :=
  let c0_97 : Index := 0#32
  let c0_98 : Index := 0#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c512_i32_93 : BitVec 32 := 512#32
  let v145 : BitVec 32 := Scalar.muli v41 c512_i32_93
  let v146 : BitVec 32 := v145
  let v159 : Index := Scalar.indexCast v146
  ![0, 0, v159.toNat]
def k0_mult28 (i : grid0.Coords) : BitVec 32 :=
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c512_i32_106 : BitVec 32 := 512#32
  let v174 : BitVec 32 := Scalar.muli v41 c512_i32_106
  v174
def k0_mult29 (i : grid0.Coords) : BitVec 32 :=
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c512_i32_118 : BitVec 32 := 512#32
  let v204 : BitVec 32 := Scalar.muli v41 c512_i32_118
  v204
def k0_off20 (i : grid0.Coords) : Fin 3 → Nat :=
  let c0_122 : Index := 0#32
  let c64_123 : Index := 64#32
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c512_i32_118 : BitVec 32 := 512#32
  let v204 : BitVec 32 := Scalar.muli v41 c512_i32_118
  let v205 : BitVec 32 := v204
  let v218 : Index := Scalar.indexCast v205
  ![0, 64, v218.toNat]
def k0_mult30 (i : grid0.Coords) : BitVec 32 :=
  let arg2 : BitVec 32 := BitVec.ofNat 32 (i 2).val
  let c512_i32 : BitVec 32 := 512#32
  let v24 : BitVec 32 := Scalar.muli arg2 c512_i32
  let c0_i32 : BitVec 32 := 0#32
  let v26 : BitVec 1 := Scalar.cmpi .sgt v24 c0_i32
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c512_i32_21 : BitVec 32 := 512#32
  let c0_i32_23 : BitVec 32 := 0#32
  let v31 : BitVec 1 := Scalar.cmpi .sgt c512_i32_21 c0_i32_23
  let v32 : BitVec 32 := Scalar.extui v31
  let c0_i32_24 : BitVec 32 := 0#32
  let v33 : BitVec 1 := Scalar.cmpi .slt c512_i32_21 c0_i32_24
  let v34 : BitVec 32 := Scalar.extui v33
  let v35 : BitVec 32 := Scalar.subi v32 v34
  let v36 : BitVec 1 := Scalar.cmpi .ne v30 v35
  let v37 : BitVec 32 := Scalar.remsi v24 c512_i32_21
  let c0_i32_25 : BitVec 32 := 0#32
  let v38 : BitVec 1 := Scalar.cmpi .ne v37 c0_i32_25
  let v39 : BitVec 1 := Scalar.andi v36 v38
  let v25 : BitVec 32 := Scalar.divsi v24 c512_i32_21
  let c1_i32 : BitVec 32 := 1#32
  let v40 : BitVec 32 := Scalar.subi v25 c1_i32
  let v41 : BitVec 32 := Scalar.select v39 v40 v25
  let c512_i32_131 : BitVec 32 := 512#32
  let v233 : BitVec 32 := Scalar.muli v41 c512_i32_131
  v233
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat, arg2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8192x8x64 : Shape := ⟨4, ![4, 8192, 8, 64]⟩
abbrev S4x8192x8 : Shape := ⟨3, ![4, 8192, 8]⟩
abbrev S4x8x8192 : Shape := ⟨3, ![4, 8, 8192]⟩
abbrev S4x8x8192x64 : Shape := ⟨4, ![4, 8, 8192, 64]⟩
abbrev S8192 : Shape := ⟨1, ![8192]⟩
abbrev S4x8x8192x8192 : Shape := ⟨4, ![4, 8, 8192, 8192]⟩
abbrev S_ : Shape := ⟨0, ![]⟩
abbrev S4x8x8192x1 : Shape := ⟨4, ![4, 8, 8192, 1]⟩
abbrev S4x8x1x8192 : Shape := ⟨4, ![4, 8, 1, 8192]⟩
abbrev S1x8192 : Shape := ⟨2, ![1, 8192]⟩
abbrev S8192x1 : Shape := ⟨2, ![8192, 1]⟩
abbrev S8192x8192 : Shape := ⟨2, ![8192, 8192]⟩
abbrev S4x8192x512 : Shape := ⟨3, ![4, 8192, 512]⟩

abbrev nBuf : Space → Nat
  | .hbm => 52
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x64, .f32⟩
  | .hbm, ⟨2, _⟩ => ⟨S4x8192x8x64, .f32⟩
  | .hbm, ⟨3, _⟩ => ⟨S4x8192x8, .f32⟩
  | .hbm, ⟨4, _⟩ => ⟨S4x8x8192, .f32⟩
  | .hbm, ⟨5, _⟩ => ⟨S4x8x8192x64, .f32⟩
  | .hbm, ⟨6, _⟩ => ⟨S4x8x8192x64, .f32⟩
  | .hbm, ⟨7, _⟩ => ⟨S4x8x8192x64, .f32⟩
  | .hbm, ⟨8, _⟩ => ⟨S8192, .i32⟩
  | .hbm, ⟨9, _⟩ => ⟨S4x8x8192x8192, .f32⟩
  | .hbm, ⟨10, _⟩ => ⟨S_, .f32⟩
  | .hbm, ⟨11, _⟩ => ⟨S4x8x8192x8192, .f32⟩
  | .hbm, ⟨12, _⟩ => ⟨S4x8x8192x8192, .f32⟩
  | .hbm, ⟨13, _⟩ => ⟨S4x8x8192x1, .f32⟩
  | .hbm, ⟨14, _⟩ => ⟨S4x8x8192x8192, .f32⟩
  | .hbm, ⟨15, _⟩ => ⟨S4x8x8192x8192, .f32⟩
  | .hbm, ⟨16, _⟩ => ⟨S4x8x1x8192, .f32⟩
  | .hbm, ⟨17, _⟩ => ⟨S4x8x8192x8192, .f32⟩
  | .hbm, ⟨18, _⟩ => ⟨S4x8x8192x8192, .f32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S4x8x8192x8192, .i1⟩
  | .hbm, ⟨27, _⟩ => ⟨S4x8x8192x8192, .f32⟩
  | .hbm, ⟨28, _⟩ => ⟨S4x8x8192x8192, .f32⟩
  | .hbm, ⟨29, _⟩ => ⟨S_, .f32⟩
  | .hbm, ⟨30, _⟩ => ⟨S4x8x8192, .f32⟩
  | .hbm, ⟨31, _⟩ => ⟨S_, .f32⟩
  | .hbm, ⟨32, _⟩ => ⟨S4x8x8192, .f32⟩
  | .hbm, ⟨33, _⟩ => ⟨S4x8x8192, .f32⟩
  | .hbm, ⟨34, _⟩ => ⟨S4x8x8192x1, .f32⟩
  | .hbm, ⟨35, _⟩ => ⟨S4x8x8192x8192, .f32⟩
  | .hbm, ⟨36, _⟩ => ⟨S4x8x8192x8192, .f32⟩
  | .hbm, ⟨37, _⟩ => ⟨S4x8x8192x8192, .f32⟩
  | .hbm, ⟨38, _⟩ => ⟨S_, .f32⟩
  | .hbm, ⟨39, _⟩ => ⟨S4x8x8192, .f32⟩
  | .hbm, ⟨40, _⟩ => ⟨S4x8x8192x1, .f32⟩
  | .hbm, ⟨41, _⟩ => ⟨S4x8x8192x8192, .f32⟩
  | .hbm, ⟨42, _⟩ => ⟨S4x8x8192x8192, .f32⟩
  | .hbm, ⟨43, _⟩ => ⟨S_, .f32⟩
  | .hbm, ⟨44, _⟩ => ⟨S_, .f32⟩
  | .hbm, ⟨45, _⟩ => ⟨S4x8x8192x8192, .i1⟩
  | .hbm, ⟨46, _⟩ => ⟨S4x8x8192x8192, .f32⟩
  | .hbm, ⟨47, _⟩ => ⟨S4x8x8192x8192, .f32⟩
  | .hbm, ⟨48, _⟩ => ⟨S4x8x8192x64, .f32⟩
  | .hbm, ⟨49, _⟩ => ⟨S4x8192x8x64, .f32⟩
  | .hbm, ⟨50, _⟩ => ⟨S4x8192x512, .f32⟩
  | .hbm, ⟨51, _⟩ => ⟨S4x8192x512, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Out0.lean ====
abbrev S32768x512 : Shape := ⟨2, ![32768, 512]⟩
abbrev S32768x3072 : Shape := ⟨2, ![32768, 3072]⟩
abbrev S32768x1024 : Shape := ⟨2, ![32768, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 7
  | .vmem => 11
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x3072, .bf16⟩
  | .hbm, ⟨3, _⟩ => ⟨S32768x1024, .f32⟩
  | .hbm, ⟨4, _⟩ => ⟨S1024x1024, .f32⟩
  | .hbm, ⟨5, _⟩ => ⟨S1024x1024, .bf16⟩
  | .hbm, ⟨6, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Out0RefIdeal.lean ====
abbrev S32768x512 : Shape := ⟨2, ![32768, 512]⟩
abbrev S32768x3072 : Shape := ⟨2, ![32768, 3072]⟩
abbrev S32768x1024 : Shape := ⟨2, ![32768, 1024]⟩
abbrev S1024x1024 : Shape := ⟨2, ![1024, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x3072, .bf16⟩
  | .hbm, ⟨3, _⟩ => ⟨S32768x1024, .f32⟩
  | .hbm, ⟨4, _⟩ => ⟨S1024x1024, .f32⟩
  | .hbm, ⟨5, _⟩ => ⟨S32768x1024, .bf16⟩
  | .hbm, ⟨6, _⟩ => ⟨S32768x1024, .f32⟩
  | .hbm, ⟨7, _⟩ => ⟨S32768x1024, .bf16⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Out1.lean ====
abbrev S32768x1024 : Shape := ⟨2, ![32768, 1024]⟩
abbrev S32768x2560 : Shape := ⟨2, ![32768, 2560]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2560, .bf16⟩
  | .hbm, ⟨3, _⟩ => ⟨S32768x1024, .f32⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Out1RefIdeal.lean ====
abbrev S32768x1024 : Shape := ⟨2, ![32768, 1024]⟩
abbrev S32768x2560 : Shape := ⟨2, ![32768, 2560]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2560, .bf16⟩
  | .hbm, ⟨3, _⟩ => ⟨S32768x1024, .f32⟩
  | .hbm, ⟨4, _⟩ => ⟨S1024x1024, .f32⟩
  | .hbm, ⟨5, _⟩ => ⟨S1024, .f32⟩
  | .hbm, ⟨6, _⟩ => ⟨S32768x1024, .bf16⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S1x1024, .f32⟩
  | .hbm, ⟨37, _⟩ => ⟨S32768x1024, .f32⟩
  | .hbm, ⟨38, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Proj.lean ====
abbrev S4x8192x1024 : Shape := ⟨3, ![4, 8192, 1024]⟩
abbrev S1024 : Shape := ⟨1, ![1024]⟩
abbrev S1024x4104 : Shape := ⟨2, ![1024, 4104]⟩
abbrev S1024x512 : Shape := ⟨2, ![1024, 512]⟩
abbrev S1024x8 : Shape := ⟨2, ![1024, 8]⟩
abbrev S1024x1024 : Shape := ⟨2, ![1024, 1024]⟩
abbrev S_ : Shape := ⟨0, ![]⟩
abbrev S1024x3072 : Shape := ⟨2, ![1024, 3072]⟩
abbrev S32768x1024 : Shape := ⟨2, ![32768, 1024]⟩
abbrev S1x1024 : Shape := ⟨2, ![1, 1024]⟩
abbrev S32768x3072 : Shape := ⟨2, ![32768, 3072]⟩
abbrev S4x1024x8192 : Shape := ⟨3, ![4, 1024, 8192]⟩
abbrev S1024x1536 : Shape := ⟨2, ![1024, 1536]⟩
abbrev S1x1024x1024 : Shape := ⟨3, ![1, 1024, 1024]⟩
abbrev S1024x1 : Shape := ⟨2, ![1024, 1]⟩

abbrev nBuf : Space → Nat
  | .hbm => 26
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x4104, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x8, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x1024, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x3072, .f32⟩
  | .hbm, ⟨15, _⟩ => ⟨S1024x3072, .bf16⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S32768x1024, .f32⟩
  | .hbm, ⟨23, _⟩ => ⟨S1x1024, .f32⟩
  | .hbm, ⟨24, _⟩ => ⟨S32768x3072, .bf16⟩
  | .hbm, ⟨25, _⟩ => ⟨S4x1024x8192, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x1024, .bf16⟩
  | .local _ .vmem, ⟨6, _⟩ => ⟨S1024x1536, .bf16⟩
  | .local _ .vmem, ⟨7, _⟩ => ⟨S1024x1536, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjRefIdeal.lean ====
abbrev S4x8192x1024 : Shape := ⟨3, ![4, 8192, 1024]⟩
abbrev S1024 : Shape := ⟨1, ![1024]⟩
abbrev S1024x4104 : Shape := ⟨2, ![1024, 4104]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4104 : Shape := ⟨3, ![4, 8192, 4104]⟩
abbrev S4x8192x512 : Shape := ⟨3, ![4, 8192, 512]⟩
abbrev S4x8192x8 : Shape := ⟨3, ![4, 8192, 8]⟩
abbrev S4x8192x3072 : Shape := ⟨3, ![4, 8192, 3072]⟩
abbrev S32768x3072 : Shape := ⟨2, ![32768, 3072]⟩
abbrev S4x1024x8192 : Shape := ⟨3, ![4, 1024, 8192]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x4104, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x4104, .f32⟩
  | .hbm, ⟨20, _⟩ => ⟨S4x8192x512, .f32⟩
  | .hbm, ⟨21, _⟩ => ⟨S4x8192x512, .f32⟩
  | .hbm, ⟨22, _⟩ => ⟨S4x8192x512, .f32⟩
  | .hbm, ⟨23, _⟩ => ⟨S4x8192x8, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S4x8192x1024, .f32⟩
  | .hbm, ⟨28, _⟩ => ⟨S_, .f32⟩
  | .hbm, ⟨29, _⟩ => ⟨S4x8192x512, .f32⟩
  | .hbm, ⟨30, _⟩ => ⟨S4x8192x512, .f32⟩
  | .hbm, ⟨31, _⟩ => ⟨S4x8192x3072, .f32⟩
  | .hbm, ⟨32, _⟩ => ⟨S32768x3072, .f32⟩
  | .hbm, ⟨33, _⟩ => ⟨S_, .f32⟩
  | .hbm, ⟨34, _⟩ => ⟨S4x8192x512, .f32⟩
  | .hbm, ⟨35, _⟩ => ⟨S4x8192x512, .f32⟩
  | .hbm, ⟨36, _⟩ => ⟨S4x8192x1024, .f32⟩
  | .hbm, ⟨37, _⟩ => ⟨S4x1024x8192, .f32⟩
  | .hbm, ⟨38, _⟩ => ⟨S32768x3072, .bf16⟩
  | .hbm, ⟨39, _⟩ => ⟨S4x1024x8192, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Odd.lean ====
abbrev S4x8192x1024 : Shape := ⟨3, ![4, 8192, 1024]⟩
abbrev S1024 : Shape := ⟨1, ![1024]⟩
abbrev S1024x3632 : Shape := ⟨2, ![1024, 3632]⟩
abbrev S8192x512 : Shape := ⟨2, ![8192, 512]⟩
abbrev S1024x1024 : Shape := ⟨2, ![1024, 1024]⟩
abbrev S1024x256 : Shape := ⟨2, ![1024, 256]⟩
abbrev S1024x48 : Shape := ⟨2, ![1024, 48]⟩
abbrev S1024x4x64 : Shape := ⟨3, ![1024, 4, 64]⟩
abbrev S_ : Shape := ⟨0, ![]⟩
abbrev S1024x4x128 : Shape := ⟨3, ![1024, 4, 128]⟩
abbrev S1024x512 : Shape := ⟨2, ![1024, 512]⟩
abbrev S1024x2560 : Shape := ⟨2, ![1024, 2560]⟩
abbrev S48x1024 : Shape := ⟨2, ![48, 1024]⟩
abbrev S4x12x1024 : Shape := ⟨3, ![4, 12, 1024]⟩
abbrev S4x16x1024 : Shape := ⟨3, ![4, 16, 1024]⟩
abbrev S64x1024 : Shape := ⟨2, ![64, 1024]⟩
abbrev S1024x1536 : Shape := ⟨2, ![1024, 1536]⟩
abbrev S1536x1024 : Shape := ⟨2, ![1536, 1024]⟩
abbrev S32768x1024 : Shape := ⟨2, ![32768, 1024]⟩
abbrev S1x1024 : Shape := ⟨2, ![1, 1024]⟩
abbrev S32768x2560 : Shape := ⟨2, ![32768, 2560]⟩
abbrev S32768x256 : Shape := ⟨2, ![32768, 256]⟩
abbrev S4x1536x8192 : Shape := ⟨3, ![4, 1536, 8192]⟩
abbrev S4x64x8192 : Shape := ⟨3, ![4, 64, 8192]⟩
abbrev S1024x1280 : Shape := ⟨2, ![1024, 1280]⟩
abbrev S1x1536x1024 : Shape := ⟨3, ![1, 1536, 1024]⟩
abbrev S1x64x1024 : Shape := ⟨3, ![1, 64, 1024]⟩
abbrev S1024x1 : Shape := ⟨2, ![1024, 1]⟩

abbrev nBuf : Space → Nat
  | .hbm => 45
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3632, .f32⟩
  | .hbm, ⟨3, _⟩ => ⟨S8192x512, .bf16⟩
  | .hbm, ⟨4, _⟩ => ⟨S1024x1024, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x48, .f32⟩
  | .hbm, ⟨12, _⟩ => ⟨S1024x1024, .f32⟩
  | .hbm, ⟨13, _⟩ => ⟨S1024x4x64, .f32⟩
  | .hbm, ⟨14, _⟩ => ⟨S_, .i32⟩
  | .hbm, ⟨15, _⟩ => ⟨S_, .f32⟩
  | .hbm, ⟨16, _⟩ => ⟨S1024x4x128, .f32⟩
  | .hbm, ⟨17, _⟩ => ⟨S1024x512, .f32⟩
  | .hbm, ⟨18, _⟩ => ⟨S1024x4x64, .f32⟩
  | .hbm, ⟨19, _⟩ => ⟨S_, .i32⟩
  | .hbm, ⟨20, _⟩ => ⟨S_, .f32⟩
  | .hbm, ⟨21, _⟩ => ⟨S1024x4x128, .f32⟩
  | .hbm, ⟨22, _⟩ => ⟨S1024x512, .f32⟩
  | .hbm, ⟨23, _⟩ => ⟨S1024x2560, .f32⟩
  | .hbm, ⟨24, _⟩ => ⟨S1024x2560, .bf16⟩
  | .hbm, ⟨25, _⟩ => ⟨S48x1024, .f32⟩
  | .hbm, ⟨26, _⟩ => ⟨S4x12x1024, .f32⟩
  | .hbm, ⟨27, _⟩ => ⟨S_, .i32⟩
  | .hbm, ⟨28, _⟩ => ⟨S_, .f32⟩
  | .hbm, ⟨29, _⟩ => ⟨S4x16x1024, .f32⟩
  | .hbm, ⟨30, _⟩ => ⟨S64x1024, .f32⟩
  | .hbm, ⟨31, _⟩ => ⟨S64x1024, .bf16⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1536, .f32⟩
  | .hbm, ⟨36, _⟩ => ⟨S1536x1024, .f32⟩
  | .hbm, ⟨37, _⟩ => ⟨S1536x1024, .bf16⟩
  | .hbm, ⟨38, _⟩ => ⟨S32768x1024, .f32⟩
  | .hbm, ⟨39, _⟩ => ⟨S1x1024, .f32⟩
  | .hbm, ⟨40, _⟩ => ⟨S32768x2560, .bf16⟩
  | .hbm, ⟨41, _⟩ => ⟨S32768x256, .bf16⟩
  | .hbm, ⟨42, _⟩ => ⟨S32768x256, .bf16⟩
  | .hbm, ⟨43, _⟩ => ⟨S4x1536x8192, .bf16⟩
  | .hbm, ⟨44, _⟩ => ⟨S4x64x8192, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1280, .bf16⟩
  | .local _ .vmem, ⟨5, _⟩ => ⟨S1024x512, .bf16⟩
  | .local _ .vmem, ⟨6, _⟩ => ⟨S1024x512, .bf16⟩
  | .local _ .vmem, ⟨7, _⟩ => ⟨S1536x1024, .bf16⟩
  | .local _ .vmem, ⟨8, _⟩ => ⟨S64x1024, .bf16⟩
  | .local _ .vmem, ⟨9, _⟩ => ⟨S1024x1280, .bf16⟩
  | .local _ .vmem, ⟨10, _⟩ => ⟨S1024x1280, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1x1536x1024, .bf16⟩
  | .local _ .vmem, ⟨16, _⟩ => ⟨S1x1536x1024, .bf16⟩
  | .local _ .vmem, ⟨17, _⟩ => ⟨S1x64x1024, .f32⟩
  | .local _ .vmem, ⟨18, _⟩ => ⟨S1x64x1024, .f32⟩
  | .local _ .vmem, ⟨19, _⟩ => ⟨S1024x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_call2_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev main_v29_2 : Ref sig .tc := ⟨.hbm, 42, rfl⟩
abbrev main_v29_3 : Ref sig .tc := ⟨.hbm, 43, rfl⟩
abbrev main_v29_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c0_i32_6 : BitVec 32 := 0#32
  let v9 : BitVec 1 := Scalar.cmpi .eq arg1 c0_i32_6
  let v10 : BitVec 32 := Scalar.extui v9
  let c0_i32_7 : BitVec 32 := 0#32
  let v11 : BitVec 1 := Scalar.cmpi .ne v10 c0_i32_7
  v11

def k0_cond3 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1536x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== OddRefIdeal.lean ====
abbrev S4x8192x1024 : Shape := ⟨3, ![4, 8192, 1024]⟩
abbrev S1024 : Shape := ⟨1, ![1024]⟩
abbrev S1024x3632 : Shape := ⟨2, ![1024, 3632]⟩
abbrev S8192x512 : Shape := ⟨2, ![8192, 512]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3632 : Shape := ⟨3, ![4, 8192, 3632]⟩
abbrev S4x8192x256 : Shape := ⟨3, ![4, 8192, 256]⟩
abbrev S4x8192x48 : Shape := ⟨3, ![4, 8192, 48]⟩
abbrev S4x8192x4x64 : Shape := ⟨4, ![4, 8192, 4, 64]⟩
abbrev S4x8192x4x128 : Shape := ⟨4, ![4, 8192, 4, 128]⟩
abbrev S4x8192x512 : Shape := ⟨3, ![4, 8192, 512]⟩
abbrev S1x8192x512 : Shape := ⟨3, ![1, 8192, 512]⟩
abbrev S4x8192x2560 : Shape := ⟨3, ![4, 8192, 2560]⟩
abbrev S32768x2560 : Shape := ⟨2, ![32768, 2560]⟩
abbrev S4x8192x1536 : Shape := ⟨3, ![4, 8192, 1536]⟩
abbrev S4x1536x8192 : Shape := ⟨3, ![4, 1536, 8192]⟩
abbrev S4x8192x4x12 : Shape := ⟨4, ![4, 8192, 4, 12]⟩
abbrev S4x8192x4x16 : Shape := ⟨4, ![4, 8192, 4, 16]⟩
abbrev S4x8192x64 : Shape := ⟨3, ![4, 8192, 64]⟩
abbrev S4x64x8192 : Shape := ⟨3, ![4, 64, 8192]⟩
abbrev S32768x256 : Shape := ⟨2, ![32768, 256]⟩

abbrev nBuf : Space → Nat
  | .hbm => 67
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3632, .f32⟩
  | .hbm, ⟨3, _⟩ => ⟨S8192x512, .bf16⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S4x8192x3632, .f32⟩
  | .hbm, ⟨21, _⟩ => ⟨S4x8192x1024, .f32⟩
  | .hbm, ⟨22, _⟩ => ⟨S4x8192x256, .f32⟩
  | .hbm, ⟨23, _⟩ => ⟨S4x8192x256, .f32⟩
  | .hbm, ⟨24, _⟩ => ⟨S4x8192x256, .f32⟩
  | .hbm, ⟨25, _⟩ => ⟨S4x8192x256, .f32⟩
  | .hbm, ⟨26, _⟩ => ⟨S4x8192x256, .f32⟩
  | .hbm, ⟨27, _⟩ => ⟨S4x8192x256, .f32⟩
  | .hbm, ⟨28, _⟩ => ⟨S4x8192x48, .f32⟩
  | .hbm, ⟨29, _⟩ => ⟨S4x8192x1024, .f32⟩
  | .hbm, ⟨30, _⟩ => ⟨S4x8192x4x64, .f32⟩
  | .hbm, ⟨31, _⟩ => ⟨S_, .i32⟩
  | .hbm, ⟨32, _⟩ => ⟨S_, .f32⟩
  | .hbm, ⟨33, _⟩ => ⟨S4x8192x4x128, .f32⟩
  | .hbm, ⟨34, _⟩ => ⟨S4x8192x512, .f32⟩
  | .hbm, ⟨35, _⟩ => ⟨S8192x512, .f32⟩
  | .hbm, ⟨36, _⟩ => ⟨S1x8192x512, .f32⟩
  | .hbm, ⟨37, _⟩ => ⟨S4x8192x512, .f32⟩
  | .hbm, ⟨38, _⟩ => ⟨S4x8192x512, .f32⟩
  | .hbm, ⟨39, _⟩ => ⟨S4x8192x4x64, .f32⟩
  | .hbm, ⟨40, _⟩ => ⟨S_, .i32⟩
  | .hbm, ⟨41, _⟩ => ⟨S_, .f32⟩
  | .hbm, ⟨42, _⟩ => ⟨S4x8192x4x128, .f32⟩
  | .hbm, ⟨43, _⟩ => ⟨S4x8192x512, .f32⟩
  | .hbm, ⟨44, _⟩ => ⟨S8192x512, .f32⟩
  | .hbm, ⟨45, _⟩ => ⟨S1x8192x512, .f32⟩
  | .hbm, ⟨46, _⟩ => ⟨S4x8192x512, .f32⟩
  | .hbm, ⟨47, _⟩ => ⟨S4x8192x512, .f32⟩
  | .hbm, ⟨48, _⟩ => ⟨S4x8192x2560, .f32⟩
  | .hbm, ⟨49, _⟩ => ⟨S32768x2560, .f32⟩
  | .hbm, ⟨50, _⟩ => ⟨S_, .f32⟩
  | .hbm, ⟨51, _⟩ => ⟨S4x8192x1024, .f32⟩
  | .hbm, ⟨52, _⟩ => ⟨S4x8192x1024, .f32⟩
  | .hbm, ⟨53, _⟩ => ⟨S4x8192x1536, .f32⟩
  | .hbm, ⟨54, _⟩ => ⟨S4x1536x8192, .f32⟩
  | .hbm, ⟨55, _⟩ => ⟨S4x8192x4x12, .f32⟩
  | .hbm, ⟨56, _⟩ => ⟨S_, .i32⟩
  | .hbm, ⟨57, _⟩ => ⟨S_, .f32⟩
  | .hbm, ⟨58, _⟩ => ⟨S4x8192x4x16, .f32⟩
  | .hbm, ⟨59, _⟩ => ⟨S4x8192x64, .f32⟩
  | .hbm, ⟨60, _⟩ => ⟨S4x64x8192, .f32⟩
  | .hbm, ⟨61, _⟩ => ⟨S32768x256, .f32⟩
  | .hbm, ⟨62, _⟩ => ⟨S32768x256, .f32⟩
  | .hbm, ⟨63, _⟩ => ⟨S32768x2560, .bf16⟩
  | .hbm, ⟨64, _⟩ => ⟨S32768x256, .bf16⟩
  | .hbm, ⟨65, _⟩ => ⟨S32768x256, .bf16⟩
  | .hbm, ⟨66, _⟩ => ⟨S4x1536x8192, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_call0_v0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_call1_v0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_4 : Ref sig .tc := ⟨.hbm, 56, rfl⟩
abbrev main_call2_v0 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Proof.Pure.lean ====
module

public import proofs.«01_k».proof.Proof.Gen.KernelIdeal.Skeleton
public import Idealize.ShloMosaic.Lib.VecWindow

@[expose] public section

set_option maxRecDepth 16384

/-! # What one grid point of the attention computes, as pure functions of its blocks

A grid point holds one query tile of 512 queries of a pair of heads, and goes over the key tiles `0 … qi - 1` below the
diagonal and then over the diagonal tile `qi`.  Scores are stored key by query: a tile is `512 × 512`, one column per
query.  `score h n` is the tile of head `h` of the pair against key tile `n`; `mrun h n` and `arun h n` are the running
column maximum and the running accumulator after the first `n` tiles; `diag` is the step over the diagonal tile, whose
first 256 keys meet every query and whose last 256 keys meet only the last 256 queries. -/

noncomputable section

namespace Cert.KernelIdeal.Fox

open Idealize.ShloMosaic
open Cert.KernelIdeal.Gen

variable {F : FTy → Type} [FloatOps F] [Named F]

/-- The box of sizes `size` of `x` at offsets `off`, the coordinates taken round at the extents (no box below sticks
    out, so that nothing is ever taken round). -/
def blk {α : Type} {s : Shape} (x : s.Idx → α) (off size : Fin s.rank → ℕ) (pos : ∀ a, 0 < s.size a) :
    ((a : Fin s.rank) → Fin (size a)) → α :=
  fun y => x fun a => ⟨(off a + (y a).val) % s.size a, Nat.mod_lt _ (pos a)⟩

theorem readAt_blk {sig : RefSig} {κ : Kind} {sp : Space} {s : Shape} {e : EltTy} {Val : EltTy → Type}
    (v : View sig κ sp s e) (f : v.ty.Contents Val) {off off' size : Fin s.rank → ℕ} (inb : ∀ a, off a + size a ≤ s.size a)
    (pos : ∀ a, 0 < s.size a) (h : off = off') :
    v.readAt Val (Rect.unit off size inb).toLoadRect f = blk (v.read Val f) off' size pos := by
  subst h
  funext y
  refine congrArg (v.read Val f) (funext fun a => Fin.ext ?_)
  show off a + 1 * (y a).val = (off a + (y a).val) % s.size a
  have hs : (y a).val < size a := (y a).isLt
  have := inb a
  rw [Nat.mod_eq_of_lt (by omega)]
  omega

/-- Key tile `n`. -/
def kblk (x : Vec F S1x8192x128 .bf16) (n : ℕ) : Vec F S1x512x128 .bf16 :=
  blk x ![0, 512 * n, 0] S1x512x128.size (by decide)

/-- The features of key tile `n`. -/
def kfblk (x : Vec F S1x1x8192x128 .bf16) (n : ℕ) : Vec F S1x1x512x128 .bf16 :=
  blk x ![0, 0, 512 * n, 0] S1x1x512x128.size (by decide)

/-- The values of key tile `n`, head `h` of the pair. -/
def vblk (x : Vec F S1x128x8192 .bf16) (h n : ℕ) : Vec F S1x64x512 .bf16 :=
  blk x ![0, 64 * h, 512 * n] S1x64x512.size (by decide)

/-- The columns of the score operand that belong to head `h`. -/
def bmblk (x : Vec F S256x1024 .bf16) (h : ℕ) : Vec F S256x512 .bf16 :=
  blk x ![0, 512 * h] S256x512.size (by decide)

/-- The score operand: zero but for the queries and the query features of each head in the columns of that head. -/
def bmat (x3 : Vec F S1x128x512 .bf16) (x4 : Vec F S1x1x2x16x512 .bf16) : Vec F S256x1024 .bf16 :=
  VecWindow.put (s := S256x1024)
    (VecWindow.put (s := S256x1024)
      (VecWindow.put (s := S256x1024)
        (VecWindow.put (s := S256x1024) (k0_pay92 (F := F))
          ![0, 0] S64x512.size (k0_pay93 (blk x3 ![0, 0, 0] S1x64x512.size (by decide))))
        ![128, 0] S16x512.size (k0_pay94 (blk x4 ![0, 0, 0, 0, 0] S1x1x1x16x512.size (by decide))))
      ![64, 512] S64x512.size (k0_pay95 (blk x3 ![0, 64, 0] S1x64x512.size (by decide))))
    ![128, 512] S16x512.size (k0_pay96 (blk x4 ![0, 0, 1, 0, 0] S1x1x1x16x512.size (by decide)))

section Tile

variable (x5 : Vec F S1x8192x128 .bf16) (x6 : Vec F S1x1x8192x128 .bf16) (x7 : Vec F S1x128x8192 .bf16)
  (x8 : Vec F S512x512 .f32) (bm : Vec F S256x1024 .bf16)

/-- The scores of key tile `n` under head `h`. -/
def score (h n : ℕ) : FVec F S512x512 .f32 := k0_pay3 (kblk x5 n) (kfblk x6 n) (bmblk bm h)

/-- Their maxima, one per query. -/
def smax (h n : ℕ) : FVec F S1x1x512 .f32 := k0_pay4 (kblk x5 n) (kfblk x6 n) (bmblk bm h)

/-- The running maximum after the first `n` key tiles. -/
def mrun (h : ℕ) : ℕ → FVec F S1x512 .f32
  | 0 => k0_pay105
  | n + 1 => k0_pay5 (mrun h n) (smax x5 x6 bm h n)

/-- The running accumulator after the first `n` key tiles: 64 rows of weighted values and 16 rows of the weights' sum. -/
def arun (h : ℕ) : ℕ → FVec F S1x80x512 .f32
  | 0 => blk (s := S2x80x512) (k0_pay97 (F := F)) ![h, 0, 0] S1x80x512.size (by decide)
  | n + 1 => k0_pay7 (k0_pay98 (F := F)) (mrun x5 x6 bm h n) (mrun x5 x6 bm h (n + 1)) (score x5 x6 bm h n)
      (k0_pay6 (mrun x5 x6 bm h n) (smax x5 x6 bm h n)) (vblk x7 h n) (arun h n)

/-- The first 256 keys of the diagonal tile. -/
def dtop (h n : ℕ) : Vec F S256x512 .f32 := blk (s := S512x512) (score x5 x6 bm h n) ![0, 0] S256x512.size (by decide)

/-- The last 256 keys of the diagonal tile, under the last 256 queries. -/
def dbot (h n : ℕ) : Vec F S256x256 .f32 := blk (s := S512x512) (score x5 x6 bm h n) ![256, 256] S256x256.size (by decide)

/-- The accumulator after the first 256 keys of the diagonal tile. -/
def adiag (h n : ℕ) : FVec F S1x80x512 .f32 :=
  k0_pay80 (k0_pay98 (F := F)) (mrun x5 x6 bm h n) x8 (dtop x5 x6 bm h n) (vblk x7 h n) (arun x5 x6 x7 bm h n)

/-- Its last 256 columns after the last 256 keys. -/
def adiag2 (h n : ℕ) : FVec F S1x80x256 .f32 :=
  k0_pay84 (k0_pay98 (F := F)) (k0_pay81 (mrun x5 x6 bm h n) x8 (dtop x5 x6 bm h n)) (k0_pay82 x8 (dbot x5 x6 bm h n))
    (k0_pay83 (mrun x5 x6 bm h n) x8 (dtop x5 x6 bm h n) (dbot x5 x6 bm h n)) (vblk x7 h n)
    (blk (s := S1x80x512) (adiag x5 x6 x7 x8 bm h n) ![0, 0, 256] S1x80x256.size (by decide))

/-- The accumulator at the end. -/
def afin (h n : ℕ) : FVec F S1x80x512 .f32 :=
  VecWindow.put (s := S1x80x512) (adiag x5 x6 x7 x8 bm h n) ![0, 0, 256] S1x80x256.size (adiag2 x5 x6 x7 x8 bm h n)

/-- The block of the result: both heads' weighted values over their sums, query by query. -/
def fout (n : ℕ) : FVec F S1x512x128 .bf16 :=
  k0_pay1 (k0_pay109 (afin x5 x6 x7 x8 bm 0 n)) (afin x5 x6 x7 x8 bm 1 n)

end Tile

end Cert.KernelIdeal.Fox
-- ==== Proof.Reads.lean ====
module

public import proofs.«01_k».proof.Proof.Pure
public import Idealize.ShloMosaic.Lib.Pipeline.ReadBack

@[expose] public section

/-! # Loads after stores

A load of the box stored last reads its payload, a load apart from it reads what was there before; and a load inside a box
whose own load is known reads a box of that. -/

noncomputable section

namespace Cert.KernelIdeal.Fox

open Idealize.ShloMosaic

variable {sig : RefSig} {κ : Kind} {sp : Space} {s : Shape} {e : EltTy} {Val : EltTy → Type}

theorem readAt_writes_same (v : View sig κ sp s e) (f : v.ty.Contents Val) (r : Rect s) (w : r.shape.Idx → Val e)
    (L : List (View.Piece Val s e)) : v.readAt Val r.toLoadRect (v.writes Val f (⟨r, w⟩ :: L)) = w := by
  rw [View.readAt_rect, View.writes_cons, View.read_write_univ]

theorem readAt_writes_skip (v : View sig κ sp s e) (f : v.ty.Contents Val) (r : Rect s) (w : r.shape.Idx → Val e)
    (L : List (View.Piece Val s e)) (B : LoadRect s) (h : LoadRect.disj r B = true) :
    v.readAt Val B (v.writes Val f (⟨r, w⟩ :: L)) = v.readAt Val B (v.writes Val f L) := by
  exact View.readAt_writes_of_forall_not_mem v (v.writes Val f L) [⟨r, w⟩] B fun j p hp => by
    rw [List.mem_singleton.mp hp]
    exact LoadRect.idx_not_mem_of_disj h j

/-- A load of a box inside another reads a box of what the other's load reads. -/
theorem readAt_inside (v : View sig κ sp s e) (f : v.ty.Contents Val) {off size off' size' d : Fin s.rank → ℕ}
    (inb : ∀ a, off a + size a ≤ s.size a) (inb' : ∀ a, off' a + size' a ≤ s.size a)
    (h : ∀ a, off' a = off a + d a ∧ d a + size' a ≤ size a) (pos : ∀ a, 0 < size a)
    {x : (Rect.unit off size inb).shape.Idx → Val e} (hx : v.readAt Val (Rect.unit off size inb).toLoadRect f = x) :
    v.readAt Val (Rect.unit off' size' inb').toLoadRect f = blk (s := ⟨s.rank, size⟩) x d size' pos := by
  subst hx
  funext y
  refine congrArg (v.read Val f) (funext fun a => Fin.ext ?_)
  show off' a + 1 * (y a).val = off a + 1 * ((d a + (y a).val) % size a)
  have hs : (y a).val < size' a := (y a).isLt
  have := h a
  rw [Nat.mod_eq_of_lt (by omega)]
  omega

/-- A load of a box after a store inside it reads what was there with the payload put in. -/
theorem readAt_writes_put (v : View sig κ sp s e) (f : v.ty.Contents Val) {off size off' size' d : Fin s.rank → ℕ}
    (inb : ∀ a, off a + size a ≤ s.size a) (inb' : ∀ a, off' a + size' a ≤ s.size a)
    (h : ∀ a, off' a = off a + d a) (w : (Rect.unit off' size' inb').shape.Idx → Val e) (L : List (View.Piece Val s e))
    {x : (Rect.unit off size inb).shape.Idx → Val e}
    (hx : v.readAt Val (Rect.unit off size inb).toLoadRect (v.writes Val f L) = x) :
    v.readAt Val (Rect.unit off size inb).toLoadRect (v.writes Val f (⟨Rect.unit off' size' inb', w⟩ :: L))
      = VecWindow.put (s := ⟨s.rank, size⟩) x d size' w := by
  subst hx
  funext y
  show v.read Val (v.writes Val f (⟨Rect.unit off' size' inb', w⟩ :: L)) ((Rect.unit off size inb).emb y) = _
  rw [View.read_writes_cons_put v f inb' w L rfl]
  unfold VecWindow.put
  have e : ∀ a, ((Rect.unit off size inb).emb y a).val = off a + 1 * (y a).val := fun a => rfl
  by_cases hc : ∀ a, off' a ≤ ((Rect.unit off size inb).emb y a).val ∧ ((Rect.unit off size inb).emb y a).val < off' a + size' a
  · have hc' : ∀ a, d a ≤ (y a).val ∧ (y a).val < d a + size' a := fun a => by
      have := hc a
      have := e a
      have := h a
      omega
    rw [dif_pos hc]
    refine Eq.trans ?_ (dif_pos hc').symm
    refine congrArg w (funext fun a => Fin.ext ?_)
    show ((Rect.unit off size inb).emb y a).val - off' a = (y a).val - d a
    have := e a
    have := h a
    omega
  · have hc' : ¬ ∀ a, d a ≤ (y a).val ∧ (y a).val < d a + size' a := fun hh => hc fun a => by
      have := hh a
      have := e a
      have := h a
      omega
    rw [dif_neg hc]
    refine Eq.trans ?_ (dif_neg hc').symm
    rfl

end Cert.KernelIdeal.Fox
-- ==== Proof.Offsets.lean ====
module

public import proofs.«01_k».proof.Proof.Gen.KernelIdeal.Skeleton

@[expose] public section

set_option maxRecDepth 16384

/-! # Where the kernel reads: the trip counts, the branch and the offsets in closed form -/

namespace Cert.KernelIdeal.Fox

open Idealize.ShloMosaic
open Cert.KernelIdeal.Gen

/-- The main loop goes over the key tiles below the diagonal two by two. -/
theorem trips1_eq (i : grid0.Coords) : (k0_t1_loop i).trips = (i 2).val / 2 := by
  have h : (i 2).val < 16 := (i 2).isLt
  unfold k0_t1_loop
  generalize (i 2).val = n at h
  interval_cases n <;> decide +kernel

/-- The remainder loop makes no trip. -/
theorem trips2_eq (i : grid0.Coords) : (k0_t2_loop i).trips = 0 := by
  have h : (i 2).val < 16 := (i 2).isLt
  unfold k0_t2_loop
  generalize (i 2).val = n at h
  interval_cases n <;> decide +kernel

/-- The branch asks whether one key tile below the diagonal is left. -/
theorem cond1_eq (i : grid0.Coords) : k0_cond1 i = 1#1 ↔ (i 2).val % 2 = 1 := by
  have h : (i 2).val < 16 := (i 2).isLt
  unfold k0_cond1
  generalize (i 2).val = n at h
  interval_cases n <;> decide +kernel

theorem lt8 (i : grid0.Coords) (k : Fin (k0_t1_loop i).trips) : k.val < 8 := by
  have h : (i 2).val < 16 := (i 2).isLt
  have := k.isLt
  have := trips1_eq i
  omega

theorem off1_one_eq (i : grid0.Coords) (k : Fin (k0_t1_loop i).trips) : k0_off1 i k 1#32 = ![0, 512 * (2 * k.val + 1), 0] := by
  have h : k.val < 8 := lt8 i k
  unfold k0_off1
  generalize k.val = n at h
  interval_cases n <;> decide +kernel

theorem off1_two_eq (i : grid0.Coords) (k : Fin (k0_t1_loop i).trips) : k0_off1 i k 2#32 = ![0, 512 * (2 * k.val + 2), 0] := by
  have h : k.val < 8 := lt8 i k
  unfold k0_off1
  generalize k.val = n at h
  interval_cases n <;> decide +kernel

theorem off2_one_eq (i : grid0.Coords) (k : Fin (k0_t1_loop i).trips) : k0_off2 i k 1#32 = ![0, 0, 512 * (2 * k.val + 1), 0] := by
  have h : k.val < 8 := lt8 i k
  unfold k0_off2
  generalize k.val = n at h
  interval_cases n <;> decide +kernel

theorem off2_two_eq (i : grid0.Coords) (k : Fin (k0_t1_loop i).trips) : k0_off2 i k 2#32 = ![0, 0, 512 * (2 * k.val + 2), 0] := by
  have h : k.val < 8 := lt8 i k
  unfold k0_off2
  generalize k.val = n at h
  interval_cases n <;> decide +kernel

theorem off3_eq (i : grid0.Coords) (k : Fin (k0_t1_loop i).trips) : k0_off3 i k = ![0, 0, 512 * (2 * k.val)] := by
  have h : k.val < 8 := lt8 i k
  unfold k0_off3
  generalize k.val = n at h
  interval_cases n <;> decide +kernel

theorem off4_eq (i : grid0.Coords) (k : Fin (k0_t1_loop i).trips) : k0_off4 i k = ![0, 64, 512 * (2 * k.val)] := by
  have h : k.val < 8 := lt8 i k
  unfold k0_off4
  generalize k.val = n at h
  interval_cases n <;> decide +kernel

theorem off5_eq (i : grid0.Coords) (k : Fin (k0_t1_loop i).trips) : k0_off5 i k = ![0, 0, 512 * (2 * k.val + 1)] := by
  have h : k.val < 8 := lt8 i k
  unfold k0_off5
  generalize k.val = n at h
  interval_cases n <;> decide +kernel

theorem off6_eq (i : grid0.Coords) (k : Fin (k0_t1_loop i).trips) : k0_off6 i k = ![0, 64, 512 * (2 * k.val + 1)] := by
  have h : k.val < 8 := lt8 i k
  unfold k0_off6
  generalize k.val = n at h
  interval_cases n <;> decide +kernel

theorem off13_eq (i : grid0.Coords) : k0_off13 i = ![0, 512 * (i 2).val, 0] := by
  have h : (i 2).val < 16 := (i 2).isLt
  unfold k0_off13
  generalize (i 2).val = n at h
  interval_cases n <;> decide +kernel

theorem off14_eq (i : grid0.Coords) : k0_off14 i = ![0, 0, 512 * (i 2).val, 0] := by
  have h : (i 2).val < 16 := (i 2).isLt
  unfold k0_off14
  generalize (i 2).val = n at h
  interval_cases n <;> decide +kernel

theorem off15_eq (i : grid0.Coords) (hi : (i 2).val % 2 = 1) : k0_off15 i = ![0, 0, 512 * ((i 2).val - 1)] := by
  have h : (i 2).val < 16 := (i 2).isLt
  unfold k0_off15
  generalize (i 2).val = n at h hi
  interval_cases n <;> first | decide +kernel | omega

theorem off16_eq (i : grid0.Coords) (hi : (i 2).val % 2 = 1) : k0_off16 i = ![0, 64, 512 * ((i 2).val - 1)] := by
  have h : (i 2).val < 16 := (i 2).isLt
  unfold k0_off16
  generalize (i 2).val = n at h hi
  interval_cases n <;> first | decide +kernel | omega

theorem off17_eq (i : grid0.Coords) : k0_off17 i = ![0, 0, 512 * (i 2).val] := by
  have h : (i 2).val < 16 := (i 2).isLt
  unfold k0_off17
  generalize (i 2).val = n at h
  interval_cases n <;> decide +kernel

theorem off18_eq (i : grid0.Coords) : k0_off18 i = ![0, 64, 512 * (i 2).val] := by
  have h : (i 2).val < 16 := (i 2).isLt
  unfold k0_off18
  generalize (i 2).val = n at h
  interval_cases n <;> decide +kernel

theorem off19_eq (i : grid0.Coords) : k0_off19 i = ![0, 0, 512 * (i 2).val] := by
  have h : (i 2).val < 16 := (i 2).isLt
  unfold k0_off19
  generalize (i 2).val = n at h
  interval_cases n <;> decide +kernel

theorem off20_eq (i : grid0.Coords) : k0_off20 i = ![0, 64, 512 * (i 2).val] := by
  have h : (i 2).val < 16 := (i 2).isLt
  unfold k0_off20
  generalize (i 2).val = n at h
  interval_cases n <;> decide +kernel

end Cert.KernelIdeal.Fox
-- ==== Proof.Loop.lean ====
module

public import proofs.«01_k».proof.Proof.Reads
public import proofs.«01_k».proof.Proof.Offsets
public import Idealize.ShloMosaic.Lib.Exec
public import Idealize.ShloMosaic.Lib.Tactic
public import Idealize.ShloMosaic.Lib.Pipeline.Kit

@[expose] public section

set_option maxRecDepth 16384
set_option maxHeartbeats 4000000

/-! # One trip of the main loop -/

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

variable (𝒱 : Variants) (c : Dev nD) (bd : Option 𝒱.V) (E : Set ℕ) (i : grid0.Coords) (arg3 : Memref sig .tc .vmem S1x128x512 .bf16) (harg3 : arg3.IsWhole) (arg4 : Memref sig .tc .vmem S1x1x2x16x512 .bf16) (harg4 : arg4.IsWhole) (arg5 : Memref sig .tc .vmem S1x8192x128 .bf16) (harg5 : arg5.IsWhole) (arg6 : Memref sig .tc .vmem S1x1x8192x128 .bf16) (harg6 : arg6.IsWhole) (arg7 : Memref sig .tc .vmem S1x128x8192 .bf16) (harg7 : arg7.IsWhole) (arg8 : Memref sig .tc .vmem S512x512 .f32) (harg8 : arg8.IsWhole) (arg9 : Memref sig .tc .vmem S1x512x128 .bf16) (harg9 : arg9.IsWhole) (arg10 : Memref sig .tc .vmem S256x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S2x1x1024 .f32) (harg13 : arg13.IsWhole) (arg14 : Memref sig .tc .vmem S2x80x512 .f32) (harg14 : arg14.IsWhole)

/-- The scratch buffers before the trip that takes key tiles `n` and `n + 1`: the first score buffer holds the scores of
    tile `n` and the first row of maxima theirs, the accumulator is the running one, and the carried rows are the
    running maxima.  (The second score buffer and the second row of maxima hold whatever the trip before left.) -/
structure LoopGood (x5 : Vec F S1x8192x128 .bf16) (x6 : Vec F S1x1x8192x128 .bf16) (x7 : Vec F S1x128x8192 .bf16)
    (bm : Vec F S256x1024 .bf16) (n : ℕ) (acc : FVec F S1x512 .f32 × FVec F S1x512 .f32)
    (f11 : BufTy.Contents (Elt F) arg11.view.ty) (f13 : BufTy.Contents (Elt F) arg13.view.ty)
    (f14 : BufTy.Contents (Elt F) arg14.view.ty) : Prop where
  m0 : acc.1 = mrun x5 x6 bm 0 n
  m1 : acc.2 = mrun x5 x6 bm 1 n
  s0 : arg11.view.readAt (Elt F) (Rect.unit (s := S512x1024) ![0, 0] S512x512.size (by decide)).toLoadRect f11 = score x5 x6 bm 0 n
  s1 : arg11.view.readAt (Elt F) (Rect.unit (s := S512x1024) ![0, 512] S512x512.size (by decide)).toLoadRect f11 = score x5 x6 bm 1 n
  x0 : arg13.view.readAt (Elt F) (Rect.unit (s := S2x1x1024) ![0, 0, 0] S1x1x512.size (by decide)).toLoadRect f13 = smax x5 x6 bm 0 n
  x1 : arg13.view.readAt (Elt F) (Rect.unit (s := S2x1x1024) ![0, 0, 512] S1x1x512.size (by decide)).toLoadRect f13 = smax x5 x6 bm 1 n
  a0 : arg14.view.readAt (Elt F) (Rect.unit (s := S2x80x512) ![0, 0, 0] S1x80x512.size (by decide)).toLoadRect f14 = arun x5 x6 x7 bm 0 n
  a1 : arg14.view.readAt (Elt F) (Rect.unit (s := S2x80x512) ![1, 0, 0] S1x80x512.size (by decide)).toLoadRect f14 = arun x5 x6 x7 bm 1 n

/-- The buffers a trip touches. -/
abbrev LoopRes (X5 : BufTy.Contents (Elt F) arg5.view.ty) (X6 : BufTy.Contents (Elt F) arg6.view.ty) (X7 : BufTy.Contents (Elt F) arg7.view.ty)
    (X10 : BufTy.Contents (Elt F) arg10.view.ty) (f11 : BufTy.Contents (Elt F) arg11.view.ty) (f12 : BufTy.Contents (Elt F) arg12.view.ty)
    (f13 : BufTy.Contents (Elt F) arg13.view.ty) (f14 : BufTy.Contents (Elt F) arg14.view.ty) : sProp 𝕄 :=
  iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} X10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14))

/-- The invariant before trip `k`. -/
def loopInv (X5 : BufTy.Contents (Elt F) arg5.view.ty) (X6 : BufTy.Contents (Elt F) arg6.view.ty) (X7 : BufTy.Contents (Elt F) arg7.view.ty)
    (X10 : BufTy.Contents (Elt F) arg10.view.ty) (k : ℕ) (acc : FVec F S1x512 .f32 × FVec F S1x512 .f32) : sProp 𝕄 :=
  iprop(∃ f11 f12 f13 f14, LoopRes c arg5 arg6 arg7 arg10 arg11 arg12 arg13 arg14 X5 X6 X7 X10 f11 f12 f13 f14
    ∗ ⌜LoopGood arg11 arg13 arg14 (arg5.view.read (Elt F) X5) (arg6.view.read (Elt F) X6) (arg7.view.read (Elt F) X7)
      (arg10.view.read (Elt F) X10) (2 * k) acc f11 f13 f14⌝)

theorem loopStep (v41 : BitVec 32) (v46 : FVec F S16x512 .bf16) (v83 : FVec F S1x512 .f32) (c2_i32 : BitVec 32) (v84 : BitVec 32) (v89 : BitVec 32) (v91 : BitVec 32)
    (hv46 : v46 = k0_pay98 (F := F))
    (X5 : BufTy.Contents (Elt F) arg5.view.ty) (X6 : BufTy.Contents (Elt F) arg6.view.ty) (X7 : BufTy.Contents (Elt F) arg7.view.ty)
    (X10 : BufTy.Contents (Elt F) arg10.view.ty)
    (k : Fin (k0_t1_loop i).trips) (acc : FVec F S1x512 .f32 × FVec F S1x512 .f32) :
    loopInv c arg5 arg6 arg7 arg10 arg11 arg12 arg13 arg14 X5 X6 X7 X10 k.val acc
    ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 v41 v46 v83 c2_i32 v84 v89 v91 k acc)
        (loopInv c arg5 arg6 arg7 arg10 arg11 arg12 arg13 arg14 X5 X6 X7 X10 (k.val + 1)) := by
  subst hv46
  unfold k0_t1_body
  unfold loopInv
  iintro ⟨%f11, %f12, %f13, %f14, ⟨HR5, HR6, HR7, HR10, HW11, HW12, HW13, HW14⟩, %hg⟩
  sl_exec
  sl_step
  iexists _
  iexists _
  iexists _
  iexists _
  isplitl [HR5 HR6 HR7 HR10 HW11 HW12 HW13 HW14]
  · isplitl [HR5]
    · iexact HR5
    isplitl [HR6]
    · iexact HR6
    isplitl [HR7]
    · iexact HR7
    isplitl [HR10]
    · iexact HR10
    isplitl [HW11]
    · iexact HW11
    isplitl [HW12]
    · iexact HW12
    isplitl [HW13]
    · iexact HW13
    iexact HW14
  · ipureintro
    obtain ⟨m0, m1, s0, s1, x0, x1, a0, a1⟩ := hg
    refine ⟨?_, ?_, ?_, ?_, ?_, ?_, ?_, ?_⟩
    all_goals delta loopStep.sl.HW12_2 loopStep.sl.HW13_3 loopStep.sl.HW13_4 loopStep.sl.HW14_2 loopStep.sl.HW14_3 loopStep.sl.arg15 loopStep.sl.cst_104 loopStep.sl.cst_107 loopStep.sl.cst_122 loopStep.sl.r loopStep.sl.r_1 loopStep.sl.v143 loopStep.sl.v145 loopStep.sl.v147 loopStep.sl.v148 loopStep.sl.v150 loopStep.sl.v152 loopStep.sl.v155 loopStep.sl.v156 loopStep.sl.v158 loopStep.sl.v160 loopStep.sl.v161 loopStep.sl.v162 loopStep.sl.v163 loopStep.sl.v165 loopStep.sl.v166 loopStep.sl.v167 loopStep.sl.v169 loopStep.sl.v170 loopStep.sl.v171 loopStep.sl.v173 loopStep.sl.v174 loopStep.sl.v175 loopStep.sl.v176 loopStep.sl.v177 loopStep.sl.v178 loopStep.sl.v179 loopStep.sl.v181 loopStep.sl.v182 loopStep.sl.v184 loopStep.sl.v185 loopStep.sl.v186 loopStep.sl.v187 loopStep.sl.v188 loopStep.sl.v191 loopStep.sl.v202 loopStep.sl.v203 loopStep.sl.v204 loopStep.sl.v205 loopStep.sl.v206 loopStep.sl.v207 loopStep.sl.v208 loopStep.sl.v209 loopStep.sl.v210 loopStep.sl.v213 loopStep.sl.v214 loopStep.sl.v215 loopStep.sl.v217 loopStep.sl.v218 loopStep.sl.v219 loopStep.sl.v220 loopStep.sl.v221 loopStep.sl.v222 loopStep.sl.v225 loopStep.sl.v226 loopStep.sl.v227 loopStep.sl.v228 loopStep.sl.v229 loopStep.sl.v230 loopStep.sl.v231 loopStep.sl.v232 loopStep.sl.v235 loopStep.sl.v236 loopStep.sl.v238 loopStep.sl.v240 loopStep.sl.v243 loopStep.sl.v244 loopStep.sl.v246 loopStep.sl.v248 loopStep.sl.v249 loopStep.sl.v250 loopStep.sl.v251 loopStep.sl.v254 loopStep.sl.v257 loopStep.sl.v258 loopStep.sl.v259 loopStep.sl.v260 loopStep.sl.v261 loopStep.sl.v262 loopStep.sl.v263 loopStep.sl.v264 loopStep.sl.v265 loopStep.sl.v266 loopStep.sl.v269 loopStep.sl.v270 loopStep.sl.v271 loopStep.sl.v272 loopStep.sl.v273 loopStep.sl.v274 loopStep.sl.v275 loopStep.sl.v276 loopStep.sl.v279 loopStep.sl.v290 loopStep.sl.v291 loopStep.sl.v292 loopStep.sl.v293 loopStep.sl.v294 loopStep.sl.v295 loopStep.sl.v298 loopStep.sl.v301 loopStep.sl.v302 loopStep.sl.v303 loopStep.sl.v304 loopStep.sl.v305 loopStep.sl.v306 loopStep.sl.v307 loopStep.sl.v308 loopStep.sl.v309 loopStep.sl.v310 loopStep.sl.v315
    all_goals rw [show 2 * (k.val + 1) = 2 * k.val + 1 + 1 from rfl]
    all_goals repeat' (first
      | rw [View.readCov_cons_toLoadRect] | (rw [View.readCov_skip] <;> [skip; decide])
      | rw [readAt_writes_same] | (rw [readAt_writes_skip] <;> [skip; decide])
      | rw [readAt_blk arg5.view X5 _ (by decide) (off1_one_eq i k)] | rw [readAt_blk arg5.view X5 _ (by decide) (off1_two_eq i k)]
      | rw [readAt_blk arg6.view X6 _ (by decide) (off2_one_eq i k)] | rw [readAt_blk arg6.view X6 _ (by decide) (off2_two_eq i k)]
      | rw [readAt_blk arg7.view X7 _ (by decide) (off3_eq i k)] | rw [readAt_blk arg7.view X7 _ (by decide) (off4_eq i k)]
      | rw [readAt_blk arg7.view X7 _ (by decide) (off5_eq i k)] | rw [readAt_blk arg7.view X7 _ (by decide) (off6_eq i k)]
      | rw [readAt_blk arg10.view X10 (off := ![0, 0]) _ (by decide) rfl] | rw [readAt_blk arg10.view X10 (off := ![0, 512]) _ (by decide) rfl]
      | rw [s0] | rw [s1] | rw [x0] | rw [x1] | rw [a0] | rw [a1] | rw [m0] | rw [m1])
    all_goals rfl

end Cert.KernelIdeal.Fox
-- ==== Proof.Body.lean ====
module

public import proofs.«01_k».proof.Proof.Loop
public import Idealize.ShloMosaic.Lib.Exec
public import Idealize.ShloMosaic.Lib.Tactic
public import Idealize.ShloMosaic.Lib.Pipeline.Kit

@[expose] public section

set_option maxRecDepth 16384
set_option maxHeartbeats 4000000

/-! # The whole body of a grid point -/

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

variable (𝒱 : Variants) (c : Dev nD) (bd : Option 𝒱.V) (E : Set ℕ) (i : grid0.Coords) (arg3 : Memref sig .tc .vmem S1x128x512 .bf16) (harg3 : arg3.IsWhole) (arg4 : Memref sig .tc .vmem S1x1x2x16x512 .bf16) (harg4 : arg4.IsWhole) (arg5 : Memref sig .tc .vmem S1x8192x128 .bf16) (harg5 : arg5.IsWhole) (arg6 : Memref sig .tc .vmem S1x1x8192x128 .bf16) (harg6 : arg6.IsWhole) (arg7 : Memref sig .tc .vmem S1x128x8192 .bf16) (harg7 : arg7.IsWhole) (arg8 : Memref sig .tc .vmem S512x512 .f32) (harg8 : arg8.IsWhole) (arg9 : Memref sig .tc .vmem S1x512x128 .bf16) (harg9 : arg9.IsWhole) (arg10 : Memref sig .tc .vmem S256x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S2x1x1024 .f32) (harg13 : arg13.IsWhole) (arg14 : Memref sig .tc .vmem S2x80x512 .f32) (harg14 : arg14.IsWhole)

theorem body
    (x3 : Vec F S1x128x512 .bf16) (x4 : Vec F S1x1x2x16x512 .bf16) (x5 : Vec F S1x8192x128 .bf16)
    (x6 : Vec F S1x1x8192x128 .bf16) (x7 : Vec F S1x128x8192 .bf16) (x8 : Vec F S512x512 .f32) :
    ∀ (K : PUnit → sProp 𝕄),
      iprop(owns (c : Thread nD τ) arg3 fullShare x3 ∗ owns (c : Thread nD τ) arg4 fullShare x4 ∗ owns (c : Thread nD τ) arg5 fullShare x5
          ∗ owns (c : Thread nD τ) arg6 fullShare x6 ∗ owns (c : Thread nD τ) arg7 fullShare x7 ∗ owns (c : Thread nD τ) arg8 fullShare x8
          ∗ (∃ d, owns (c : Thread nD τ) arg9 fullShare d) ∗ (∃ d, owns (c : Thread nD τ) arg10 fullShare d)
          ∗ (∃ d, owns (c : Thread nD τ) arg11 fullShare d) ∗ (∃ d, owns (c : Thread nD τ) arg12 fullShare d)
          ∗ (∃ d, owns (c : Thread nD τ) arg13 fullShare d) ∗ (∃ d, owns (c : Thread nD τ) arg14 fullShare d)
          ∗ (iprop(owns (c : Thread nD τ) arg3 fullShare x3 ∗ owns (c : Thread nD τ) arg4 fullShare x4 ∗ owns (c : Thread nD τ) arg5 fullShare x5
          ∗ owns (c : Thread nD τ) arg6 fullShare x6 ∗ owns (c : Thread nD τ) arg7 fullShare x7 ∗ owns (c : Thread nD τ) arg8 fullShare x8
          ∗ owns (c : Thread nD τ) arg9 fullShare (fout x5 x6 x7 x8 (bmat x3 x4) (i 2).val) ∗ (∃ d, owns (c : Thread nD τ) arg10 fullShare d)
          ∗ (∃ d, owns (c : Thread nD τ) arg11 fullShare d) ∗ (∃ d, owns (c : Thread nD τ) arg12 fullShare d)
          ∗ (∃ d, owns (c : Thread nD τ) arg13 fullShare d) ∗ (∃ d, owns (c : Thread nD τ) arg14 fullShare d)) -∗ K ⟨⟩))
        ⊢ wp frame (wpE (defs₀ (F := F)) 𝒱 (c : Thread nD τ) bd) E (cc0_fox i arg3 harg3 arg4 harg4 arg5 harg5 arg6 harg6 arg7 harg7 arg8 harg8 arg9 harg9 arg10 harg10 arg11 harg11 arg12 harg12 arg13 harg13 arg14 harg14) K := by
  intro K
  have htr2 := trips2_eq i
  simp only [cc0_fox_eq_skeleton]; unfold cc0_fox_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  sl_exec
  have h10 : arg10.view.read (Elt F) (arg10.view.writes (Elt F) arg10.view.junk (body.sl.H10_5 c arg3 arg4 f3 f4)) = bmat x3 x4 := by
    subst hf3 hf4
    delta body.sl.H10_1 body.sl.H10_2 body.sl.H10_3 body.sl.H10_4 body.sl.H10_5 body.sl.H11_2 body.sl.H14_1 body.sl.cst body.sl.cst_26 body.sl.cst_30 body.sl.cst_39 body.sl.v0 body.sl.v10 body.sl.v100 body.sl.v101 body.sl.v102 body.sl.v103 body.sl.v104 body.sl.v105 body.sl.v11 body.sl.v12 body.sl.v13 body.sl.v15 body.sl.v16 body.sl.v17 body.sl.v18 body.sl.v2 body.sl.v20 body.sl.v21 body.sl.v22 body.sl.v23 body.sl.v24 body.sl.v25 body.sl.v26 body.sl.v27 body.sl.v28 body.sl.v29 body.sl.v3 body.sl.v30 body.sl.v36 body.sl.v37 body.sl.v38 body.sl.v39 body.sl.v40 body.sl.v41 body.sl.v42 body.sl.v44 body.sl.v45 body.sl.v46 body.sl.v5 body.sl.v50 body.sl.v53 body.sl.v54 body.sl.v55 body.sl.v56 body.sl.v58 body.sl.v59 body.sl.v6 body.sl.v7 body.sl.v73 body.sl.v8 body.sl.v84 body.sl.v85 body.sl.v86 body.sl.v87 body.sl.v88 body.sl.v89 body.sl.v95 body.sl.v96 body.sl.v97 body.sl.v98 body.sl.v99
    rw [View.read_writes_cons_put _ _ _ _ _ rfl, View.read_writes_cons_put _ _ _ _ _ rfl, View.read_writes_cons_put _ _ _ _ _ rfl,
      View.read_writes_cons_put _ _ _ _ _ rfl, View.read_writes_full]
    rw [readAt_blk arg3.view f3 (off := ![0, 0, 0]) _ (by decide) rfl, readAt_blk arg3.view f3 (off := ![0, 64, 0]) _ (by decide) rfl,
      readAt_blk arg4.view f4 (off := ![0, 0, 0, 0, 0]) _ (by decide) rfl, readAt_blk arg4.view f4 (off := ![0, 0, 1, 0, 0]) _ (by decide) rfl]
    rfl
  have h10r : ∀ (off : Fin 2 → ℕ) (inb : ∀ a, off a + S256x512.size a ≤ S256x1024.size a),
      arg10.view.readCov (body.sl.H10_5 c arg3 arg4 f3 f4) (Rect.unit (s := S256x1024) off S256x512.size inb).toLoadRect
        = blk (s := S256x1024) (bmat x3 x4) off S256x512.size (by decide) := by
    intro off inb
    rw [← h10]
    exact readAt_blk arg10.view _ inb (by decide) rfl
  have hg : LoopGood arg11 arg13 arg14 x5 x6 x7 (bmat x3 x4) 0 (k0_pay105, k0_pay105)
      (arg11.view.writes (Elt F) arg11.view.junk (body.sl.H11_2 c arg3 arg4 arg5 arg6 arg10 f3 f4 f5 f6))
      (arg13.view.writes (Elt F) f13
      [⟨Rect.unit (s := S2x1x1024) ![0, 0, 512] S1x1x512.size inb_S2x1x1024_S1x1x512_0_0_512,
          k0_pay104
            (View.readAt (Elt F) arg5.view
              (Rect.unit (s := S1x8192x128) ![0, 0, 0] S1x512x128.size inb_S1x8192x128_S1x512x128_0_0_0).toLoadRect f5)
            (View.readAt (Elt F) arg6.view
              (Rect.unit (s := S1x1x8192x128) ![0, 0, 0, 0] S1x1x512x128.size inb_S1x1x8192x128_S1x1x512x128_0_0_0_0).toLoadRect f6)
            (body.sl.v73 c arg3 arg4 arg10 f3 f4)⟩,
        ⟨Rect.unit (s := S2x1x1024) ![0, 0, 0] S1x1x512.size inb_S2x1x1024_S1x1x512_0_0_0,
          k0_pay101 (body.sl.v56 c arg3 arg4 arg5 arg6 arg10 f3 f4 f5 f6)⟩])
      (arg14.view.writes (Elt F) arg14.view.junk body.sl.H14_1) := by
    subst hf5 hf6
    have e5 : arg5.view.readAt (Elt F) (Rect.unit (s := S1x8192x128) ![0, 0, 0] S1x512x128.size inb_S1x8192x128_S1x512x128_0_0_0).toLoadRect f5
        = kblk (arg5.view.read (Elt F) f5) 0 := readAt_blk _ _ _ (by decide) rfl
    have e6 : arg6.view.readAt (Elt F) (Rect.unit (s := S1x1x8192x128) ![0, 0, 0, 0] S1x1x512x128.size inb_S1x1x8192x128_S1x1x512x128_0_0_0_0).toLoadRect f6
        = kfblk (arg6.view.read (Elt F) f6) 0 := readAt_blk _ _ _ (by decide) rfl
    delta body.sl.H10_1 body.sl.H10_2 body.sl.H10_3 body.sl.H10_4 body.sl.H10_5 body.sl.H11_2 body.sl.H14_1 body.sl.cst body.sl.cst_26 body.sl.cst_30 body.sl.cst_39 body.sl.v0 body.sl.v10 body.sl.v100 body.sl.v101 body.sl.v102 body.sl.v103 body.sl.v104 body.sl.v105 body.sl.v11 body.sl.v12 body.sl.v13 body.sl.v15 body.sl.v16 body.sl.v17 body.sl.v18 body.sl.v2 body.sl.v20 body.sl.v21 body.sl.v22 body.sl.v23 body.sl.v24 body.sl.v25 body.sl.v26 body.sl.v27 body.sl.v28 body.sl.v29 body.sl.v3 body.sl.v30 body.sl.v36 body.sl.v37 body.sl.v38 body.sl.v39 body.sl.v40 body.sl.v41 body.sl.v42 body.sl.v44 body.sl.v45 body.sl.v46 body.sl.v5 body.sl.v50 body.sl.v53 body.sl.v54 body.sl.v55 body.sl.v56 body.sl.v58 body.sl.v59 body.sl.v6 body.sl.v7 body.sl.v73 body.sl.v8 body.sl.v84 body.sl.v85 body.sl.v86 body.sl.v87 body.sl.v88 body.sl.v89 body.sl.v95 body.sl.v96 body.sl.v97 body.sl.v98 body.sl.v99 at h10r ⊢
    refine ⟨rfl, rfl, ?_, ?_, ?_, ?_, ?_, ?_⟩
    · rw [readAt_writes_skip, readAt_writes_same, e5, e6, h10r]
      · rfl
      · decide
    · rw [readAt_writes_same, e5, e6, h10r]
      rfl
    · rw [readAt_writes_skip, readAt_writes_same, e5, e6, h10r]
      · rfl
      · decide
    · rw [readAt_writes_same, e5, e6, h10r]
      rfl
    · rw [readAt_blk _ _ _ (by decide) rfl, View.read_writes_full]
      rfl
    · rw [readAt_blk _ _ _ (by decide) rfl, View.read_writes_full]
      rfl
  clear h10r
  generalize arg10.view.writes (Elt F) arg10.view.junk (body.sl.H10_5 c arg3 arg4 f3 f4) = X10 at h10 ⊢
  generalize arg11.view.writes (Elt F) arg11.view.junk (body.sl.H11_2 c arg3 arg4 arg5 arg6 arg10 f3 f4 f5 f6) = X11 at hg ⊢
  generalize (arg13.view.writes (Elt F) f13
      [⟨Rect.unit (s := S2x1x1024) ![0, 0, 512] S1x1x512.size inb_S2x1x1024_S1x1x512_0_0_512,
          k0_pay104
            (View.readAt (Elt F) arg5.view
              (Rect.unit (s := S1x8192x128) ![0, 0, 0] S1x512x128.size inb_S1x8192x128_S1x512x128_0_0_0).toLoadRect f5)
            (View.readAt (Elt F) arg6.view
              (Rect.unit (s := S1x1x8192x128) ![0, 0, 0, 0] S1x1x512x128.size inb_S1x1x8192x128_S1x1x512x128_0_0_0_0).toLoadRect f6)
            (body.sl.v73 c arg3 arg4 arg10 f3 f4)⟩,
        ⟨Rect.unit (s := S2x1x1024) ![0, 0, 0] S1x1x512.size inb_S2x1x1024_S1x1x512_0_0_0,
          k0_pay101 (body.sl.v56 c arg3 arg4 arg5 arg6 arg10 f3 f4 f5 f6)⟩]) = X13 at hg ⊢
  generalize arg14.view.writes (Elt F) arg14.view.junk body.sl.H14_1 = X14 at hg ⊢
  sl_for (loopInv c arg5 arg6 arg7 arg10 arg11 arg12 arg13 arg14 f5 f6 f7 X10) $$ [H5 H6 H7 H10 H11 H12 H13 H14]
  · intro k acc
    exact loopStep 𝒱 c bd E i arg3 harg3 arg4 harg4 arg5 harg5 arg6 harg6 arg7 harg7 arg8 harg8 arg9 harg9 arg10 harg10 arg11 harg11 arg12 harg12 arg13 harg13 arg14 harg14 0#32 (k0_pay98 (F := F)) k0_pay105 0#32 0#32 0#32 0#32 rfl f5 f6 f7 X10 k acc
  · unfold loopInv
    iexists X11
    iexists f12
    iexists X13
    iexists X14
    isplitl [H5 H6 H7 H10 H11 H12 H13 H14]
    · isplitl [H5]
      · iexact H5
      isplitl [H6]
      · iexact H6
      isplitl [H7]
      · iexact H7
      isplitl [H10]
      · iexact H10
      isplitl [H11]
      · iexact H11
      isplitl [H12]
      · iexact H12
      isplitl [H13]
      · iexact H13
      iexact H14
    · ipureintro
      rw [hf5, hf6, hf7, h10]
      exact hg
  clear hg X11 X13 X14 f11 f12 f13 f14
  iintro %acc HI
  unfold loopInv
  icases HI with ⟨%f11, %f12, %f13, %f14, ⟨H5, H6, H7, H10, H11, H12, H13, H14⟩, %hg⟩
  have htr1 : Scf.trips (k0_t1_loop i).lb (k0_t1_loop i).ub (k0_t1_loop i).st = (i 2).val / 2 := trips1_eq i
  rw [hf5, hf6, hf7, h10, htr1] at hg
  by_cases hodd : k0_cond1 i = 1#1
  · sl_exec
    subst hf3 hf4 hf5 hf6 hf7 hf8
    have p100 (inb) : arg10.view.readAt (Elt F) (Rect.unit (s := S256x1024) ![0, 0] S256x512.size inb).toLoadRect X10
        = bmblk (bmat (arg3.view.read (Elt F) f3) (arg4.view.read (Elt F) f4)) 0 := by
      rw [← h10]
      exact readAt_blk _ _ _ (by decide) rfl
    have p101 (inb) : arg10.view.readAt (Elt F) (Rect.unit (s := S256x1024) ![0, 512] S256x512.size inb).toLoadRect X10
        = bmblk (bmat (arg3.view.read (Elt F) f3) (arg4.view.read (Elt F) f4)) 1 := by
      rw [← h10]
      exact readAt_blk _ _ _ (by decide) rfl
    have p8 (inb) : arg8.view.readAt (Elt F) (Rect.unit (s := S512x512) ![0, 0] S512x512.size inb).toLoadRect f8
        = arg8.view.read (Elt F) f8 := View.readAt_full _ _ _
    obtain ⟨m0, m1, s0, s1, x0, x1, a0, a1⟩ := hg
    have hn : (i 2).val = 2 * ((i 2).val / 2) + 1 := by
      have := (cond1_eq i).mp hodd
      omega
    have o13 := off13_eq i
    have o14 := off14_eq i
    have o15 := off15_eq i ((cond1_eq i).mp hodd)
    have o16 := off16_eq i ((cond1_eq i).mp hodd)
    have o17 := off17_eq i
    have o18 := off18_eq i
    generalize 2 * ((i 2).val / 2) = t at m0 m1 s0 s1 x0 x1 a0 a1 hn
    rw [hn] at o13 o14 o15 o16 o17 o18 ⊢
    rw [Nat.add_sub_cancel] at o15 o16
    have p5 (inb) : arg5.view.readAt (Elt F) (Rect.unit (s := S1x8192x128) (k0_off13 i) S1x512x128.size inb).toLoadRect f5
        = kblk (arg5.view.read (Elt F) f5) (t + 1) := readAt_blk _ _ _ (by decide) o13
    have p6 (inb) : arg6.view.readAt (Elt F) (Rect.unit (s := S1x1x8192x128) (k0_off14 i) S1x1x512x128.size inb).toLoadRect f6
        = kfblk (arg6.view.read (Elt F) f6) (t + 1) := readAt_blk _ _ _ (by decide) o14
    have p70 (inb) : arg7.view.readAt (Elt F) (Rect.unit (s := S1x128x8192) (k0_off15 i) S1x64x512.size inb).toLoadRect f7
        = vblk (arg7.view.read (Elt F) f7) 0 t := readAt_blk _ _ _ (by decide) o15
    have p71 (inb) : arg7.view.readAt (Elt F) (Rect.unit (s := S1x128x8192) (k0_off16 i) S1x64x512.size inb).toLoadRect f7
        = vblk (arg7.view.read (Elt F) f7) 1 t := readAt_blk _ _ _ (by decide) o16
    have p72 (inb) : arg7.view.readAt (Elt F) (Rect.unit (s := S1x128x8192) (k0_off17 i) S1x64x512.size inb).toLoadRect f7
        = vblk (arg7.view.read (Elt F) f7) 0 (t + 1) := readAt_blk _ _ _ (by decide) o17
    have p73 (inb) : arg7.view.readAt (Elt F) (Rect.unit (s := S1x128x8192) (k0_off18 i) S1x64x512.size inb).toLoadRect f7
        = vblk (arg7.view.read (Elt F) f7) 1 (t + 1) := readAt_blk _ _ _ (by decide) o18
    have Ev157 : body.sl.v157 c i arg5 arg6 arg10 f5 f6 X10 hodd
        = score (arg5.view.read (Elt F) f5) (arg6.view.read (Elt F) f6) (bmat (arg3.view.read (Elt F) f3) (arg4.view.read (Elt F) f4)) 0 (t + 1) := by
      delta body.sl.cst_100 body.sl.v148 body.sl.v151 body.sl.v152 body.sl.v154 body.sl.v157
      rw [p5, p6, p100]
      rfl
    have Ev201 : body.sl.v201 c i arg5 arg6 arg10 f5 f6 X10 hodd
        = score (arg5.view.read (Elt F) f5) (arg6.view.read (Elt F) f6) (bmat (arg3.view.read (Elt F) f3) (arg4.view.read (Elt F) f4)) 1 (t + 1) := by
      delta body.sl.cst_100 body.sl.v148 body.sl.v151 body.sl.v152 body.sl.v198 body.sl.v201
      rw [p5, p6, p101]
      rfl
    have Ev167 : body.sl.v167 arg13 acc f13
        = mrun (arg5.view.read (Elt F) f5) (arg6.view.read (Elt F) f6) (bmat (arg3.view.read (Elt F) f3) (arg4.view.read (Elt F) f4)) 0 (t + 1) := by
      delta body.sl.v165 body.sl.v166 body.sl.v167
      rw [x0, m0]
      rfl
    have Ev211 : body.sl.v211 arg13 acc f13
        = mrun (arg5.view.read (Elt F) f5) (arg6.view.read (Elt F) f6) (bmat (arg3.view.read (Elt F) f3) (arg4.view.read (Elt F) f4)) 1 (t + 1) := by
      delta body.sl.v209 body.sl.v210 body.sl.v211
      rw [x1, m1]
      rfl
    have Ev187 : body.sl.v187 c i arg7 arg11 arg13 arg14 f7 acc f11 f13 f14 hodd
        = arun (arg5.view.read (Elt F) f5) (arg6.view.read (Elt F) f6) (arg7.view.read (Elt F) f7) (bmat (arg3.view.read (Elt F) f3) (arg4.view.read (Elt F) f4)) 0 (t + 1) := by
      delta body.sl.cst_118 body.sl.cst_30 body.sl.r body.sl.v169 body.sl.v170 body.sl.v171 body.sl.v172 body.sl.v173 body.sl.v174 body.sl.v177 body.sl.v178 body.sl.v180 body.sl.v181 body.sl.v182 body.sl.v183 body.sl.v184 body.sl.v187 body.sl.v46
      rw [Ev167, p70, s0, m0, a0]
      rfl
    have Ev231 : body.sl.v231 c i arg7 arg11 arg13 arg14 f7 acc f11 f13 f14 hodd
        = arun (arg5.view.read (Elt F) f5) (arg6.view.read (Elt F) f6) (arg7.view.read (Elt F) f7) (bmat (arg3.view.read (Elt F) f3) (arg4.view.read (Elt F) f4)) 1 (t + 1) := by
      delta body.sl.cst_118 body.sl.cst_30 body.sl.v213 body.sl.v214 body.sl.v215 body.sl.v216 body.sl.v217 body.sl.v218 body.sl.v221 body.sl.v222 body.sl.v223 body.sl.v224 body.sl.v225 body.sl.v226 body.sl.v227 body.sl.v228 body.sl.v231 body.sl.v46
      rw [Ev211, p71, s1, m1, a1]
      rfl
    have Ev236 : body.sl.v236 c i arg5 arg6 arg10 arg12 f5 f6 X10 hodd
        = dtop (arg5.view.read (Elt F) f5) (arg6.view.read (Elt F) f6) (bmat (arg3.view.read (Elt F) f3) (arg4.view.read (Elt F) f4)) 0 (t + 1) := by
      delta body.sl.H12_2 body.sl.v236
      refine readAt_inside arg12.view _ (off := ![0, 0]) (size := S512x512.size) (d := ![0, 0]) (by decide) _ (by decide) (by decide) ?_
      rw [readAt_writes_skip _ _ _ _ _ _ (by decide), readAt_writes_same]
      exact Ev157
    have Ev266 : body.sl.v266 c i arg5 arg6 arg10 arg12 f5 f6 X10 hodd
        = dbot (arg5.view.read (Elt F) f5) (arg6.view.read (Elt F) f6) (bmat (arg3.view.read (Elt F) f3) (arg4.view.read (Elt F) f4)) 0 (t + 1) := by
      delta body.sl.H12_2 body.sl.v266
      refine readAt_inside arg12.view _ (off := ![0, 0]) (size := S512x512.size) (d := ![256, 256]) (by decide) _ (by decide) (by decide) ?_
      rw [readAt_writes_skip _ _ _ _ _ _ (by decide), readAt_writes_same]
      exact Ev157
    have Ev295 : body.sl.v295 c i arg5 arg6 arg10 arg12 f5 f6 X10 hodd
        = dtop (arg5.view.read (Elt F) f5) (arg6.view.read (Elt F) f6) (bmat (arg3.view.read (Elt F) f3) (arg4.view.read (Elt F) f4)) 1 (t + 1) := by
      delta body.sl.H12_2 body.sl.v295
      refine readAt_inside arg12.view _ (off := ![0, 512]) (size := S512x512.size) (d := ![0, 0]) (by decide) _ (by decide) (by decide) ?_
      rw [readAt_writes_same]
      exact Ev201
    have Ev325 : body.sl.v325 c i arg5 arg6 arg10 arg12 f5 f6 X10 hodd
        = dbot (arg5.view.read (Elt F) f5) (arg6.view.read (Elt F) f6) (bmat (arg3.view.read (Elt F) f3) (arg4.view.read (Elt F) f4)) 1 (t + 1) := by
      delta body.sl.H12_2 body.sl.v325
      refine readAt_inside arg12.view _ (off := ![0, 512]) (size := S512x512.size) (d := ![256, 256]) (by decide) _ (by decide) (by decide) ?_
      rw [readAt_writes_same]
      exact Ev201
    have Ev254 : body.sl.v254 c i arg7 arg11 arg13 arg14 f7 acc f11 f13 f14 hodd
        = arun (arg5.view.read (Elt F) f5) (arg6.view.read (Elt F) f6) (arg7.view.read (Elt F) f7) (bmat (arg3.view.read (Elt F) f3) (arg4.view.read (Elt F) f4)) 0 (t + 1) := by
      delta body.sl.H14_2 body.sl.v254
      refine Eq.trans (readAt_writes_skip _ _ _ _ _ _ (by decide)) ?_
      refine Eq.trans (readAt_writes_same _ _ _ _ _) ?_
      exact Ev187
    have Ev262 : body.sl.v262 c i arg5 arg6 arg7 arg8 arg10 arg11 arg12 arg13 arg14 f5 f6 f7 f8 X10 acc f11 f13 f14 hodd
        = adiag (arg5.view.read (Elt F) f5) (arg6.view.read (Elt F) f6) (arg7.view.read (Elt F) f7) (arg8.view.read (Elt F) f8) (bmat (arg3.view.read (Elt F) f3) (arg4.view.read (Elt F) f4)) 0 (t + 1) := by
      delta body.sl.cst_118 body.sl.cst_30 body.sl.v233 body.sl.v237 body.sl.v238 body.sl.v239 body.sl.v240 body.sl.v241 body.sl.v242 body.sl.v243 body.sl.v244 body.sl.v245 body.sl.v246 body.sl.v247 body.sl.v250 body.sl.v251 body.sl.v252 body.sl.v253 body.sl.v255 body.sl.v256 body.sl.v257 body.sl.v258 body.sl.v259 body.sl.v262 body.sl.v46
      rw [Ev236, Ev254, Ev167, p72, p8]
      rfl
    have Ev284 : body.sl.v284 c i arg5 arg6 arg7 arg8 arg10 arg11 arg12 arg13 arg14 f5 f6 f7 f8 X10 acc f11 f13 f14 hodd
        = blk (s := S1x80x512) (adiag (arg5.view.read (Elt F) f5) (arg6.view.read (Elt F) f6) (arg7.view.read (Elt F) f7) (arg8.view.read (Elt F) f8) (bmat (arg3.view.read (Elt F) f3) (arg4.view.read (Elt F) f4)) 0 (t + 1)) ![0, 0, 256] S1x80x256.size (by decide) := by
      delta body.sl.H14_2 body.sl.H14_3 body.sl.v284
      refine readAt_inside arg14.view _ (off := ![0, 0, 0]) (size := S1x80x512.size) (d := ![0, 0, 256]) (by decide) _ (by decide) (by decide) ?_
      rw [readAt_writes_same]
      exact Ev262
    have Ev292 : body.sl.v292 c i arg5 arg6 arg7 arg8 arg10 arg11 arg12 arg13 arg14 f5 f6 f7 f8 X10 acc f11 f13 f14 hodd
        = adiag2 (arg5.view.read (Elt F) f5) (arg6.view.read (Elt F) f6) (arg7.view.read (Elt F) f7) (arg8.view.read (Elt F) f8) (bmat (arg3.view.read (Elt F) f3) (arg4.view.read (Elt F) f4)) 0 (t + 1) := by
      delta body.sl.cst_175 body.sl.cst_30 body.sl.v233 body.sl.v237 body.sl.v238 body.sl.v239 body.sl.v240 body.sl.v241 body.sl.v250 body.sl.v252 body.sl.v265 body.sl.v267 body.sl.v268 body.sl.v269 body.sl.v270 body.sl.v271 body.sl.v272 body.sl.v273 body.sl.v274 body.sl.v275 body.sl.v276 body.sl.v277 body.sl.v281 body.sl.v283 body.sl.v285 body.sl.v286 body.sl.v287 body.sl.v288 body.sl.v289 body.sl.v292 body.sl.v46
      rw [Ev236, Ev266, Ev284, Ev167, p72, p8]
      rfl
    have Ev313 : body.sl.v313 c i arg5 arg6 arg7 arg8 arg10 arg11 arg12 arg13 arg14 f5 f6 f7 f8 X10 acc f11 f13 f14 hodd
        = arun (arg5.view.read (Elt F) f5) (arg6.view.read (Elt F) f6) (arg7.view.read (Elt F) f7) (bmat (arg3.view.read (Elt F) f3) (arg4.view.read (Elt F) f4)) 1 (t + 1) := by
      delta body.sl.H14_2 body.sl.H14_3 body.sl.H14_4 body.sl.v313
      refine Eq.trans (readAt_writes_skip _ _ _ _ _ _ (by decide)) ?_
      refine Eq.trans (readAt_writes_skip _ _ _ _ _ _ (by decide)) ?_
      refine Eq.trans (readAt_writes_same _ _ _ _ _) ?_
      exact Ev231
    have Ev321 : body.sl.v321 c i arg5 arg6 arg7 arg8 arg10 arg11 arg12 arg13 arg14 f5 f6 f7 f8 X10 acc f11 f13 f14 hodd
        = adiag (arg5.view.read (Elt F) f5) (arg6.view.read (Elt F) f6) (arg7.view.read (Elt F) f7) (arg8.view.read (Elt F) f8) (bmat (arg3.view.read (Elt F) f3) (arg4.view.read (Elt F) f4)) 1 (t + 1) := by
      delta body.sl.cst_118 body.sl.cst_30 body.sl.v233 body.sl.v237 body.sl.v252 body.sl.v297 body.sl.v298 body.sl.v299 body.sl.v300 body.sl.v301 body.sl.v302 body.sl.v303 body.sl.v304 body.sl.v305 body.sl.v306 body.sl.v309 body.sl.v310 body.sl.v312 body.sl.v314 body.sl.v315 body.sl.v316 body.sl.v317 body.sl.v318 body.sl.v321 body.sl.v46
      rw [Ev295, Ev313, Ev211, p73, p8]
      rfl
    have Ev343 : body.sl.v343 c i arg5 arg6 arg7 arg8 arg10 arg11 arg12 arg13 arg14 f5 f6 f7 f8 X10 acc f11 f13 f14 hodd
        = blk (s := S1x80x512) (adiag (arg5.view.read (Elt F) f5) (arg6.view.read (Elt F) f6) (arg7.view.read (Elt F) f7) (arg8.view.read (Elt F) f8) (bmat (arg3.view.read (Elt F) f3) (arg4.view.read (Elt F) f4)) 1 (t + 1)) ![0, 0, 256] S1x80x256.size (by decide) := by
      delta body.sl.H14_2 body.sl.H14_3 body.sl.H14_4 body.sl.H14_5 body.sl.v343
      refine readAt_inside arg14.view _ (off := ![1, 0, 0]) (size := S1x80x512.size) (d := ![0, 0, 256]) (by decide) _ (by decide) (by decide) ?_
      rw [readAt_writes_same]
      exact Ev321
    have Ev351 : body.sl.v351 c i arg5 arg6 arg7 arg8 arg10 arg11 arg12 arg13 arg14 f5 f6 f7 f8 X10 acc f11 f13 f14 hodd
        = adiag2 (arg5.view.read (Elt F) f5) (arg6.view.read (Elt F) f6) (arg7.view.read (Elt F) f7) (arg8.view.read (Elt F) f8) (bmat (arg3.view.read (Elt F) f3) (arg4.view.read (Elt F) f4)) 1 (t + 1) := by
      delta body.sl.cst_175 body.sl.cst_30 body.sl.v233 body.sl.v237 body.sl.v252 body.sl.v267 body.sl.v297 body.sl.v298 body.sl.v299 body.sl.v300 body.sl.v309 body.sl.v324 body.sl.v327 body.sl.v328 body.sl.v329 body.sl.v330 body.sl.v331 body.sl.v332 body.sl.v333 body.sl.v334 body.sl.v335 body.sl.v336 body.sl.v340 body.sl.v342 body.sl.v344 body.sl.v345 body.sl.v346 body.sl.v347 body.sl.v348 body.sl.v351 body.sl.v46
      rw [Ev295, Ev325, Ev343, Ev211, p73, p8]
      rfl
    have Ev121 : body.sl.v121 c i arg5 arg6 arg7 arg8 arg10 arg11 arg12 arg13 arg14 f5 f6 f7 f8 X10 acc f11 f13 f14 hodd
        = afin (arg5.view.read (Elt F) f5) (arg6.view.read (Elt F) f6) (arg7.view.read (Elt F) f7) (arg8.view.read (Elt F) f8) (bmat (arg3.view.read (Elt F) f3) (arg4.view.read (Elt F) f4)) 0 (t + 1) := by
      delta body.sl.H14_2 body.sl.H14_3 body.sl.H14_4 body.sl.H14_5 body.sl.H14_6 body.sl.v121
      refine Eq.trans (readAt_writes_skip _ _ _ _ _ _ (by decide)) ?_
      refine Eq.trans (readAt_writes_skip _ _ _ _ _ _ (by decide)) ?_
      rw [Ev292]
      refine Eq.trans (readAt_writes_put arg14.view _ (d := ![0, 0, 256]) _ _ (by decide) _ _ (x := adiag (arg5.view.read (Elt F) f5) (arg6.view.read (Elt F) f6) (arg7.view.read (Elt F) f7) (arg8.view.read (Elt F) f8) (bmat (arg3.view.read (Elt F) f3) (arg4.view.read (Elt F) f4)) 0 (t + 1)) ?_) rfl
      rw [readAt_writes_same]
      exact Ev262
    have Ev129 : body.sl.v129 c i arg5 arg6 arg7 arg8 arg10 arg11 arg12 arg13 arg14 f5 f6 f7 f8 X10 acc f11 f13 f14 hodd
        = afin (arg5.view.read (Elt F) f5) (arg6.view.read (Elt F) f6) (arg7.view.read (Elt F) f7) (arg8.view.read (Elt F) f8) (bmat (arg3.view.read (Elt F) f3) (arg4.view.read (Elt F) f4)) 1 (t + 1) := by
      delta body.sl.H14_2 body.sl.H14_3 body.sl.H14_4 body.sl.H14_5 body.sl.H14_6 body.sl.v129
      rw [Ev351]
      refine Eq.trans (readAt_writes_put arg14.view _ (d := ![0, 0, 256]) _ _ (by decide) _ _ (x := adiag (arg5.view.read (Elt F) f5) (arg6.view.read (Elt F) f6) (arg7.view.read (Elt F) f7) (arg8.view.read (Elt F) f8) (bmat (arg3.view.read (Elt F) f3) (arg4.view.read (Elt F) f4)) 1 (t + 1)) ?_) rfl
      rw [readAt_writes_same]
      exact Ev321
    sl_step
    iapply Hk
    isplitl [H3]
    · iexists f3
      isplitr
      · ipureintro
        rfl
      iexact H3
    isplitl [H4]
    · iexists f4
      isplitr
      · ipureintro
        rfl
      iexact H4
    isplitl [H5]
    · iexists f5
      isplitr
      · ipureintro
        rfl
      iexact H5
    isplitl [H6]
    · iexists f6
      isplitr
      · ipureintro
        rfl
      iexact H6
    isplitl [H7]
    · iexists f7
      isplitr
      · ipureintro
        rfl
      iexact H7
    isplitl [H8]
    · iexists f8
      isplitr
      · ipureintro
        rfl
      iexact H8
    isplitl [H9]
    · iexists _
      isplitr; swap
      · iexact H9
      ipureintro
      rw [View.read_writes_full]
      delta body.sl.cst_83 body.sl.v122 body.sl.v123 body.sl.v124 body.sl.v125 body.sl.v126 body.sl.v127 body.sl.v128
      rw [Ev121, Ev129]
      rfl
    isplitl [H10]
    · iexists _, _
      isplitr; swap
      · iexact H10
      ipureintro
      rfl
    isplitl [H11]
    · iexists _, _
      isplitr; swap
      · iexact H11
      ipureintro
      rfl
    isplitl [H12]
    · iexists _, _
      isplitr; swap
      · iexact H12
      ipureintro
      rfl
    isplitl [H13]
    · iexists _, _
      isplitr; swap
      · iexact H13
      ipureintro
      rfl
    iexists _, _
    isplitr; swap
    · iexact H14
    ipureintro
    rfl
  · sl_exec
    subst hf3 hf4 hf5 hf6 hf7 hf8
    have p100 (inb) : arg10.view.readAt (Elt F) (Rect.unit (s := S256x1024) ![0, 0] S256x512.size inb).toLoadRect X10
        = bmblk (bmat (arg3.view.read (Elt F) f3) (arg4.view.read (Elt F) f4)) 0 := by
      rw [← h10]
      exact readAt_blk _ _ _ (by decide) rfl
    have p101 (inb) : arg10.view.readAt (Elt F) (Rect.unit (s := S256x1024) ![0, 512] S256x512.size inb).toLoadRect X10
        = bmblk (bmat (arg3.view.read (Elt F) f3) (arg4.view.read (Elt F) f4)) 1 := by
      rw [← h10]
      exact readAt_blk _ _ _ (by decide) rfl
    have p8 (inb) : arg8.view.readAt (Elt F) (Rect.unit (s := S512x512) ![0, 0] S512x512.size inb).toLoadRect f8
        = arg8.view.read (Elt F) f8 := View.readAt_full _ _ _
    obtain ⟨m0, m1, s0, s1, x0, x1, a0, a1⟩ := hg
    have hn : (i 2).val = 2 * ((i 2).val / 2) := by
      have := mt (cond1_eq i).mpr hodd
      omega
    have o19 := off19_eq i
    have o20 := off20_eq i
    generalize 2 * ((i 2).val / 2) = t at m0 m1 s0 s1 x0 x1 a0 a1 hn
    rw [hn] at o19 o20 ⊢
    have p72 (inb) : arg7.view.readAt (Elt F) (Rect.unit (s := S1x128x8192) (k0_off19 i) S1x64x512.size inb).toLoadRect f7
        = vblk (arg7.view.read (Elt F) f7) 0 t := readAt_blk _ _ _ (by decide) o19
    have p73 (inb) : arg7.view.readAt (Elt F) (Rect.unit (s := S1x128x8192) (k0_off20 i) S1x64x512.size inb).toLoadRect f7
        = vblk (arg7.view.read (Elt F) f7) 1 t := readAt_blk _ _ _ (by decide) o20
    have q0 (inb) : arg11.view.readAt (Elt F) (Rect.unit (s := S512x1024) ![0, 0] S256x512.size inb).toLoadRect f11
        = dtop (arg5.view.read (Elt F) f5) (arg6.view.read (Elt F) f6) (bmat (arg3.view.read (Elt F) f3) (arg4.view.read (Elt F) f4)) 0 t := readAt_inside arg11.view _ (off := ![0, 0]) (size := S512x512.size) (d := ![0, 0]) (by decide) _ (by decide) (by decide) s0
    have q1 (inb) : arg11.view.readAt (Elt F) (Rect.unit (s := S512x1024) ![256, 256] S256x256.size inb).toLoadRect f11
        = dbot (arg5.view.read (Elt F) f5) (arg6.view.read (Elt F) f6) (bmat (arg3.view.read (Elt F) f3) (arg4.view.read (Elt F) f4)) 0 t := readAt_inside arg11.view _ (off := ![0, 0]) (size := S512x512.size) (d := ![256, 256]) (by decide) _ (by decide) (by decide) s0
    have q2 (inb) : arg11.view.readAt (Elt F) (Rect.unit (s := S512x1024) ![0, 512] S256x512.size inb).toLoadRect f11
        = dtop (arg5.view.read (Elt F) f5) (arg6.view.read (Elt F) f6) (bmat (arg3.view.read (Elt F) f3) (arg4.view.read (Elt F) f4)) 1 t := readAt_inside arg11.view _ (off := ![0, 512]) (size := S512x512.size) (d := ![0, 0]) (by decide) _ (by decide) (by decide) s1
    have q3 (inb) : arg11.view.readAt (Elt F) (Rect.unit (s := S512x1024) ![256, 768] S256x256.size inb).toLoadRect f11
        = dbot (arg5.view.read (Elt F) f5) (arg6.view.read (Elt F) f6) (bmat (arg3.view.read (Elt F) f3) (arg4.view.read (Elt F) f4)) 1 t := readAt_inside arg11.view _ (off := ![0, 512]) (size := S512x512.size) (d := ![256, 256]) (by decide) _ (by decide) (by decide) s1
    have Ev173_1 : body.sl.v173_1 c i arg7 arg8 arg11 arg14 f7 f8 acc f11 f14 hodd
        = adiag (arg5.view.read (Elt F) f5) (arg6.view.read (Elt F) f6) (arg7.view.read (Elt F) f7) (arg8.view.read (Elt F) f8) (bmat (arg3.view.read (Elt F) f3) (arg4.view.read (Elt F) f4)) 0 t := by
      delta body.sl.cst_102 body.sl.cst_30 body.sl.v144_1 body.sl.v148_1 body.sl.v149 body.sl.v150 body.sl.v151_1 body.sl.v152_1 body.sl.v153 body.sl.v154_1 body.sl.v155 body.sl.v156_1 body.sl.v157_1 body.sl.v158_1 body.sl.v161_1 body.sl.v162_1 body.sl.v163_1 body.sl.v164 body.sl.v166_1 body.sl.v167_1 body.sl.v168 body.sl.v169_1 body.sl.v170_1 body.sl.v173_1 body.sl.v46
      rw [q0, a0, m0, p72, p8]
      rfl
    have Ev195 : body.sl.v195 c i arg7 arg8 arg11 arg14 f7 f8 acc f11 f14 hodd
        = blk (s := S1x80x512) (adiag (arg5.view.read (Elt F) f5) (arg6.view.read (Elt F) f6) (arg7.view.read (Elt F) f7) (arg8.view.read (Elt F) f8) (bmat (arg3.view.read (Elt F) f3) (arg4.view.read (Elt F) f4)) 0 t) ![0, 0, 256] S1x80x256.size (by decide) := by
      delta body.sl.H14_1_1 body.sl.v195
      refine readAt_inside arg14.view _ (off := ![0, 0, 0]) (size := S1x80x512.size) (d := ![0, 0, 256]) (by decide) _ (by decide) (by decide) ?_
      rw [readAt_writes_same]
      exact Ev173_1
    have Ev203_1 : body.sl.v203_1 c i arg7 arg8 arg11 arg14 f7 f8 acc f11 f14 hodd
        = adiag2 (arg5.view.read (Elt F) f5) (arg6.view.read (Elt F) f6) (arg7.view.read (Elt F) f7) (arg8.view.read (Elt F) f8) (bmat (arg3.view.read (Elt F) f3) (arg4.view.read (Elt F) f4)) 0 t := by
      delta body.sl.cst_114 body.sl.cst_30 body.sl.v144_1 body.sl.v148_1 body.sl.v149 body.sl.v150 body.sl.v151_1 body.sl.v152_1 body.sl.v161_1 body.sl.v163_1 body.sl.v176 body.sl.v178_1 body.sl.v179 body.sl.v180_1 body.sl.v181_1 body.sl.v182_1 body.sl.v183_1 body.sl.v184_1 body.sl.v185 body.sl.v186 body.sl.v187_1 body.sl.v188 body.sl.v192 body.sl.v194 body.sl.v196 body.sl.v197 body.sl.v198_1 body.sl.v199_1 body.sl.v200_1 body.sl.v203_1 body.sl.v46
      rw [q0, q1, Ev195, m0, p72, p8]
      rfl
    have Ev232 : body.sl.v232 c i arg7 arg8 arg11 arg14 f7 f8 acc f11 f14 hodd
        = adiag (arg5.view.read (Elt F) f5) (arg6.view.read (Elt F) f6) (arg7.view.read (Elt F) f7) (arg8.view.read (Elt F) f8) (bmat (arg3.view.read (Elt F) f3) (arg4.view.read (Elt F) f4)) 1 t := by
      delta body.sl.cst_102 body.sl.cst_30 body.sl.v144_1 body.sl.v148_1 body.sl.v163_1 body.sl.v208 body.sl.v209_1 body.sl.v210_1 body.sl.v211_1 body.sl.v212 body.sl.v213_1 body.sl.v214_1 body.sl.v215_1 body.sl.v216_1 body.sl.v217_1 body.sl.v220 body.sl.v221_1 body.sl.v223_1 body.sl.v224_1 body.sl.v225_1 body.sl.v226_1 body.sl.v227_1 body.sl.v228_1 body.sl.v229 body.sl.v232 body.sl.v46
      rw [q2, a1, m1, p73, p8]
      rfl
    have Ev254_1 : body.sl.v254_1 c i arg7 arg8 arg11 arg14 f7 f8 acc f11 f14 hodd
        = blk (s := S1x80x512) (adiag (arg5.view.read (Elt F) f5) (arg6.view.read (Elt F) f6) (arg7.view.read (Elt F) f7) (arg8.view.read (Elt F) f8) (bmat (arg3.view.read (Elt F) f3) (arg4.view.read (Elt F) f4)) 1 t) ![0, 0, 256] S1x80x256.size (by decide) := by
      delta body.sl.H14_1_1 body.sl.H14_3_1 body.sl.v254_1
      refine readAt_inside arg14.view _ (off := ![1, 0, 0]) (size := S1x80x512.size) (d := ![0, 0, 256]) (by decide) _ (by decide) (by decide) ?_
      rw [readAt_writes_same]
      exact Ev232
    have Ev262_1 : body.sl.v262_1 c i arg7 arg8 arg11 arg14 f7 f8 acc f11 f14 hodd
        = adiag2 (arg5.view.read (Elt F) f5) (arg6.view.read (Elt F) f6) (arg7.view.read (Elt F) f7) (arg8.view.read (Elt F) f8) (bmat (arg3.view.read (Elt F) f3) (arg4.view.read (Elt F) f4)) 1 t := by
      delta body.sl.cst_114 body.sl.cst_30 body.sl.v144_1 body.sl.v148_1 body.sl.v163_1 body.sl.v178_1 body.sl.v208 body.sl.v209_1 body.sl.v210_1 body.sl.v211_1 body.sl.v220 body.sl.v235 body.sl.v238_1 body.sl.v239_1 body.sl.v240_1 body.sl.v241_1 body.sl.v242_1 body.sl.v243_1 body.sl.v244_1 body.sl.v245_1 body.sl.v246_1 body.sl.v247_1 body.sl.v251_1 body.sl.v253_1 body.sl.v255_1 body.sl.v256_1 body.sl.v257_1 body.sl.v258_1 body.sl.v259_1 body.sl.v262_1 body.sl.v46
      rw [q2, q3, Ev254_1, m1, p73, p8]
      rfl
    have Ev121_1 : body.sl.v121_1 c i arg7 arg8 arg11 arg14 f7 f8 acc f11 f14 hodd
        = afin (arg5.view.read (Elt F) f5) (arg6.view.read (Elt F) f6) (arg7.view.read (Elt F) f7) (arg8.view.read (Elt F) f8) (bmat (arg3.view.read (Elt F) f3) (arg4.view.read (Elt F) f4)) 0 t := by
      delta body.sl.H14_1_1 body.sl.H14_3_1 body.sl.H14_4_1 body.sl.v121_1
      refine Eq.trans (readAt_writes_skip _ _ _ _ _ _ (by decide)) ?_
      refine Eq.trans (readAt_writes_skip _ _ _ _ _ _ (by decide)) ?_
      rw [Ev203_1]
      refine Eq.trans (readAt_writes_put arg14.view _ (d := ![0, 0, 256]) _ _ (by decide) _ _ (x := adiag (arg5.view.read (Elt F) f5) (arg6.view.read (Elt F) f6) (arg7.view.read (Elt F) f7) (arg8.view.read (Elt F) f8) (bmat (arg3.view.read (Elt F) f3) (arg4.view.read (Elt F) f4)) 0 t) ?_) rfl
      rw [readAt_writes_same]
      exact Ev173_1
    have Ev129_1 : body.sl.v129_1 c i arg7 arg8 arg11 arg14 f7 f8 acc f11 f14 hodd
        = afin (arg5.view.read (Elt F) f5) (arg6.view.read (Elt F) f6) (arg7.view.read (Elt F) f7) (arg8.view.read (Elt F) f8) (bmat (arg3.view.read (Elt F) f3) (arg4.view.read (Elt F) f4)) 1 t := by
      delta body.sl.H14_1_1 body.sl.H14_3_1 body.sl.H14_4_1 body.sl.v129_1
      rw [Ev262_1]
      refine Eq.trans (readAt_writes_put arg14.view _ (d := ![0, 0, 256]) _ _ (by decide) _ _ (x := adiag (arg5.view.read (Elt F) f5) (arg6.view.read (Elt F) f6) (arg7.view.read (Elt F) f7) (arg8.view.read (Elt F) f8) (bmat (arg3.view.read (Elt F) f3) (arg4.view.read (Elt F) f4)) 1 t) ?_) rfl
      rw [readAt_writes_same]
      exact Ev232
    sl_step
    iapply Hk
    isplitl [H3]
    · iexists f3
      isplitr
      · ipureintro
        rfl
      iexact H3
    isplitl [H4]
    · iexists f4
      isplitr
      · ipureintro
        rfl
      iexact H4
    isplitl [H5]
    · iexists f5
      isplitr
      · ipureintro
        rfl
      iexact H5
    isplitl [H6]
    · iexists f6
      isplitr
      · ipureintro
        rfl
      iexact H6
    isplitl [H7]
    · iexists f7
      isplitr
      · ipureintro
        rfl
      iexact H7
    isplitl [H8]
    · iexists f8
      isplitr
      · ipureintro
        rfl
      iexact H8
    isplitl [H9]
    · iexists _
      isplitr; swap
      · iexact H9
      ipureintro
      rw [View.read_writes_full]
      delta body.sl.cst_83_1 body.sl.v122_1 body.sl.v123_1 body.sl.v124_1 body.sl.v125_1 body.sl.v126_1 body.sl.v127_1 body.sl.v128_1
      rw [Ev121_1, Ev129_1]
      rfl
    isplitl [H10]
    · iexists _, _
      isplitr; swap
      · iexact H10
      ipureintro
      rfl
    isplitl [H11]
    · iexists _, _
      isplitr; swap
      · iexact H11
      ipureintro
      rfl
    isplitl [H12]
    · iexists _, _
      isplitr; swap
      · iexact H12
      ipureintro
      rfl
    isplitl [H13]
    · iexists _, _
      isplitr; swap
      · iexact H13
      ipureintro
      rfl
    iexists _, _
    isplitr; swap
    · iexact H14
    ipureintro
    rfl

end Cert.KernelIdeal.Fox
-- ==== Proof.Run.lean ====
module

public import proofs.«01_k».proof.Proof.Body
public import proofs.«01_k».proof.Proof.Gen.KernelIdeal.Frame
public import Idealize.ShloMosaic.Lib.Claim

@[expose] public section

set_option maxRecDepth 16384

/-! # The launch

The proof data of the pipeline (each input's staging buffer at its block, the output's at what the grid point computes),
the body obligation from the body's triple, the run, and the frame. -/

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output's block at a grid point. -/
def outAt (c : Dev nD) (t : Fin cfg0.N) : Vec F S1x512x128 .bf16 :=
  fout (iblk m c 2 t) (iblk m c 3 t) (iblk m c 4 t) (iblk m c 5 t) (bmat (iblk m c 0 t) (iblk m c 1 t)) (grid0.coords t 2).val

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The pipeline's invariant: the scratch buffers at some contents, and the generator register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩⟩
  iapply (body Variants.none c none Set.univ (grid0.coords t) _ _ _ _ _ _ _ _ _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  isplitl [S4]; · iexact S4
  iintro ⟨H0, H1, H2, H3, H4, H5, H6, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every window's array ends at what the proof data states, and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Fox
-- ==== Proof.Word.Body.lean ====
module

public import proofs.«01_k».proof.Proof.Gen.Kernel.Skeleton
public import proofs.«01_k».proof.Proof.Word.Offsets
public import Idealize.ShloMosaic.Lib.Exec
public import Idealize.ShloMosaic.Lib.Tactic
public import Idealize.ShloMosaic.Lib.Pipeline.Kit

@[expose] public section

set_option maxRecDepth 16384
set_option maxHeartbeats 4000000

/-! # The body of the attention kernel as printed

Run on words, the body ends and hands every buffer back, the inputs as they were; nothing is said of what it computes. -/

noncomputable section

namespace Cert.Kernel.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

variable (𝒱 : Variants) (c : Dev nD) (bd : Option 𝒱.V) (E : Set ℕ) (i : grid0.Coords) (arg3 : Memref sig .tc .vmem S1x128x512 .bf16) (harg3 : arg3.IsWhole) (arg4 : Memref sig .tc .vmem S1x1x2x16x512 .bf16) (harg4 : arg4.IsWhole) (arg5 : Memref sig .tc .vmem S1x8192x128 .bf16) (harg5 : arg5.IsWhole) (arg6 : Memref sig .tc .vmem S1x1x8192x128 .bf16) (harg6 : arg6.IsWhole) (arg7 : Memref sig .tc .vmem S1x128x8192 .bf16) (harg7 : arg7.IsWhole) (arg8 : Memref sig .tc .vmem S512x512 .f32) (harg8 : arg8.IsWhole) (arg9 : Memref sig .tc .vmem S1x512x128 .bf16) (harg9 : arg9.IsWhole) (arg10 : Memref sig .tc .vmem S256x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S2x1x1024 .f32) (harg13 : arg13.IsWhole) (arg14 : Memref sig .tc .vmem S2x80x512 .f32) (harg14 : arg14.IsWhole)

/-- The buffers a trip touches. -/
abbrev LoopRes (X5 : BufTy.Contents (Elt F) arg5.view.ty) (X6 : BufTy.Contents (Elt F) arg6.view.ty) (X7 : BufTy.Contents (Elt F) arg7.view.ty)
    (X10 : BufTy.Contents (Elt F) arg10.view.ty) (f11 : BufTy.Contents (Elt F) arg11.view.ty) (f12 : BufTy.Contents (Elt F) arg12.view.ty)
    (f13 : BufTy.Contents (Elt F) arg13.view.ty) (f14 : BufTy.Contents (Elt F) arg14.view.ty) : sProp 𝕄 :=
  iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} X10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14))

/-- The invariant of the loop: the buffers, the inputs at their contents and the scratch at some contents. -/
def loopInv (X5 : BufTy.Contents (Elt F) arg5.view.ty) (X6 : BufTy.Contents (Elt F) arg6.view.ty) (X7 : BufTy.Contents (Elt F) arg7.view.ty)
    (X10 : BufTy.Contents (Elt F) arg10.view.ty) (_k : ℕ) (_acc : FVec F S1x512 .f32 × FVec F S1x512 .f32) : sProp 𝕄 :=
  iprop(∃ f11 f12 f13 f14, LoopRes c arg5 arg6 arg7 arg10 arg11 arg12 arg13 arg14 X5 X6 X7 X10 f11 f12 f13 f14)

theorem loopStep (v41 : BitVec 32) (v46 : FVec F S16x512 .bf16) (v83 : FVec F S1x512 .f32) (c2_i32 : BitVec 32) (v84 : BitVec 32) (v89 : BitVec 32) (v91 : BitVec 32)
    (X5 : BufTy.Contents (Elt F) arg5.view.ty) (X6 : BufTy.Contents (Elt F) arg6.view.ty) (X7 : BufTy.Contents (Elt F) arg7.view.ty)
    (X10 : BufTy.Contents (Elt F) arg10.view.ty)
    (k : Fin (k0_t1_loop i).trips) (acc : FVec F S1x512 .f32 × FVec F S1x512 .f32) :
    loopInv c arg5 arg6 arg7 arg10 arg11 arg12 arg13 arg14 X5 X6 X7 X10 k.val acc
    ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 v41 v46 v83 c2_i32 v84 v89 v91 k acc)
        (loopInv c arg5 arg6 arg7 arg10 arg11 arg12 arg13 arg14 X5 X6 X7 X10 (k.val + 1)) := by
  unfold k0_t1_body
  unfold loopInv
  iintro ⟨%f11, %f12, %f13, %f14, HR5, HR6, HR7, HR10, HW11, HW12, HW13, HW14⟩
  sl_exec
  sl_step
  iexists _
  iexists _
  iexists _
  iexists _
  isplitl [HR5]
  · iexact HR5
  isplitl [HR6]
  · iexact HR6
  isplitl [HR7]
  · iexact HR7
  isplitl [HR10]
  · iexact HR10
  isplitl [HW11]
  · iexact HW11
  isplitl [HW12]
  · iexact HW12
  isplitl [HW13]
  · iexact HW13
  iexact HW14

theorem body
    (x3 : Vec F S1x128x512 .bf16) (x4 : Vec F S1x1x2x16x512 .bf16) (x5 : Vec F S1x8192x128 .bf16)
    (x6 : Vec F S1x1x8192x128 .bf16) (x7 : Vec F S1x128x8192 .bf16) (x8 : Vec F S512x512 .f32) :
    ∀ (K : PUnit → sProp 𝕄),
      iprop(owns (c : Thread nD τ) arg3 fullShare x3 ∗ owns (c : Thread nD τ) arg4 fullShare x4 ∗ owns (c : Thread nD τ) arg5 fullShare x5
          ∗ owns (c : Thread nD τ) arg6 fullShare x6 ∗ owns (c : Thread nD τ) arg7 fullShare x7 ∗ owns (c : Thread nD τ) arg8 fullShare x8
          ∗ (∃ d, owns (c : Thread nD τ) arg9 fullShare d) ∗ (∃ d, owns (c : Thread nD τ) arg10 fullShare d)
          ∗ (∃ d, owns (c : Thread nD τ) arg11 fullShare d) ∗ (∃ d, owns (c : Thread nD τ) arg12 fullShare d)
          ∗ (∃ d, owns (c : Thread nD τ) arg13 fullShare d) ∗ (∃ d, owns (c : Thread nD τ) arg14 fullShare d)
          ∗ (iprop(owns (c : Thread nD τ) arg3 fullShare x3 ∗ owns (c : Thread nD τ) arg4 fullShare x4 ∗ owns (c : Thread nD τ) arg5 fullShare x5
          ∗ owns (c : Thread nD τ) arg6 fullShare x6 ∗ owns (c : Thread nD τ) arg7 fullShare x7 ∗ owns (c : Thread nD τ) arg8 fullShare x8
          ∗ (∃ d, owns (c : Thread nD τ) arg9 fullShare d) ∗ (∃ d, owns (c : Thread nD τ) arg10 fullShare d)
          ∗ (∃ d, owns (c : Thread nD τ) arg11 fullShare d) ∗ (∃ d, owns (c : Thread nD τ) arg12 fullShare d)
          ∗ (∃ d, owns (c : Thread nD τ) arg13 fullShare d) ∗ (∃ d, owns (c : Thread nD τ) arg14 fullShare d)) -∗ K ⟨⟩))
        ⊢ wp frame (wpE (defs₀ (F := F)) 𝒱 (c : Thread nD τ) bd) E (cc0_fox i arg3 harg3 arg4 harg4 arg5 harg5 arg6 harg6 arg7 harg7 arg8 harg8 arg9 harg9 arg10 harg10 arg11 harg11 arg12 harg12 arg13 harg13 arg14 harg14) K := by
  intro K
  have htr2 := trips2_eq i
  simp only [cc0_fox_eq_skeleton]; unfold cc0_fox_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  sl_exec
  generalize arg10.view.writes (Elt F) arg10.view.junk (body.sl.H10_5 c arg3 arg4 f3 f4) = X10
  sl_for (loopInv c arg5 arg6 arg7 arg10 arg11 arg12 arg13 arg14 f5 f6 f7 X10) $$ [H5 H6 H7 H10 H11 H12 H13 H14]
  · intro k acc
    exact loopStep 𝒱 c bd E i arg3 harg3 arg4 harg4 arg5 harg5 arg6 harg6 arg7 harg7 arg8 harg8 arg9 harg9 arg10 harg10 arg11 harg11 arg12 harg12 arg13 harg13 arg14 harg14 _ _ _ _ _ _ _ f5 f6 f7 X10 k acc
  · unfold loopInv
    iexists _
    iexists f12
    iexists _
    iexists _
    isplitl [H5]
    · iexact H5
    isplitl [H6]
    · iexact H6
    isplitl [H7]
    · iexact H7
    isplitl [H10]
    · iexact H10
    isplitl [H11]
    · iexact H11
    isplitl [H12]
    · iexact H12
    isplitl [H13]
    · iexact H13
    iexact H14
  iintro %acc HI
  unfold loopInv
  icases HI with ⟨%g11, %g12, %g13, %g14, H5, H6, H7, H10, H11, H12, H13, H14⟩
  by_cases hodd : k0_cond1 i = 1#1
  · sl_exec
    sl_step
    iapply Hk
    isplitl [H3]
    · iexists f3
      isplitr
      · ipureintro
        assumption
      iexact H3
    isplitl [H4]
    · iexists f4
      isplitr
      · ipureintro
        assumption
      iexact H4
    isplitl [H5]
    · iexists f5
      isplitr
      · ipureintro
        assumption
      iexact H5
    isplitl [H6]
    · iexists f6
      isplitr
      · ipureintro
        assumption
      iexact H6
    isplitl [H7]
    · iexists f7
      isplitr
      · ipureintro
        assumption
      iexact H7
    isplitl [H8]
    · iexists f8
      isplitr
      · ipureintro
        assumption
      iexact H8
    isplitl [H9]
    · iexists _, _
      isplitr; swap
      · iexact H9
      ipureintro
      rfl
    isplitl [H10]
    · iexists _, _
      isplitr; swap
      · iexact H10
      ipureintro
      rfl
    isplitl [H11]
    · iexists _, _
      isplitr; swap
      · iexact H11
      ipureintro
      rfl
    isplitl [H12]
    · iexists _, _
      isplitr; swap
      · iexact H12
      ipureintro
      rfl
    isplitl [H13]
    · iexists _, _
      isplitr; swap
      · iexact H13
      ipureintro
      rfl
    iexists _, _
    isplitr; swap
    · iexact H14
    ipureintro
    rfl
  · sl_exec
    sl_step
    iapply Hk
    isplitl [H3]
    · iexists f3
      isplitr
      · ipureintro
        assumption
      iexact H3
    isplitl [H4]
    · iexists f4
      isplitr
      · ipureintro
        assumption
      iexact H4
    isplitl [H5]
    · iexists f5
      isplitr
      · ipureintro
        assumption
      iexact H5
    isplitl [H6]
    · iexists f6
      isplitr
      · ipureintro
        assumption
      iexact H6
    isplitl [H7]
    · iexists f7
      isplitr
      · ipureintro
        assumption
      iexact H7
    isplitl [H8]
    · iexists f8
      isplitr
      · ipureintro
        assumption
      iexact H8
    isplitl [H9]
    · iexists _, _
      isplitr; swap
      · iexact H9
      ipureintro
      rfl
    isplitl [H10]
    · iexists _, _
      isplitr; swap
      · iexact H10
      ipureintro
      rfl
    isplitl [H11]
    · iexists _, _
      isplitr; swap
      · iexact H11
      ipureintro
      rfl
    isplitl [H12]
    · iexists _, _
      isplitr; swap
      · iexact H12
      ipureintro
      rfl
    isplitl [H13]
    · iexists _, _
      isplitr; swap
      · iexact H13
      ipureintro
      rfl
    iexists _, _
    isplitr; swap
    · iexact H14
    ipureintro
    rfl

end Cert.Kernel.Fox
-- ==== Proof.Word.Run.lean ====
module

public import proofs.«01_k».proof.Proof.Word.Body
public import proofs.«01_k».proof.Proof.Gen.Kernel.Frame
public import Idealize.ShloMosaic.Lib.Claim

@[expose] public section

set_option maxRecDepth 16384

/-! # The launch

The proof data of the pipeline (each input's staging buffer at its block, nothing said of the output), the body obligation from the body's triple, the run, and the frame. -/

noncomputable section

namespace Cert.Kernel.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output, of which nothing is said. -/
def forgets0 : Fin 7 → Bool := fun w => w.val == 6

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

/-- The pipeline's invariant: the scratch buffers at some contents, and the generator register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩⟩
  iapply (body Variants.none c none Set.univ (grid0.coords t) _ _ _ _ _ _ _ _ _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  isplitl [S4]; · iexact S4
  iintro ⟨H0, H1, H2, H3, H4, H5, H6, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every window's array ends at what the proof data states, and every counter at zero. -/
theorem run_main_quiescent : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ))
    ((θ_run defs _ _).mono (fun _ h => h.2) (run_main_quiescent m ρ))

end Cert.Kernel.Fox
-- ==== Proof.Online.lean ====
module

public import Idealize.ShloMosaic.Lib.Pointwise
public import Mathlib.Analysis.SpecialFunctions.Pow.Real
public import Mathlib.Tactic.FieldSimp
public import Mathlib.Tactic.Positivity
public import Mathlib.Tactic.NormNum

@[expose] public section

/-! # The running softmax over the extended reals

`Rep σ w b m a` says that `m` and `a` are the running maximum and the running accumulator of the scores `σ` and the weights
`w` after the keys below `b`.  A tile of keys keeps it (`Rep.step`), and at the end the quotient of two accumulators is the
softmax's sum (`Rep.quotient`).  Nothing is asked of the weights `w`: they may be infinite. -/

noncomputable section

namespace Cert.Online

open Idealize.ShloMosaic

theorem mul_sum {ι : Type*} (K : Finset ι) (c : EReal) (h0 : 0 ≤ c) (ht : c ≠ ⊤) (f : ι → EReal) :
    c * ∑ s ∈ K, f s = ∑ s ∈ K, c * f s := by
  classical
  induction K using Finset.induction_on with
  | empty => simp
  | insert a K ha ih =>
    rw [Finset.sum_insert ha, Finset.sum_insert ha, EReal.left_distrib_of_nonneg_of_ne_top h0 ht, ih]

theorem exp2_nonneg (x : EReal) : 0 ≤ Ideal.exp2 x := by
  induction x with
  | bot => simp
  | top => simp
  | coe r => rw [Ideal.exp2_coe]; exact_mod_cast (Real.rpow_nonneg (by norm_num) r)

theorem exp2_ne_top {x : EReal} (h : x ≠ ⊤) : Ideal.exp2 x ≠ ⊤ := by
  induction x with
  | bot => simp
  | top => exact absurd rfl h
  | coe r => rw [Ideal.exp2_coe]; exact EReal.coe_ne_top _

theorem sub_ne_top {m m' : EReal} (h : m ≤ m') (ht : m' ≠ ⊤) : m - m' ≠ ⊤ := by
  induction m' with
  | bot => rw [le_bot_iff.mp h]; simp
  | top => exact absurd rfl ht
  | coe r =>
    induction m with
    | bot => simp
    | top => exact absurd h (by simp)
    | coe s => rw [← EReal.coe_sub]; exact EReal.coe_ne_top _

theorem exp2_mul {σ m m' : EReal} (h : σ ≤ m) (h' : m ≤ m') (ht : m' ≠ ⊤) :
    Ideal.exp2 (m - m') * Ideal.exp2 (σ - m) = Ideal.exp2 (σ - m') := by
  induction m' with
  | bot => obtain rfl := le_bot_iff.mp h'; obtain rfl := le_bot_iff.mp h; simp
  | top => exact absurd rfl ht
  | coe r =>
    induction m with
    | bot => obtain rfl := le_bot_iff.mp h; simp
    | top => exact absurd h' (by simp)
    | coe s =>
      induction σ with
      | bot => simp
      | top => exact absurd h (by simp)
      | coe t =>
        rw [← EReal.coe_sub, ← EReal.coe_sub, ← EReal.coe_sub, Ideal.exp2_coe, Ideal.exp2_coe, Ideal.exp2_coe, ← EReal.coe_mul]
        congr 1
        show (2 : ℝ) ^ (s - r) * (2 : ℝ) ^ (t - s) = (2 : ℝ) ^ (t - r)
        rw [← Real.rpow_add (by norm_num)]
        congr 1
        ring

/-- The running maximum and accumulator after the keys below `b`. -/
structure Rep (σ w : ℕ → EReal) (b : ℕ) (m a : EReal) : Prop where
  max : m = (Finset.range b).sup σ
  acc : a = ∑ s ∈ Finset.range b, w s * Ideal.exp2 (σ s - m)

theorem Rep.zero (σ w : ℕ → EReal) : Rep σ w 0 ⊥ 0 := ⟨by simp, by simp⟩

theorem sup_range_add (σ : ℕ → EReal) (b T : ℕ) :
    (Finset.range (b + T)).sup σ
      = Max.max ((Finset.range b).sup σ) (Finset.univ.fold Max.max ⊥ fun x : Fin T => σ (b + x)) := by
  have e : (Finset.univ.fold Max.max ⊥ fun x : Fin T => σ (b + x)) = Finset.univ.sup fun x : Fin T => σ (b + x) := rfl
  rw [e]
  refine le_antisymm (Finset.sup_le fun s hs => ?_) (max_le (Finset.sup_mono ?_) (Finset.sup_le fun x _ => ?_))
  · by_cases h : s < b
    · exact le_max_of_le_left (Finset.le_sup (f := σ) (Finset.mem_range.mpr h))
    · refine le_max_of_le_right ?_
      have hs := Finset.mem_range.mp hs
      have : σ s = (fun x : Fin T => σ (b + x)) ⟨s - b, by omega⟩ := by simp only; congr 1; omega
      rw [this]
      exact Finset.le_sup (f := fun x : Fin T => σ (b + x)) (Finset.mem_univ _)
  · intro s hs
    have := Finset.mem_range.mp hs
    exact Finset.mem_range.mpr (by omega)
  · exact Finset.le_sup (f := σ) (Finset.mem_range.mpr (by omega))

theorem sup_ne_top {σ : ℕ → EReal} (hσ : ∀ s, σ s ≠ ⊤) (b : ℕ) : (Finset.range b).sup σ ≠ ⊤ := by
  rw [← lt_top_iff_ne_top, Finset.sup_lt_iff (by exact bot_lt_top)]
  exact fun s _ => lt_top_iff_ne_top.mpr (hσ s)

theorem Rep.step {σ w : ℕ → EReal} {b : ℕ} {m a m' a' : EReal} (h : Rep σ w b m a) (hσ : ∀ s, σ s ≠ ⊤) (T : ℕ)
    (hm : m' = Max.max m (Finset.univ.fold Max.max ⊥ fun x : Fin T => σ (b + x)))
    (ha : a' = Ideal.exp2 (m - m') * a + ∑ x : Fin T, w (b + x) * Ideal.exp2 (σ (b + x) - m')) :
    Rep σ w (b + T) m' a' := by
  have e : m' = (Finset.range (b + T)).sup σ := by rw [hm, h.max, sup_range_add]
  have ht : m' ≠ ⊤ := by rw [e]; exact sup_ne_top hσ _
  have hle : m ≤ m' := by rw [hm]; exact le_max_left _ _
  refine ⟨e, ?_⟩
  rw [Finset.sum_range_add, ha, h.acc, mul_sum _ _ (exp2_nonneg _) (exp2_ne_top (sub_ne_top hle ht))]
  congr 1
  · refine Finset.sum_congr rfl fun s hs => ?_
    rw [mul_left_comm, exp2_mul _ hle ht]
    rw [h.max]
    exact Finset.le_sup (f := σ) hs
  · rw [Finset.sum_range]

/-- A tile that is met by fewer keys under a smaller bound: the maxima and accumulators of equal scores agree. -/
theorem Rep.congr {σ σ' w : ℕ → EReal} {b : ℕ} {m a : EReal} (h : Rep σ w b m a) (e : ∀ s < b, σ s = σ' s) :
    Rep σ' w b m a := by
  refine ⟨h.max.trans (Finset.sup_congr rfl fun s hs => e s (Finset.mem_range.mp hs)), h.acc.trans ?_⟩
  exact Finset.sum_congr rfl fun s hs => by rw [e s (Finset.mem_range.mp hs)]

theorem fold_max_eq_sup_range (τ : ℕ → EReal) (N : ℕ) :
    (Finset.univ.fold Max.max ⊥ fun k : Fin N => τ k) = (Finset.range N).sup τ := by
  have := sup_range_add τ 0 N
  simp only [zero_add, Finset.range_zero, Finset.sup_empty] at this
  rw [this]
  exact (max_eq_right bot_le).symm

/-- A maximum over the keys below a bound past the query is attained at a key not after the query. -/
theorem sup_masked (ρ : ℕ → ℝ) (Q : ℕ) : ∃ s₀ ≤ Q, ∀ s ≤ Q, ρ s ≤ ρ s₀ := by
  obtain ⟨s₀, h₀, h⟩ := Finset.exists_max_image (Finset.range (Q + 1)) ρ ⟨0, by simp⟩
  exact ⟨s₀, Nat.lt_succ_iff.mp (Finset.mem_range.mp h₀), fun s hs => h s (Finset.mem_range.mpr (by omega))⟩

theorem sup_masked_eq (ρ : ℕ → ℝ) (Q b : ℕ) (hQ : Q < b) (s₀ : ℕ) (h₀ : s₀ ≤ Q) (h : ∀ s ≤ Q, ρ s ≤ ρ s₀) :
    (Finset.range b).sup (fun s => if s ≤ Q then (ρ s : EReal) else ⊥) = (ρ s₀ : EReal) := by
  refine le_antisymm (Finset.sup_le fun s _ => ?_) ?_
  · by_cases hs : s ≤ Q
    · rw [if_pos hs]; exact_mod_cast h s hs
    · rw [if_neg hs]; exact bot_le
  · have : (ρ s₀ : EReal) = (fun s => if s ≤ Q then (ρ s : EReal) else ⊥) s₀ := by simp only [if_pos h₀]
    rw [this]
    exact Finset.le_sup (f := fun s => if s ≤ Q then (ρ s : EReal) else ⊥) (Finset.mem_range.mpr (by omega))

/-- The quotient of the accumulator of `w` by that of ones is the sum of `w` under the softmax of the natural scores `ρ`,
    the keys after the query `Q` masked. -/
theorem Rep.quotient {w : ℕ → EReal} {σ : ℕ → EReal} {b : ℕ} {m a l : EReal} (ρ : ℕ → ℝ) (ℓ : ℝ) (hℓ : ℓ = 1 / Real.log 2) (Q N : ℕ)
    (hσ : ∀ s < b, σ s = if s ≤ Q then ((ρ s * ℓ : ℝ) : EReal) else ⊥)
    (ha : Rep σ w b m a) (hl : Rep σ (fun _ => 1) b m l) (hQ : Q < b) (hb : b ≤ N) (τ : ℕ → EReal)
    (hτ : ∀ s < N, τ s = if s ≤ Q then (ρ s : EReal) else ⊥)
    (M : EReal) (hM : M = (Finset.range N).sup τ) :
    a * Ideal.div 1 l
      = ∑ k : Fin N, (if (k : ℕ) ≤ Q then Ideal.div (Ideal.exp (τ k - M)) (∑ k' : Fin N, Ideal.exp (τ k' - M)) else 0) * w k := by
  have ha := ha.congr hσ
  have hl := hl.congr hσ
  obtain ⟨s₀, h₀, hmax⟩ := sup_masked ρ Q
  have hlog : 0 < Real.log 2 := Real.log_pos (by norm_num)
  have hℓ0 : 0 < ℓ := by rw [hℓ]; positivity
  set e : ℕ → ℝ := fun s => if s ≤ Q then Real.exp (ρ s - ρ s₀) else 0 with he
  have hm : m = ((ρ s₀ * ℓ : ℝ) : EReal) := by
    rw [ha.max]
    exact sup_masked_eq (fun s => ρ s * ℓ) Q b hQ s₀ h₀ fun s hs => mul_le_mul_of_nonneg_right (hmax s hs) hℓ0.le
  have hM' : M = (ρ s₀ : EReal) := by
    rw [hM, ← sup_masked_eq ρ Q N (by omega) s₀ h₀ hmax]
    exact Finset.sup_congr rfl fun s hs => hτ s (Finset.mem_range.mp hs)
  have e2 : ∀ s, Ideal.exp2 ((if s ≤ Q then ((ρ s * ℓ : ℝ) : EReal) else ⊥) - m) = (e s : EReal) := by
    intro s
    by_cases hs : s ≤ Q
    · rw [if_pos hs, hm, ← EReal.coe_sub, Ideal.exp2_coe, he]
      simp only [if_pos hs]
      congr 1
      show (2 : ℝ) ^ (ρ s * ℓ - ρ s₀ * ℓ) = _
      rw [Real.rpow_def_of_pos (by norm_num), hℓ]
      congr 1
      field_simp
    · rw [if_neg hs, he]; simp [if_neg hs]
  have e1 : ∀ s < N, Ideal.exp (τ s - M) = (e s : EReal) := by
    intro s hsN
    rw [hτ s hsN]
    by_cases hs : s ≤ Q
    · rw [if_pos hs, hM', ← EReal.coe_sub, Ideal.exp_coe, he]; simp only [if_pos hs]
    · rw [if_neg hs, he]; simp [if_neg hs]
  have hsub : Finset.range b ⊆ Finset.range N := fun s hs => Finset.mem_range.mpr (by have := Finset.mem_range.mp hs; omega)
  have hz : ∀ s, s ∉ Finset.range b → e s = 0 := fun s hs => by
    have : ¬ s ≤ Q := fun h => hs (Finset.mem_range.mpr (by omega))
    simp only [he, if_neg this]
  have hcoe : ∀ K : Finset ℕ, ∑ s ∈ K, (e s : EReal) = ((∑ s ∈ K, e s : ℝ) : EReal) := fun K => by
    classical
    induction K using Finset.induction_on with
    | empty => simp
    | insert a K ha ih => rw [Finset.sum_insert ha, Finset.sum_insert ha, ih, EReal.coe_add]
  set L : ℝ := ∑ s ∈ Finset.range b, e s with hL
  have hL0 : 0 < L := by
    refine Finset.sum_pos' (fun s _ => ?_) ⟨s₀, Finset.mem_range.mpr (by omega), ?_⟩
    · simp only [he]; split_ifs; exacts [(Real.exp_pos _).le, le_rfl]
    · simp only [he, if_pos h₀]; exact Real.exp_pos _
  have hlL : l = (L : EReal) := by
    rw [hl.acc, hL, ← hcoe]
    exact Finset.sum_congr rfl fun s _ => by rw [e2, one_mul]
  have hden : (∑ k' : Fin N, Ideal.exp (τ k' - M)) = (L : EReal) := by
    rw [← Finset.sum_range (fun k => Ideal.exp (τ k - M)), hL, ← hcoe]
    rw [Finset.sum_congr rfl fun s hs => e1 s (Finset.mem_range.mp hs)]
    exact (Finset.sum_subset hsub fun s _ hs => by rw [hz s hs]; rfl).symm
  have haE : a = ∑ s ∈ Finset.range N, w s * (e s : EReal) := by
    rw [ha.acc, Finset.sum_congr rfl fun s _ => by rw [e2]]
    exact Finset.sum_subset hsub fun s _ hs => by rw [hz s hs]; simp
  rw [hden, hlL, Ideal.div_coe hL0.ne', one_mul, haE, mul_comm,
    mul_sum _ _ (by exact_mod_cast (by positivity : (0 : ℝ) ≤ 1 / L)) (EReal.coe_ne_top _),
    ← Finset.sum_range (fun k => (if (k : ℕ) ≤ Q then Ideal.div (Ideal.exp (τ k - M)) (L : EReal) else 0) * w k)]
  refine Finset.sum_congr rfl fun s hs => ?_
  by_cases h : s ≤ Q
  · rw [if_pos h, e1 s (Finset.mem_range.mp hs), Ideal.div_coe hL0.ne']
    rw [mul_comm (w s), ← mul_assoc, mul_comm ((1 / L : ℝ) : EReal)]
  · have : e s = 0 := by simp only [he, if_neg h]
    rw [if_neg h, this]; simp

end Cert.Online

end
-- ==== Proof.Tile.lean ====
module

public import proofs.«01_k».proof.Proof.Pure
public import proofs.«01_k».proof.Proof.Online
public import Idealize.ShloMosaic.Lib.Pointwise
public import Idealize.ShloMosaic.Lib.Pipeline.ValueKit

@[expose] public section

set_option maxRecDepth 16384

/-! # The payloads of the attention at an index, over the reals -/

noncomputable section

namespace Cert.KernelIdeal.Fox

open Idealize.ShloMosaic
open Cert.KernelIdeal.Gen

/-- The running accumulator's step over a tile of 512 keys. -/
theorem pay7_at (mo mn : Vec Ideal S1x512 .f32) (s mb : Vec Ideal S512x512 .f32)
    (v : Vec Ideal S1x64x512 .bf16) (a : Vec Ideal S1x80x512 .f32) (r : Fin 80) (j : Fin 512) :
    k0_pay7 (k0_pay98 (F := Ideal)) mo mn s mb v a (ix3 (0 : Fin 1) r j)
      = Ideal.exp2 (mo (ix2 (0 : Fin 1) j) - mn (ix2 (0 : Fin 1) j)) * a (ix3 (0 : Fin 1) r j)
        + ∑ x : Fin 512, (if h : r.val < 64 then v (ix3 (0 : Fin 1) (⟨r.val, h⟩ : Fin 64) x) else 1)
            * Ideal.exp2 (s (ix2 x j) - mb (ix2 x j)) := by
  pointwise [k0_pay7, k0_pay98]
  rfl

theorem pay3_at (a : Vec Ideal S1x512x128 .bf16) (b : Vec Ideal S1x1x512x128 .bf16) (c : Vec Ideal S256x512 .bf16) (i j : Fin 512) :
    k0_pay3 (F := Ideal) a b c (ix2 i j)
      = ∑ x : Fin 256, (if h : x.val < 128 then a (ix3 (0 : Fin 1) i (⟨x.val, h⟩ : Fin 128))
          else b (ix4 (0 : Fin 1) (0 : Fin 1) i (⟨x.val - 128, by omega⟩ : Fin 128))) * c (ix2 x j) := by
  pointwise [k0_pay3, k0_pay2]

theorem pay4_at (a : Vec Ideal S1x512x128 .bf16) (b : Vec Ideal S1x1x512x128 .bf16) (c : Vec Ideal S256x512 .bf16) (j : Fin 512) :
    k0_pay4 (F := Ideal) a b c (ix3 (0 : Fin 1) (0 : Fin 1) j)
      = Finset.univ.fold max ⊥ fun x : Fin 512 => k0_pay3 (F := Ideal) a b c (ix2 x j) := by
  pointwise [k0_pay4, k0_pay3]
  rfl

theorem pay5_at (mo : Vec Ideal S1x512 .f32) (s : Vec Ideal S1x1x512 .f32) (j : Fin 512) :
    k0_pay5 mo s (ix2 (0 : Fin 1) j) = max (mo (ix2 (0 : Fin 1) j)) (s (ix3 (0 : Fin 1) (0 : Fin 1) j)) := by
  pointwise [k0_pay5]

theorem pay6_at (mo : Vec Ideal S1x512 .f32) (s : Vec Ideal S1x1x512 .f32) (x j : Fin 512) :
    k0_pay6 mo s (ix2 x j) = k0_pay5 mo s (ix2 (0 : Fin 1) j) := by
  pointwise [k0_pay6]

theorem pay79_at (mo : Vec Ideal S1x512 .f32) (b : Vec Ideal S512x512 .f32) (d : Vec Ideal S256x512 .f32) (j : Fin 512) :
    k0_pay79 mo b d (ix2 (0 : Fin 1) j)
      = max (mo (ix2 (0 : Fin 1) j))
          (Finset.univ.fold max ⊥ fun x : Fin 256 => d (ix2 x j) + b (ix2 (⟨x.val, by omega⟩ : Fin 512) j)) := by
  pointwise [k0_pay79, k0_pay78, k0_pay77]
  rfl

theorem pay80_at (mo : Vec Ideal S1x512 .f32) (b : Vec Ideal S512x512 .f32) (d : Vec Ideal S256x512 .f32)
    (v : Vec Ideal S1x64x512 .bf16) (a : Vec Ideal S1x80x512 .f32) (r : Fin 80) (j : Fin 512) :
    k0_pay80 (k0_pay98 (F := Ideal)) mo b d v a (ix3 (0 : Fin 1) r j)
      = Ideal.exp2 (mo (ix2 (0 : Fin 1) j) - k0_pay79 mo b d (ix2 (0 : Fin 1) j)) * a (ix3 (0 : Fin 1) r j)
        + ∑ x : Fin 256, (if h : r.val < 64 then v (ix3 (0 : Fin 1) (⟨r.val, h⟩ : Fin 64) (⟨x.val, by omega⟩ : Fin 512)) else 1)
            * Ideal.exp2 (d (ix2 x j) + b (ix2 (⟨x.val, by omega⟩ : Fin 512) j) - k0_pay79 mo b d (ix2 (0 : Fin 1) j)) := by
  pointwise [k0_pay80, k0_pay78, k0_pay77, k0_pay98]
  rfl

theorem pay81_at (mo : Vec Ideal S1x512 .f32) (b : Vec Ideal S512x512 .f32) (d : Vec Ideal S256x512 .f32) (j : Fin 256) :
    k0_pay81 mo b d (ix2 (0 : Fin 1) j) = k0_pay79 mo b d (ix2 (0 : Fin 1) (⟨256 + j.val, by omega⟩ : Fin 512)) := by
  pointwise [k0_pay81]

theorem pay82_at (b : Vec Ideal S512x512 .f32) (d : Vec Ideal S256x256 .f32) (x j : Fin 256) :
    k0_pay82 b d (ix2 x j) = d (ix2 x j) + b (ix2 (⟨256 + x.val, by omega⟩ : Fin 512) (⟨256 + j.val, by omega⟩ : Fin 512)) := by
  pointwise [k0_pay82, k0_pay77]

theorem pay83_at (mo : Vec Ideal S1x512 .f32) (b : Vec Ideal S512x512 .f32) (d : Vec Ideal S256x512 .f32)
    (e : Vec Ideal S256x256 .f32) (j : Fin 256) :
    k0_pay83 mo b d e (ix2 (0 : Fin 1) j)
      = max (k0_pay81 mo b d (ix2 (0 : Fin 1) j)) (Finset.univ.fold max ⊥ fun x : Fin 256 => k0_pay82 b e (ix2 x j)) := by
  pointwise [k0_pay83]
  rfl

theorem pay84_at (mo : Vec Ideal S1x256 .f32) (s : Vec Ideal S256x256 .f32) (mn : Vec Ideal S1x256 .f32)
    (v : Vec Ideal S1x64x512 .bf16) (a : Vec Ideal S1x80x256 .f32) (r : Fin 80) (j : Fin 256) :
    k0_pay84 (k0_pay98 (F := Ideal)) mo s mn v a (ix3 (0 : Fin 1) r j)
      = Ideal.exp2 (mo (ix2 (0 : Fin 1) j) - mn (ix2 (0 : Fin 1) j)) * a (ix3 (0 : Fin 1) r j)
        + ∑ x : Fin 256, (if h : r.val < 64 then v (ix3 (0 : Fin 1) (⟨r.val, h⟩ : Fin 64) (⟨256 + x.val, by omega⟩ : Fin 512)) else 1)
            * Ideal.exp2 (s (ix2 x j) - mn (ix2 (0 : Fin 1) j)) := by
  pointwise [k0_pay84, k0_pay98]
  rfl

theorem pay109_at (a : Vec Ideal S1x80x512 .f32) (r : Fin 64) (j : Fin 512) :
    k0_pay109 (F := Ideal) a (ix2 r j)
      = a (ix3 (0 : Fin 1) (⟨r.val, by omega⟩ : Fin 80) j) * Ideal.div 1 (a (ix3 (0 : Fin 1) (64 : Fin 80) j)) := by
  pointwise [k0_pay109]

theorem pay1_at (u : Vec Ideal S64x512 .f32) (a : Vec Ideal S1x80x512 .f32) (j : Fin 512) (l : Fin 128) :
    k0_pay1 (F := Ideal) u a (ix3 (0 : Fin 1) j l)
      = if h : l.val < 64 then u (ix2 (⟨l.val, h⟩ : Fin 64) j)
        else a (ix3 (0 : Fin 1) (⟨l.val - 64, by omega⟩ : Fin 80) j) * Ideal.div 1 (a (ix3 (0 : Fin 1) (64 : Fin 80) j)) := by
  pointwise [k0_pay1]

theorem pay105_at (j : Fin 512) : k0_pay105 (F := Ideal) (ix2 (0 : Fin 1) j) = ⊥ := rfl

theorem pay97_at (y : S2x80x512.Idx) : k0_pay97 (F := Ideal) y = 0 := by
  pointwise [k0_pay97]

end Cert.KernelIdeal.Fox

end
-- ==== Proof.Rows.lean ====
module

public import proofs.«01_k».proof.Proof.Tile

@[expose] public section

set_option maxRecDepth 16384

/-! # A query's accumulator after the last key tile is the running softmax of its scores -/

noncomputable section

namespace Cert.KernelIdeal.Fox

open Idealize.ShloMosaic
open Cert.KernelIdeal.Gen Cert.Online

theorem blk_at {α : Type} {s : Shape} (x : s.Idx → α) (off size : Fin s.rank → ℕ) (pos : ∀ a, 0 < s.size a)
    (y : (a : Fin s.rank) → Fin (size a)) (z : s.Idx) (h : ∀ a, (z a).val = (off a + (y a).val) % s.size a) :
    blk x off size pos y = x z :=
  congrArg x (funext fun a => Fin.ext (h a).symm)

theorem put_inside {α : Type} {s : Shape} (x : s.Idx → α) (off size : Fin s.rank → ℕ)
    (w : ((a : Fin s.rank) → Fin (size a)) → α) (y : s.Idx) (z : (a : Fin s.rank) → Fin (size a))
    (h : ∀ a, (y a).val = off a + (z a).val) : VecWindow.put x off size w y = w z := by
  have h' : ∀ a, off a ≤ (y a).val ∧ (y a).val < off a + size a := fun a => by
    have := (z a).isLt; have := h a; omega
  unfold VecWindow.put
  rw [dif_pos h']
  refine congrArg w (funext fun a => Fin.ext ?_)
  show (y a).val - off a = (z a).val
  have := h a
  omega

theorem put_outside {α : Type} {s : Shape} (x : s.Idx → α) (off size : Fin s.rank → ℕ)
    (w : ((a : Fin s.rank) → Fin (size a)) → α) (y : s.Idx) (a : Fin s.rank)
    (h : (y a).val < off a ∨ off a + size a ≤ (y a).val) : VecWindow.put x off size w y = x y := by
  unfold VecWindow.put
  rw [dif_neg]
  intro h'
  have := h' a
  omega

theorem right_half (j : Fin 512) (hj : ¬ j.val < 256) :
    ∃ (j' : Fin 256) (hh : 256 + j'.val < 512), j = (⟨256 + j'.val, hh⟩ : Fin 512) :=
  ⟨⟨j.val - 256, by omega⟩, by show 256 + (j.val - 256) < 512; omega, Fin.ext (by show j.val = 256 + (j.val - 256); omega)⟩

section Tile

variable (x5 : Vec Ideal S1x8192x128 .bf16) (x6 : Vec Ideal S1x1x8192x128 .bf16) (x7 : Vec Ideal S1x128x8192 .bf16)
  (x8 : Vec Ideal S512x512 .f32) (bm : Vec Ideal S256x1024 .bf16)

theorem vblk_at (h n : ℕ) (r : Fin 64) (k : Fin 512) :
    vblk x7 h n (ix3 (0 : Fin 1) r k)
      = x7 (ix3 (0 : Fin 1) (⟨(64 * h + r.val) % 128, Nat.mod_lt _ (by omega)⟩ : Fin 128)
          (⟨(512 * n + k.val) % 8192, Nat.mod_lt _ (by omega)⟩ : Fin 8192)) := by
  unfold vblk
  refine blk_at _ _ _ _ _ _ fun a => ?_
  match a with
  | ⟨0, _⟩ => rfl
  | ⟨1, _⟩ => rfl
  | ⟨2, _⟩ => rfl

theorem dtop_at (h n : ℕ) (x : Fin 256) (j : Fin 512) :
    dtop x5 x6 bm h n (ix2 x j) = score x5 x6 bm h n (ix2 (⟨x.val, by omega⟩ : Fin 512) j) := by
  unfold dtop
  refine blk_at _ _ _ _ _ _ fun a => ?_
  match a with
  | ⟨0, _⟩ => show x.val = (0 + x.val) % 512; omega
  | ⟨1, _⟩ => show j.val = (0 + j.val) % 512; omega

theorem dbot_at (h n : ℕ) (x j : Fin 256) :
    dbot x5 x6 bm h n (ix2 x j)
      = score x5 x6 bm h n (ix2 (⟨256 + x.val, by omega⟩ : Fin 512) (⟨256 + j.val, by omega⟩ : Fin 512)) := by
  unfold dbot
  refine blk_at _ _ _ _ _ _ fun a => ?_
  match a with
  | ⟨0, _⟩ => show 256 + x.val = (256 + x.val) % 512; omega
  | ⟨1, _⟩ => show 256 + j.val = (256 + j.val) % 512; omega

/-- Row `r` of the operand the weights multiply: a value of head `h` of the pair, or one. -/
def wrow (h : ℕ) (r : Fin 80) (s : ℕ) : EReal :=
  if r.val < 64 then x7 (ix3 (0 : Fin 1) (⟨(64 * h + r.val) % 128, Nat.mod_lt _ (by omega)⟩ : Fin 128)
    (⟨s % 8192, Nat.mod_lt _ (by omega)⟩ : Fin 8192)) else 1

theorem wrow_vblk (h n : ℕ) (r : Fin 80) (k : Fin 512) :
    (if hr : r.val < 64 then vblk x7 h n (ix3 (0 : Fin 1) (⟨r.val, hr⟩ : Fin 64) k) else (1 : EReal)) = wrow x7 h r (512 * n + k.val) := by
  unfold wrow
  by_cases hr : r.val < 64
  · rw [dif_pos hr, if_pos hr, vblk_at]
  · rw [dif_neg hr, if_neg hr]

variable (h : ℕ) (j : Fin 512) (σ : ℕ → EReal) (hσ : ∀ s, σ s ≠ ⊤)

include hσ in
/-- After the first `n` tiles. -/
theorem rep_run (r : Fin 80) (n : ℕ) (hs : ∀ n' < n, ∀ k : Fin 512, score x5 x6 bm h n' (ix2 k j) = σ (512 * n' + k.val)) :
    Rep σ (wrow x7 h r) (512 * n) (mrun x5 x6 bm h n (ix2 (0 : Fin 1) j)) (arun x5 x6 x7 bm h n (ix3 (0 : Fin 1) r j)) := by
  induction n with
  | zero =>
    have : arun x5 x6 x7 bm h 0 (ix3 (0 : Fin 1) r j) = 0 := by
      show blk (s := S2x80x512) (k0_pay97 (F := Ideal)) ![h, 0, 0] S1x80x512.size (by decide) (ix3 (0 : Fin 1) r j) = 0
      unfold blk
      rw [pay97_at]
    rw [this]
    exact Rep.zero _ _
  | succ n ih =>
    refine (ih fun n' hn' => hs n' (by omega)).step hσ 512 ?_ ?_
    · show k0_pay5 _ _ _ = _
      rw [pay5_at]
      unfold smax
      rw [pay4_at]
      congr 2
      funext x
      exact hs n (by omega) x
    · show k0_pay7 _ _ _ _ _ _ _ _ = _
      rw [pay7_at]
      congr 1
      refine Finset.sum_congr rfl fun x _ => ?_
      rw [wrow_vblk, hs n (by omega) x, pay6_at]
      rfl

variable (n : ℕ) (hs : ∀ n' < n, ∀ k : Fin 512, score x5 x6 bm h n' (ix2 k j) = σ (512 * n' + k.val))
  (hd : ∀ k : Fin 512, score x5 x6 bm h n (ix2 k j) + x8 (ix2 k j) = σ (512 * n + k.val))

include hσ hs hd in
/-- After the first half of the diagonal tile. -/
theorem rep_top (r : Fin 80) :
    Rep σ (wrow x7 h r) (512 * n + 256) (k0_pay79 (mrun x5 x6 bm h n) x8 (dtop x5 x6 bm h n) (ix2 (0 : Fin 1) j))
      (adiag x5 x6 x7 x8 bm h n (ix3 (0 : Fin 1) r j)) := by
  refine (rep_run x5 x6 x7 bm h j σ hσ r n hs).step hσ 256 ?_ ?_
  · rw [pay79_at]
    congr 2
    funext x
    rw [dtop_at]
    exact hd ⟨x.val, by omega⟩
  · unfold adiag
    rw [pay80_at]
    congr 1
    refine Finset.sum_congr rfl fun x _ => ?_
    rw [wrow_vblk, dtop_at, hd ⟨x.val, by omega⟩]

include hσ hs hd in
/-- After the diagonal tile: the keys below some bound past the query, and at most past the tile. -/
theorem rep_fin : ∃ (m : EReal) (b : ℕ), 512 * n + j.val < b ∧ b ≤ 512 * n + 512 ∧
    ∀ r : Fin 80, Rep σ (wrow x7 h r) b m (afin x5 x6 x7 x8 bm h n (ix3 (0 : Fin 1) r j)) := by
  by_cases hj : j.val < 256
  · refine ⟨k0_pay79 (mrun x5 x6 bm h n) x8 (dtop x5 x6 bm h n) (ix2 (0 : Fin 1) j), 512 * n + 256, by omega, by omega, fun r => ?_⟩
    have e : afin x5 x6 x7 x8 bm h n (ix3 (0 : Fin 1) r j) = adiag x5 x6 x7 x8 bm h n (ix3 (0 : Fin 1) r j) :=
      put_outside _ _ _ _ _ (2 : Fin 3) (Or.inl hj)
    rw [e]
    exact rep_top x5 x6 x7 x8 bm h j σ hσ n hs hd r
  · obtain ⟨j', hh, rfl⟩ := right_half j hj
    refine ⟨k0_pay83 (mrun x5 x6 bm h n) x8 (dtop x5 x6 bm h n) (dbot x5 x6 bm h n) (ix2 (0 : Fin 1) j'), 512 * n + 256 + 256, by show 512 * n + (256 + j'.val) < _; omega, by omega, fun r => ?_⟩
    have e : afin x5 x6 x7 x8 bm h n (ix3 (0 : Fin 1) r (⟨256 + j'.val, by omega⟩ : Fin 512))
        = adiag2 x5 x6 x7 x8 bm h n (ix3 (0 : Fin 1) r j') := by
      unfold afin
      refine put_inside (s := S1x80x512) _ ![0, 0, 256] S1x80x256.size _ _ (ix3 (0 : Fin 1) r j') fun a => ?_
      match a with
      | ⟨0, _⟩ => rfl
      | ⟨1, _⟩ => show r.val = 0 + r.val; omega
      | ⟨2, _⟩ => rfl
    rw [e]
    refine (rep_top x5 x6 x7 x8 bm h _ σ hσ n hs hd r).step hσ 256
      (m' := k0_pay83 (mrun x5 x6 bm h n) x8 (dtop x5 x6 bm h n) (dbot x5 x6 bm h n) (ix2 (0 : Fin 1) j')) ?_ ?_
    · rw [pay83_at, pay81_at]
      congr 2
      funext x
      rw [pay82_at, dbot_at]
      refine (hd ⟨256 + x.val, by omega⟩).trans (congrArg σ ?_)
      show 512 * n + (256 + x.val) = _
      omega
    · unfold adiag2
      rw [pay84_at, pay81_at]
      have ea : blk (s := S1x80x512) (adiag x5 x6 x7 x8 bm h n) ![0, 0, 256] S1x80x256.size (by decide) (ix3 (0 : Fin 1) r j')
          = adiag x5 x6 x7 x8 bm h n (ix3 (0 : Fin 1) r (⟨256 + j'.val, by omega⟩ : Fin 512)) := by
        refine blk_at _ _ _ _ _ _ fun a => ?_
        match a with
        | ⟨0, _⟩ => rfl
        | ⟨1, _⟩ => show r.val = (0 + r.val) % 80; omega
        | ⟨2, _⟩ => show 256 + j'.val = (256 + j'.val) % 512; omega
      rw [ea]
      congr 1
      refine Finset.sum_congr rfl fun x _ => ?_
      rw [wrow_vblk, pay82_at, dbot_at, hd ⟨256 + x.val, by omega⟩]
      have : 512 * n + (256 + x.val) = 512 * n + 256 + x.val := by omega
      show wrow x7 h r (512 * n + (256 + x.val)) * Ideal.exp2 (σ (512 * n + (256 + x.val)) - _) = _
      rw [this]

end Tile

end Cert.KernelIdeal.Fox

end
-- ==== Proof.Inputs.lean ====
module

public import proofs.«01_k».proof.Proof.Gen.KernelIdeal.Frame
public import Idealize.ShloMosaic.Lib.Pointwise
public import Idealize.ShloMosaic.Lib.Pipeline.ValueKit
public import Idealize.ShloMosaic.Lib.Claim

@[expose] public section

set_option maxRecDepth 16384

/-! # The arrays the kernel is launched on, at an index -/

noncomputable section

namespace Cert.KernelIdeal.Fox

open Idealize.ShloMosaic
open Cert.KernelIdeal.Gen

variable (m : (ℓ : Loc nD τ sig) → Buf (Elt Ideal) ℓ) (c : Dev nD)

/-- The base-two logarithm of e. -/
def l2e : ℝ := 1 / Real.log 2

theorem l2e_eq : Ideal.div 1 (Ideal.log (Ideal.ofBits FTy.f32 1073741824#32)) = (l2e : EReal) := by
  have e : Ideal.ofBits FTy.f32 1073741824#32 = ((2 : ℝ) : EReal) := by
    simp [Ideal.ofBits, Ideal.ieee]
    norm_num
    rw [← EReal.coe_mul]; norm_num
  have hl : Real.log 2 ≠ 0 := (Real.log_pos (by norm_num)).ne'
  rw [e, Ideal.log_coe, if_neg (by norm_num), Ideal.div_coe hl, one_mul, l2e]

theorem eighth_eq : Ideal.ofBits FTy.f32 1040187392#32 = ((1 / 8 : ℝ) : EReal) := by
  simp [Ideal.ofBits, Ideal.ieee]
  norm_num
  rw [← EReal.coe_mul]; norm_num

theorem minus_one_eq : Ideal.ofBits FTy.f32 3212836864#32 = ((-1 : ℝ) : EReal) := by
  simp [Ideal.ofBits, Ideal.ieee]
  norm_num
  rw [← EReal.coe_mul]; norm_num

/-- The queries, keys, values and forget sums as launched. -/
abbrev qA (b : Fin 4) (s : Fin 8192) (h : Fin 8) (d : Fin 64) : EReal := m (c, Proc.tc.devRef main_arg0) (ix4 b s h d)
abbrev kA (b : Fin 4) (s : Fin 8192) (h : Fin 8) (d : Fin 64) : EReal := m (c, Proc.tc.devRef main_arg1) (ix4 b s h d)
abbrev vA (b : Fin 4) (s : Fin 8192) (h : Fin 8) (d : Fin 64) : EReal := m (c, Proc.tc.devRef main_arg2) (ix4 b s h d)
abbrev cA (b : Fin 4) (s : Fin 8192) (h : Fin 8) : EReal := m (c, Proc.tc.devRef main_arg3) (ix3 b s h)

set_option maxHeartbeats 1600000 in
theorem ut_at (b : Fin 4) (r : Fin 1024) (s : Fin 8192) :
    (V m c main_v9 : Vec Ideal S4x1024x8192 .bf16) (ix3 b r s)
      = if h : r.val < 512 then
          qA m c b s ⟨r.val / 64, by omega⟩ ⟨r.val % 64, by omega⟩
            * (((1 / 8 : ℝ) : EReal) * (l2e : EReal))
        else vA m c b s ⟨(r.val - 512) / 64, by omega⟩ ⟨(r.val - 512) % 64, by omega⟩ := by
  show StableHlo.after _ _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append,
    StableHlo.TRef.ternary, StableHlo.TRef.unary, StableHlo.TRef.toBuf, StableHlo.TRef.ofBuf, cast_eq]
  after_results_simp
  pointwise []
  after_results_simp
  pointwise []
  simp only [l2e_eq, eighth_eq]
  trace_state

set_option maxHeartbeats 1600000 in
theorem u3_at (b : Fin 4) (s : Fin 8192) (r : Fin 512) :
    (V m c main_v11 : Vec Ideal S4x8192x512 .bf16) (ix3 b s r)
      = kA m c b s ⟨r.val / 64, by omega⟩ ⟨r.val % 64, by omega⟩ := by
  show StableHlo.after _ _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append,
    StableHlo.TRef.ternary, StableHlo.TRef.unary, StableHlo.TRef.toBuf, StableHlo.TRef.ofBuf, cast_eq]
  after_results_simp
  pointwise []

set_option maxHeartbeats 1600000 in
theorem bias_at (k j : Fin 512) :
    (V m c main_v90 : Vec Ideal S512x512 .f32) (ix2 k j) = if k.val ≤ j.val then (0 : EReal) else ⊥ := by
  show StableHlo.after _ _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append,
    StableHlo.TRef.ternary, StableHlo.TRef.unary, StableHlo.TRef.toBuf, StableHlo.TRef.ofBuf, cast_eq]
  after_results_simp
  pointwise []
  have e : Ideal.ofBits FTy.f32 4286578688#32 = ⊥ := rfl
  have hk : k.val < 2 ^ (32 - 1) := by have := k.isLt; omega
  have hj : j.val < 2 ^ (32 - 1) := by have := j.isLt; omega
  rw [e, Scalar.select, Idealize.ShloMosaic.WordCmp.cmpi_sle_ofNat hk hj]
  by_cases h : k.val ≤ j.val <;> simp [h]

/-- The first 16 lanes of a key's features, from the forget sums of the pair's two heads. -/
def kfR (ce co : ℝ) (r : ℕ) : ℝ := if r = 0 then ce * l2e else if r = 6 then co * l2e else if 3 ≤ r ∧ r < 6 then 1 else 0

/-- A query's features under head `h` of the pair, from the head's forget sum. -/
def qfR (h : ℕ) (cq : ℝ) (r : ℕ) : ℝ := if r = 3 then cq * l2e else if 6 * h ≤ r ∧ r < 6 * h + 3 then -1 else 0

set_option maxHeartbeats 1600000 in
theorem kf_at (C : Fin 4 → Fin 8192 → Fin 8 → ℝ)
    (hC : ∀ b s h, cA m c b s h = (C b s h : EReal))
    (b p : Fin 4) (s : Fin 8192) (r : Fin 16) :
    (V m c main_v85 : Vec Ideal S4x4x8192x128 .bf16) (ix4 b p s (⟨r.val, by omega⟩ : Fin 128))
      = (kfR (C b s (⟨p.val * 2, by omega⟩ : Fin 8)) (C b s (⟨p.val * 2 + 1, by omega⟩ : Fin 8)) r.val : EReal) := by
  show StableHlo.after _ _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append,
    StableHlo.TRef.ternary, StableHlo.TRef.unary, StableHlo.TRef.toBuf, StableHlo.TRef.ofBuf, cast_eq]
  after_results_simp
  pointwise [id]
  simp only [l2e_eq, minus_one_eq, hC]
  fin_cases r <;> simp [kfR, Scalar.select, IntOp.cmpi, ← EReal.coe_mul, ← EReal.coe_sub]

set_option maxHeartbeats 1600000 in
theorem qf_at (C : Fin 4 → Fin 8192 → Fin 8 → ℝ)
    (hC : ∀ b s h, cA m c b s h = (C b s h : EReal))
    (b p : Fin 4) (h : Fin 2) (r : Fin 16) (s : Fin 8192) :
    (V m c main_v86 : Vec Ideal S4x4x2x16x8192 .bf16) (ix5 b p h r s)
      = (qfR h.val (C b s (⟨p.val * 2 + h.val, by omega⟩ : Fin 8)) r.val : EReal) := by
  show StableHlo.after _ _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append,
    StableHlo.TRef.ternary, StableHlo.TRef.unary, StableHlo.TRef.toBuf, StableHlo.TRef.ofBuf, cast_eq]
  after_results_simp
  pointwise [id]
  simp only [l2e_eq, minus_one_eq, hC]
  fin_cases h <;> fin_cases r <;> simp [qfR, Scalar.select, IntOp.cmpi, IntOp.andi, IntOp.muli, IntOp.addi, ← EReal.coe_mul, ← EReal.coe_sub]

end Cert.KernelIdeal.Fox

end
-- ==== Proof.Scores.lean ====
module

public import proofs.«01_k».proof.Proof.Rows
public import proofs.«01_k».proof.Proof.Inputs

@[expose] public section

set_option maxRecDepth 16384

/-! # A score over the reals

The contraction of a key and its features with a query's column of the score operand is the logarithm-base-two multiple
of the query's dot product with the key, plus the query's forget sum, minus the key's. -/

noncomputable section

namespace Cert.KernelIdeal.Fox

open Idealize.ShloMosaic
open Cert.KernelIdeal.Gen Cert.Online

theorem pay93_at (x : Vec Ideal S1x64x512 .bf16) (r : Fin 64) (j : Fin 512) :
    k0_pay93 (F := Ideal) x (ix2 r j) = x (ix3 (0 : Fin 1) r j) := by
  pointwise [k0_pay93]

theorem pay95_at (x : Vec Ideal S1x64x512 .bf16) (r : Fin 64) (j : Fin 512) :
    k0_pay95 (F := Ideal) x (ix2 r j) = x (ix3 (0 : Fin 1) r j) := by
  pointwise [k0_pay95]

theorem pay94_at (x : Vec Ideal S1x1x1x16x512 .bf16) (r : Fin 16) (j : Fin 512) :
    k0_pay94 (F := Ideal) x (ix2 r j) = x (ix5 (0 : Fin 1) (0 : Fin 1) (0 : Fin 1) r j) := by
  pointwise [k0_pay94]

theorem pay96_at (x : Vec Ideal S1x1x1x16x512 .bf16) (r : Fin 16) (j : Fin 512) :
    k0_pay96 (F := Ideal) x (ix2 r j) = x (ix5 (0 : Fin 1) (0 : Fin 1) (0 : Fin 1) r j) := by
  pointwise [k0_pay96]

theorem pay92_at (y : S256x1024.Idx) : k0_pay92 (F := Ideal) y = 0 := by
  pointwise [k0_pay92]

variable (x3 : Vec Ideal S1x128x512 .bf16) (x4 : Vec Ideal S1x1x2x16x512 .bf16)

/-- A query's column of the score operand. -/
def qcol (h : Fin 2) (x : Fin 256) (j : Fin 512) : EReal :=
  if hx : 64 * h.val ≤ x.val ∧ x.val < 64 * h.val + 64 then x3 (ix3 (0 : Fin 1) (⟨x.val, by omega⟩ : Fin 128) j)
  else if hx : 128 ≤ x.val ∧ x.val < 144 then x4 (ix5 (0 : Fin 1) (0 : Fin 1) h (⟨x.val - 128, by omega⟩ : Fin 16) j)
  else 0

theorem bm_at0 (x : Fin 256) (j : Fin 512) :
    bmat x3 x4 (ix2 x (⟨j.val, by omega⟩ : Fin 1024)) = qcol x3 x4 0 x j := by
  unfold bmat
  rw [put_outside (s := S256x1024) _ _ _ _ _ (1 : Fin 2) (Or.inl j.isLt),
    put_outside (s := S256x1024) _ _ _ _ _ (1 : Fin 2) (Or.inl j.isLt)]
  unfold qcol
  by_cases hx : 128 ≤ x.val ∧ x.val < 144
  · rw [dif_neg (by show ¬ (64 * 0 ≤ x.val ∧ x.val < 64 * 0 + 64); omega), dif_pos hx]
    rw [put_inside (s := S256x1024) _ ![128, 0] S16x512.size _ _ (ix2 (⟨x.val - 128, by omega⟩ : Fin 16) j) (fun a => by
      match a with
      | ⟨0, _⟩ => show x.val = 128 + (x.val - 128); omega
      | ⟨1, _⟩ => show j.val = 0 + j.val; omega)]
    rw [pay94_at]
    refine blk_at _ _ _ _ _ _ fun a => ?_
    match a with
    | ⟨0, _⟩ => rfl
    | ⟨1, _⟩ => rfl
    | ⟨2, _⟩ => rfl
    | ⟨3, _⟩ => show x.val - 128 = (0 + (x.val - 128)) % 16; omega
    | ⟨4, _⟩ => show j.val = (0 + j.val) % 512; omega
  · rw [put_outside (s := S256x1024) _ _ _ _ _ (0 : Fin 2) (by show x.val < 128 ∨ 128 + 16 ≤ x.val; omega)]
    by_cases hx' : x.val < 64
    · rw [dif_pos (by show 64 * 0 ≤ x.val ∧ x.val < 64 * 0 + 64; omega)]
      rw [put_inside (s := S256x1024) _ ![0, 0] S64x512.size _ _ (ix2 (⟨x.val, by omega⟩ : Fin 64) j) (fun a => by
        match a with
        | ⟨0, _⟩ => show x.val = 0 + x.val; omega
        | ⟨1, _⟩ => show j.val = 0 + j.val; omega)]
      rw [pay93_at]
      refine blk_at _ _ _ _ _ _ fun a => ?_
      match a with
      | ⟨0, _⟩ => rfl
      | ⟨1, _⟩ => show x.val = (0 + x.val) % 128; omega
      | ⟨2, _⟩ => show j.val = (0 + j.val) % 512; omega
    · rw [put_outside (s := S256x1024) _ _ _ _ _ (0 : Fin 2) (by show x.val < 0 ∨ 0 + 64 ≤ x.val; omega), pay92_at,
        dif_neg (by show ¬ (64 * 0 ≤ x.val ∧ x.val < 64 * 0 + 64); omega), dif_neg hx]

theorem bm_at1 (x : Fin 256) (j : Fin 512) :
    bmat x3 x4 (ix2 x (⟨512 + j.val, by omega⟩ : Fin 1024)) = qcol x3 x4 1 x j := by
  unfold bmat
  unfold qcol
  by_cases hx : 128 ≤ x.val ∧ x.val < 144
  · rw [dif_neg (by show ¬ (64 * 1 ≤ x.val ∧ x.val < 64 * 1 + 64); omega), dif_pos hx]
    rw [put_inside (s := S256x1024) _ ![128, 512] S16x512.size _ _ (ix2 (⟨x.val - 128, by omega⟩ : Fin 16) j) (fun a => by
      match a with
      | ⟨0, _⟩ => show x.val = 128 + (x.val - 128); omega
      | ⟨1, _⟩ => show 512 + j.val = 512 + j.val; omega)]
    rw [pay96_at]
    refine blk_at _ _ _ _ _ _ fun a => ?_
    match a with
    | ⟨0, _⟩ => rfl
    | ⟨1, _⟩ => rfl
    | ⟨2, _⟩ => rfl
    | ⟨3, _⟩ => show x.val - 128 = (0 + (x.val - 128)) % 16; omega
    | ⟨4, _⟩ => show j.val = (0 + j.val) % 512; omega
  · rw [put_outside (s := S256x1024) _ _ _ _ _ (0 : Fin 2) (by show x.val < 128 ∨ 128 + 16 ≤ x.val; omega)]
    by_cases hx' : 64 ≤ x.val ∧ x.val < 128
    · rw [dif_pos (by show 64 * 1 ≤ x.val ∧ x.val < 64 * 1 + 64; omega)]
      rw [put_inside (s := S256x1024) _ ![64, 512] S64x512.size _ _ (ix2 (⟨x.val - 64, by omega⟩ : Fin 64) j) (fun a => by
        match a with
        | ⟨0, _⟩ => show x.val = 64 + (x.val - 64); omega
        | ⟨1, _⟩ => show 512 + j.val = 512 + j.val; omega)]
      rw [pay95_at]
      refine blk_at _ _ _ _ _ _ fun a => ?_
      match a with
      | ⟨0, _⟩ => rfl
      | ⟨1, _⟩ => show x.val = (64 + (x.val - 64)) % 128; omega
      | ⟨2, _⟩ => show j.val = (0 + j.val) % 512; omega
    · rw [put_outside (s := S256x1024) _ _ _ _ _ (0 : Fin 2) (by show x.val < 64 ∨ 64 + 64 ≤ x.val; omega),
        put_outside (s := S256x1024) _ _ _ _ _ (1 : Fin 2) (Or.inr (by show 0 + 512 ≤ 512 + j.val; omega)),
        put_outside (s := S256x1024) _ _ _ _ _ (1 : Fin 2) (Or.inr (by show 0 + 512 ≤ 512 + j.val; omega)), pay92_at,
        dif_neg (by show ¬ (64 * 1 ≤ x.val ∧ x.val < 64 * 1 + 64); omega), dif_neg hx]

theorem bmblk_at (h : Fin 2) (x : Fin 256) (j : Fin 512) :
    bmblk (bmat x3 x4) h.val (ix2 x j) = qcol x3 x4 h x j := by
  match h with
  | ⟨0, _⟩ =>
    refine Eq.trans ?_ (bm_at0 x3 x4 x j)
    unfold bmblk
    refine blk_at _ _ _ _ _ _ fun a => ?_
    match a with
    | ⟨0, _⟩ => show x.val = (0 + x.val) % 256; omega
    | ⟨1, _⟩ => show j.val = (512 * 0 + j.val) % 1024; omega
  | ⟨1, _⟩ =>
    refine Eq.trans ?_ (bm_at1 x3 x4 x j)
    unfold bmblk
    refine blk_at _ _ _ _ _ _ fun a => ?_
    match a with
    | ⟨0, _⟩ => show x.val = (0 + x.val) % 256; omega
    | ⟨1, _⟩ => show 512 + j.val = (512 * 1 + j.val) % 1024; omega

theorem coe_sum {ι : Type*} (K : Finset ι) (f : ι → ℝ) : ∑ s ∈ K, (f s : EReal) = ((∑ s ∈ K, f s : ℝ) : EReal) := by
  classical
  induction K using Finset.induction_on with
  | empty => simp
  | insert a K ha ih => rw [Finset.sum_insert ha, Finset.sum_insert ha, ih, EReal.coe_add]

/-- The natural score of a query and a key. -/
def nat_score (Q K : ℕ → ℝ) (cq ck : ℝ) : ℝ := (∑ d ∈ Finset.range 64, Q d * K d) * (1 / 8) + cq - ck

/-- One lane of the contraction. -/
def lane (h : ℕ) (Qr Kr : ℕ → ℝ) (ce co cq : ℝ) (x : ℕ) : ℝ :=
  if x < 128 then (if 64 * h ≤ x ∧ x < 64 * h + 64 then Kr x * (Qr x * (1 / 8 * l2e)) else 0)
  else if x < 144 then kfR ce co (x - 128) * qfR h cq (x - 128) else 0

theorem lane_split (h : ℕ) (Qr Kr : ℕ → ℝ) (ce co cq : ℝ) :
    ∑ x ∈ Finset.range 256, lane h Qr Kr ce co cq x
      = ∑ x ∈ Finset.range 64, lane h Qr Kr ce co cq x + ∑ x ∈ Finset.range 64, lane h Qr Kr ce co cq (64 + x)
        + ∑ x ∈ Finset.range 16, lane h Qr Kr ce co cq (128 + x) := by
  have z : ∑ x ∈ Finset.range 112, lane h Qr Kr ce co cq (144 + x) = 0 :=
    Finset.sum_eq_zero fun x _ => by unfold lane; rw [if_neg (by omega), if_neg (by omega)]
  generalize lane h Qr Kr ce co cq = f at z ⊢
  have e : ∑ x ∈ Finset.range (64 + 64 + 16 + 112), f x
      = ∑ x ∈ Finset.range 64, f x + ∑ x ∈ Finset.range 64, f (64 + x)
        + ∑ x ∈ Finset.range 16, f (64 + 64 + x) + ∑ x ∈ Finset.range 112, f (64 + 64 + 16 + x) := by
    rw [Finset.sum_range_add, Finset.sum_range_add, Finset.sum_range_add]
  exact e.trans (by rw [z, add_zero])

theorem lane_sum0 (Qr Kr : ℕ → ℝ) (ce co cq : ℝ) :
    ∑ x ∈ Finset.range 256, lane 0 Qr Kr ce co cq x
      = nat_score (fun d => Qr (64 * 0 + d)) (fun d => Kr (64 * 0 + d)) cq ce * l2e := by
  have a : ∑ x ∈ Finset.range 64, lane 0 Qr Kr ce co cq x = (∑ d ∈ Finset.range 64, Qr (64 * 0 + d) * Kr (64 * 0 + d)) * (1 / 8 * l2e) := by
    rw [Finset.sum_mul]
    refine Finset.sum_congr rfl fun x hx => ?_
    have := Finset.mem_range.mp hx
    unfold lane
    rw [if_pos (by omega), if_pos (by omega), show 64 * 0 + x = x by omega]
    ring
  have b : ∑ x ∈ Finset.range 64, lane 0 Qr Kr ce co cq (64 + x) = 0 :=
    Finset.sum_eq_zero fun x hx => by
      have := Finset.mem_range.mp hx
      unfold lane
      rw [if_pos (by omega), if_neg (by omega)]
  have d : ∑ x ∈ Finset.range 16, lane 0 Qr Kr ce co cq (128 + x) = (cq - ce) * l2e := by
    simp [Finset.sum_range_succ, lane, kfR, qfR]
    ring
  rw [lane_split, a, b, d]
  unfold nat_score
  generalize (∑ d ∈ Finset.range 64, Qr (64 * 0 + d) * Kr (64 * 0 + d)) = S
  ring

theorem lane_sum1 (Qr Kr : ℕ → ℝ) (ce co cq : ℝ) :
    ∑ x ∈ Finset.range 256, lane 1 Qr Kr ce co cq x
      = nat_score (fun d => Qr (64 * 1 + d)) (fun d => Kr (64 * 1 + d)) cq co * l2e := by
  have a : ∑ x ∈ Finset.range 64, lane 1 Qr Kr ce co cq (64 + x) = (∑ d ∈ Finset.range 64, Qr (64 * 1 + d) * Kr (64 * 1 + d)) * (1 / 8 * l2e) := by
    rw [Finset.sum_mul]
    refine Finset.sum_congr rfl fun x hx => ?_
    have := Finset.mem_range.mp hx
    unfold lane
    rw [if_pos (by omega), if_pos (by omega), show 64 * 1 + x = 64 + x by omega]
    ring
  have b : ∑ x ∈ Finset.range 64, lane 1 Qr Kr ce co cq x = 0 :=
    Finset.sum_eq_zero fun x hx => by
      have := Finset.mem_range.mp hx
      unfold lane
      rw [if_pos (by omega), if_neg (by omega)]
  have d : ∑ x ∈ Finset.range 16, lane 1 Qr Kr ce co cq (128 + x) = (cq - co) * l2e := by
    simp [Finset.sum_range_succ, lane, kfR, qfR]
    ring
  rw [lane_split, a, b, d]
  unfold nat_score
  generalize (∑ d ∈ Finset.range 64, Qr (64 * 1 + d) * Kr (64 * 1 + d)) = S
  ring

theorem lane_sum (h : Fin 2) (Qr Kr : ℕ → ℝ) (ce co cq : ℝ) :
    ∑ x ∈ Finset.range 256, lane h.val Qr Kr ce co cq x
      = nat_score (fun d => Qr (64 * h.val + d)) (fun d => Kr (64 * h.val + d)) cq (if h.val = 0 then ce else co) * l2e := by
  match h with
  | ⟨0, _⟩ => rw [if_pos rfl]; exact lane_sum0 Qr Kr ce co cq
  | ⟨1, _⟩ => rw [if_neg (by show ¬ (1 = 0); omega)]; exact lane_sum1 Qr Kr ce co cq

variable (x5 : Vec Ideal S1x8192x128 .bf16) (x6 : Vec Ideal S1x1x8192x128 .bf16)

theorem kblk_at (n : ℕ) (k : Fin 512) (r : Fin 128) :
    kblk x5 n (ix3 (0 : Fin 1) k r)
      = x5 (ix3 (0 : Fin 1) (⟨(512 * n + k.val) % 8192, Nat.mod_lt _ (by omega)⟩ : Fin 8192) r) := by
  unfold kblk
  refine blk_at _ _ _ _ _ _ fun a => ?_
  match a with
  | ⟨0, _⟩ => rfl
  | ⟨1, _⟩ => rfl
  | ⟨2, _⟩ => show r.val = (0 + r.val) % 128; omega

theorem kfblk_at (n : ℕ) (k : Fin 512) (r : Fin 128) :
    kfblk x6 n (ix4 (0 : Fin 1) (0 : Fin 1) k r)
      = x6 (ix4 (0 : Fin 1) (0 : Fin 1) (⟨(512 * n + k.val) % 8192, Nat.mod_lt _ (by omega)⟩ : Fin 8192) r) := by
  unfold kfblk
  refine blk_at _ _ _ _ _ _ fun a => ?_
  match a with
  | ⟨0, _⟩ => rfl
  | ⟨1, _⟩ => rfl
  | ⟨2, _⟩ => rfl
  | ⟨3, _⟩ => show r.val = (0 + r.val) % 128; omega

/-- The score of key `512 n + k` and query `j`, when the blocks hold reals. -/
theorem score_at (h : Fin 2) (n : ℕ) (k j : Fin 512) (s : Fin 8192) (hs : s.val = 512 * n + k.val) (Qr Kr : ℕ → ℝ) (ce co cq : ℝ)
    (hk : ∀ r : Fin 128, x5 (ix3 (0 : Fin 1) s r) = (Kr r.val : EReal))
    (hkf : ∀ r : Fin 16, x6 (ix4 (0 : Fin 1) (0 : Fin 1) s (⟨r.val, by omega⟩ : Fin 128)) = (kfR ce co r.val : EReal))
    (hq : ∀ r : Fin 128, x3 (ix3 (0 : Fin 1) r j) = ((Qr r.val * (1 / 8 * l2e) : ℝ) : EReal))
    (hqf : ∀ r : Fin 16, x4 (ix5 (0 : Fin 1) (0 : Fin 1) h r j) = (qfR h.val cq r.val : EReal)) :
    score x5 x6 (bmat x3 x4) h.val n (ix2 k j)
      = ((nat_score (fun d => Qr (64 * h.val + d)) (fun d => Kr (64 * h.val + d)) cq (if h.val = 0 then ce else co) * l2e : ℝ) : EReal) := by
  have es : (⟨(512 * n + k.val) % 8192, Nat.mod_lt _ (by omega)⟩ : Fin 8192) = s :=
    Fin.ext (by show (512 * n + k.val) % 8192 = s.val; have := s.isLt; omega)
  rw [← lane_sum, ← coe_sum]
  unfold score
  rw [pay3_at, Finset.sum_range]
  refine Finset.sum_congr rfl fun x _ => ?_
  rw [bmblk_at]
  unfold lane qcol
  have hh := h.isLt
  by_cases hx : x.val < 128
  · rw [dif_pos hx, if_pos hx, kblk_at, es, hk]
    by_cases hy : 64 * h.val ≤ x.val ∧ x.val < 64 * h.val + 64
    · rw [dif_pos hy, if_pos hy, hq, ← EReal.coe_mul]
    · rw [dif_neg hy, if_neg hy, dif_neg (by omega), mul_zero]; rfl
  · rw [dif_neg hx, if_neg hx, dif_neg (by omega), kfblk_at, es]
    by_cases hy : x.val < 144
    · rw [dif_pos (by omega), if_pos hy]
      exact (congrArg₂ (· * ·) (hkf ⟨x.val - 128, by omega⟩) (hqf ⟨x.val - 128, by omega⟩)).trans (EReal.coe_mul _ _).symm
    · rw [dif_neg (by omega), if_neg hy, mul_zero]; rfl

end Cert.KernelIdeal.Fox

end
-- ==== Proof.Blocks.lean ====
module

public import proofs.«01_k».proof.Proof.Scores
public import proofs.«01_k».proof.Proof.Run

@[expose] public section

set_option maxRecDepth 16384

/-! # The result's block, query by query -/

noncomputable section

namespace Cert.KernelIdeal.Fox

open Idealize.ShloMosaic
open Cert.KernelIdeal.Gen Cert.Online

section
variable (x3 : Vec Ideal S1x128x512 .bf16) (x4 : Vec Ideal S1x1x2x16x512 .bf16) (x5 : Vec Ideal S1x8192x128 .bf16)
  (x6 : Vec Ideal S1x1x8192x128 .bf16) (x7 : Vec Ideal S1x128x8192 .bf16) (x8 : Vec Ideal S512x512 .f32) (bm : Vec Ideal S256x1024 .bf16)

theorem fout_at (n : ℕ) (j : Fin 512) (h : Fin 2) (d : Fin 64) :
    fout x5 x6 x7 x8 bm n (ix3 (0 : Fin 1) j (⟨64 * h.val + d.val, by omega⟩ : Fin 128))
      = afin x5 x6 x7 x8 bm h.val n (ix3 (0 : Fin 1) (⟨d.val, by omega⟩ : Fin 80) j)
        * Ideal.div 1 (afin x5 x6 x7 x8 bm h.val n (ix3 (0 : Fin 1) (64 : Fin 80) j)) := by
  unfold fout
  rw [pay1_at]
  match h with
  | ⟨0, _⟩ =>
    rw [dif_pos (by show 64 * 0 + d.val < 64; omega), pay109_at]
    have e : (⟨64 * 0 + d.val, by omega⟩ : Fin 80) = ⟨d.val, by omega⟩ := Fin.ext (by show 64 * 0 + d.val = d.val; omega)
    exact congrArg (fun r => afin x5 x6 x7 x8 bm 0 n (ix3 (0 : Fin 1) r j) * Ideal.div 1 (afin x5 x6 x7 x8 bm 0 n (ix3 (0 : Fin 1) (64 : Fin 80) j))) e
  | ⟨1, _⟩ =>
    rw [dif_neg (by show ¬ (64 * 1 + d.val < 64); omega)]
    have e : (⟨64 * 1 + d.val - 64, by omega⟩ : Fin 80) = ⟨d.val, by omega⟩ := Fin.ext (by show 64 * 1 + d.val - 64 = d.val; omega)
    exact congrArg (fun r => afin x5 x6 x7 x8 bm 1 n (ix3 (0 : Fin 1) r j) * Ideal.div 1 (afin x5 x6 x7 x8 bm 1 n (ix3 (0 : Fin 1) (64 : Fin 80) j))) e

/-- The block of the result, when the blocks it is made of hold reals: each head's softmax of the natural scores up to the
query, over all the keys, against its values. -/
theorem fout_softmax (n : ℕ) (hn : n < 16) (j : Fin 512) (h : Fin 2) (d : Fin 64) (Qr : ℕ → ℝ) (Kr : ℕ → ℕ → ℝ) (ce co : ℕ → ℝ) (cq : ℝ)
    (hk : ∀ (s : Fin 8192) (r : Fin 128), x5 (ix3 (0 : Fin 1) s r) = (Kr s.val r.val : EReal))
    (hkf : ∀ (s : Fin 8192) (r : Fin 16), x6 (ix4 (0 : Fin 1) (0 : Fin 1) s (⟨r.val, by omega⟩ : Fin 128)) = (kfR (ce s.val) (co s.val) r.val : EReal))
    (hq : ∀ r : Fin 128, x3 (ix3 (0 : Fin 1) r j) = ((Qr r.val * (1 / 8 * l2e) : ℝ) : EReal))
    (hqf : ∀ r : Fin 16, x4 (ix5 (0 : Fin 1) (0 : Fin 1) h r j) = (qfR h.val cq r.val : EReal))
    (h8 : ∀ k : Fin 512, x8 (ix2 k j) = if k ≤ j then 0 else ⊥)
    (w : Fin 8192 → EReal) (hw : ∀ s, x7 (ix3 (0 : Fin 1) (⟨64 * h.val + d.val, by omega⟩ : Fin 128) s) = w s)
    (ρ : ℕ → ℝ) (hρ : ∀ s : ℕ, ρ s = nat_score (fun d => Qr (64 * h.val + d)) (fun d => Kr s (64 * h.val + d)) cq (if h.val = 0 then ce s else co s))
    (τ : ℕ → EReal) (hτ : ∀ s < 8192, τ s = if s ≤ 512 * n + j.val then (ρ s : EReal) else ⊥)
    (M : EReal) (hM : M = (Finset.range 8192).sup τ) :
    fout x5 x6 x7 x8 (bmat x3 x4) n (ix3 (0 : Fin 1) j (⟨64 * h.val + d.val, by omega⟩ : Fin 128))
      = ∑ k : Fin 8192, (if k.val ≤ 512 * n + j.val then
          Ideal.div (Ideal.exp (τ k - M)) (∑ k' : Fin 8192, Ideal.exp (τ k' - M)) else 0) * w k := by
  rw [fout_at]
  have hh := h.isLt
  have sc : ∀ (n' : ℕ), n' < 16 → ∀ k : Fin 512, score x5 x6 (bmat x3 x4) h.val n' (ix2 k j) = ((ρ (512 * n' + k.val) * l2e : ℝ) : EReal) := by
    intro n' hn' k
    have := score_at x3 x4 x5 x6 h n' k j ⟨512 * n' + k.val, by omega⟩ rfl Qr (Kr (512 * n' + k.val)) (ce (512 * n' + k.val)) (co (512 * n' + k.val)) cq
      (fun r => hk _ r) (fun r => hkf _ r) hq hqf
    rw [this, hρ]
  obtain ⟨mx, b, hb1, hb2, hrep⟩ := rep_fin x5 x6 x7 x8 (bmat x3 x4) h.val j
    (fun s => if s ≤ 512 * n + j.val then ((ρ s * l2e : ℝ) : EReal) else ⊥)
    (fun s => by split_ifs; exacts [EReal.coe_ne_top _, bot_ne_top]) n
    (fun n' hn' k => by
      rw [sc n' (by omega) k, if_pos (by have := k.isLt; omega)])
    (fun k => by
      rw [sc n hn k, h8]
      by_cases hkj : k ≤ j
      · have : k.val ≤ j.val := hkj
        rw [if_pos hkj, if_pos (by omega), add_zero]
      · have : ¬ k.val ≤ j.val := hkj
        rw [if_neg hkj, if_neg (by omega), EReal.add_bot])
  have ha := hrep ⟨d.val, by omega⟩
  have hl := hrep 64
  have hl1 : wrow x7 h.val 64 = fun _ => 1 := funext fun s => if_neg (by decide)
  rw [hl1] at hl
  refine (Rep.quotient ρ l2e rfl (512 * n + j.val) 8192 (fun s _ => rfl) ha hl hb1 (by omega) τ hτ M hM).trans ?_
  refine Finset.sum_congr rfl fun k _ => ?_
  congr 1
  unfold wrow
  rw [if_pos (by exact d.isLt), ← hw]
  congr 2
  · exact Fin.ext (by show (64 * h.val + d.val) % 128 = 64 * h.val + d.val; omega)
  · exact Fin.ext (by show k.val % 8192 = k.val; omega)

end

end Cert.KernelIdeal.Fox

end
-- ==== Proof.Arrays.lean ====
module

public import proofs.«01_k».proof.Proof.Blocks

@[expose] public section

set_option maxRecDepth 16384

/-! # The blocks as parts of the arrays -/

noncomputable section

namespace Cert.KernelIdeal.Fox

open Idealize.ShloMosaic
open Cert.KernelIdeal.Gen Cert.Online

variable (m : (ℓ : Loc nD τ sig) → Buf (Elt Ideal) ℓ) (c : Dev nD)

/-- Every window's block at a grid point: a batch, a head pair and a tile of queries. -/
theorem idx : ∀ t : Fin cfg0.N,
    win0_0.index t = ![(grid0.coords t 0).val, (grid0.coords t 1).val, (grid0.coords t 2).val]
    ∧ win0_1.index t = ![(grid0.coords t 0).val, (grid0.coords t 1).val, 0, 0, (grid0.coords t 2).val]
    ∧ win0_2.index t = ![(grid0.coords t 0).val, 0, (grid0.coords t 1).val]
    ∧ win0_3.index t = ![(grid0.coords t 0).val, (grid0.coords t 1).val, 0, 0]
    ∧ win0_4.index t = ![(grid0.coords t 0).val, 4 + (grid0.coords t 1).val, 0]
    ∧ win0_5.index t = ![0, 0]
    ∧ win0_6.index t = ![(grid0.coords t 0).val, (grid0.coords t 2).val, (grid0.coords t 1).val] :=
  (by decide +kernel : ∀ t : Fin grid0.N, _)

theorem coords_lt : ∀ t : Fin cfg0.N, (grid0.coords t 0).val < 4 ∧ (grid0.coords t 1).val < 4 ∧ (grid0.coords t 2).val < 16 :=
  (by decide +kernel : ∀ t : Fin grid0.N, _)

section
variable (t : Fin cfg0.N) (b p : Fin 4) (i : Fin 16) (hb : (grid0.coords t 0).val = b.val) (hp : (grid0.coords t 1).val = p.val)
  (hi : (grid0.coords t 2).val = i.val)
include hb hp hi

theorem blk0 (r : Fin 128) (j : Fin 512) : (iblk m c 0 t : Vec Ideal S1x128x512 .bf16) (ix3 (0 : Fin 1) r j)
    = (V m c main_v9 : Vec Ideal S4x1024x8192 .bf16) (ix3 b (⟨128 * p.val + r.val, by omega⟩ : Fin 1024) (⟨512 * i.val + j.val, by omega⟩ : Fin 8192)) := by
  blk_ext [iblk, idx t, hb, hp, hi]

theorem blk1 (h : Fin 2) (r : Fin 16) (j : Fin 512) : (iblk m c 1 t : Vec Ideal S1x1x2x16x512 .bf16) (ix5 (0 : Fin 1) (0 : Fin 1) h r j)
    = (V m c main_v86 : Vec Ideal S4x4x2x16x8192 .bf16) (ix5 b p h r (⟨512 * i.val + j.val, by omega⟩ : Fin 8192)) := by
  blk_ext [iblk, idx t, hb, hp, hi]

theorem blk2 (s : Fin 8192) (r : Fin 128) : (iblk m c 2 t : Vec Ideal S1x8192x128 .bf16) (ix3 (0 : Fin 1) s r)
    = (V m c main_v11 : Vec Ideal S4x8192x512 .bf16) (ix3 b s (⟨128 * p.val + r.val, by omega⟩ : Fin 512)) := by
  blk_ext [iblk, idx t, hb, hp, hi]

theorem blk3 (s : Fin 8192) (r : Fin 128) : (iblk m c 3 t : Vec Ideal S1x1x8192x128 .bf16) (ix4 (0 : Fin 1) (0 : Fin 1) s r)
    = (V m c main_v85 : Vec Ideal S4x4x8192x128 .bf16) (ix4 b p s r) := by
  blk_ext [iblk, idx t, hb, hp, hi]

theorem blk4 (r : Fin 128) (s : Fin 8192) : (iblk m c 4 t : Vec Ideal S1x128x8192 .bf16) (ix3 (0 : Fin 1) r s)
    = (V m c main_v9 : Vec Ideal S4x1024x8192 .bf16) (ix3 b (⟨128 * (4 + p.val) + r.val, by omega⟩ : Fin 1024) s) := by
  blk_ext [iblk, idx t, hb, hp, hi]

theorem blk5 (k j : Fin 512) : (iblk m c 5 t : Vec Ideal S512x512 .f32) (ix2 k j)
    = (V m c main_v90 : Vec Ideal S512x512 .f32) (ix2 k j) := by
  blk_ext [iblk, idx t, hb, hp, hi]

end

end Cert.KernelIdeal.Fox

end
-- ==== Proof.RefAt.lean ====
module

public import proofs.«01_k».proof.Proof.Gen.ReferenceIdeal.Run
public import Idealize.ShloMosaic.Lib.Pointwise
public import Idealize.ShloMosaic.Lib.Pipeline.ValueKit
public import Idealize.ShloMosaic.Lib.Claim
public import Idealize.ShloMosaic.Lib.WordCmp
public import proofs.«01_k».proof.Proof.Online

@[expose] public section

set_option maxRecDepth 16384

/-! # The reference's result at an index -/

noncomputable section

namespace Cert.ReferenceIdeal.Fox

open Idealize.ShloMosaic
open Cert.ReferenceIdeal Cert.ReferenceIdeal.Gen

/-- Where a key is no later than the query. -/
def mask : IVec S4x8x8192x8192 1 :=
  broadcastInDim S4x8x8192x8192 ![2, 3] bcast_S8192x8192_S4x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

theorem sle_at (s Q : Fin 8192) : IntOp.cmpi CmpIPredicate.sle (BitVec.ofNat 32 s.val) (BitVec.ofNat 32 Q.val) = if s.val ≤ Q.val then 1#1 else 0#1 := by
  have := s.isLt
  have := Q.isLt
  rw [WordCmp.cmpi_sle_ofNat (by omega) (by omega)]
  by_cases h : s.val ≤ Q.val <;> simp [h]

theorem mask_at (b : Fin 4) (h : Fin 8) (Q s : Fin 8192) : mask (ix4 b h Q s) = if s.val ≤ Q.val then 1#1 else 0#1 := by
  rw [← sle_at]
  pointwise [mask]

/-- The scores, those of later keys at negative infinity. -/
def scores (q k : FVec Ideal S4x8192x8x64 .f32) (c : FVec Ideal S4x8192x8 .f32) : FVec Ideal S4x8x8192x8192 .f32 :=
  select mask (subf (addf (mulf (Host.dotGeneral dot_S4x8x8192x64_S4x8x8192x64_S4x8x8192x8192_3_3_2_2_01_01 none (transpose S4x8x8192x64 [0, 2, 1, 3] q transposes_S4x8192x8x64_S4x8x8192x64_0_2_1_3) (transpose S4x8x8192x64 [0, 2, 1, 3] k transposes_S4x8192x8x64_S4x8x8192x64_0_2_1_3)) (broadcastInDim S4x8x8192x8192 ![] bcast_S_S4x8x8192x8192 (constant S_ .f32 0x3E000000#32))) (broadcastInDim S4x8x8192x8192 ![0, 1, 2, 3] bcast_S4x8x8192x1_S4x8x8192x8192_0_1_2_3 (broadcastInDim S4x8x8192x1 ![0, 1, 2] bcast_S4x8x8192_S4x8x8192x1_0_1_2 (transpose S4x8x8192 [0, 2, 1] c transposes_S4x8192x8_S4x8x8192_0_2_1)))) (broadcastInDim S4x8x8192x8192 ![0, 1, 2, 3] bcast_S4x8x1x8192_S4x8x8192x8192_0_1_2_3 (broadcastInDim S4x8x1x8192 ![0, 1, 3] bcast_S4x8x8192_S4x8x1x8192_0_1_3 (transpose S4x8x8192 [0, 2, 1] c transposes_S4x8192x8_S4x8x8192_0_2_1)))) (broadcastInDim S4x8x8192x8192 ![] bcast_S_S4x8x8192x8192 (id (constant S_ .f32 0xFF800000#32)))

theorem select_if {α : Type} (p : Prop) [Decidable p] (x y : α) : Scalar.select (if p then 1#1 else 0#1) x y = if p then x else y := by
  by_cases h : p <;> simp [h, Scalar.select]

theorem scores_at (q k : FVec Ideal S4x8192x8x64 .f32) (c : FVec Ideal S4x8192x8 .f32) (b : Fin 4) (h : Fin 8) (Q s : Fin 8192) :
    scores q k c (ix4 b h Q s) = if s.val ≤ Q.val then
        (∑ x : Fin 64, q (ix4 b Q h x) * k (ix4 b s h x)) * Ideal.ofBits FTy.f32 1040187392#32 + c (ix3 b Q h) - c (ix3 b s h)
      else ⊥ := by
  rw [← select_if, ← mask_at b h]
  pointwise [scores]
  rfl

section
variable {n0 n1 n2 n : ℕ}

theorem lift_last (h : (⟨4, ![n0, n1, n2, n]⟩ : Shape).Reduces [3] (⟨3, ![n0, n1, n2]⟩ : Shape)) (i0 : Fin n0) (i1 : Fin n1) (i2 : Fin n2)
    (k : Fin ((⟨4, ![n0, n1, n2, n]⟩ : Shape).size 3)) : h.lift (ix3 i0 i1 i2) k = ix4 i0 i1 i2 (⟨k.val, k.isLt⟩ : Fin n) := by
  funext c; apply Fin.ext
  fin_cases c <;> rfl

/-- A row's maximum, from negative infinity. -/
theorem rowmax_at (x : FVec Ideal ⟨4, ![n0, n1, n2, n]⟩ .f32) (h' : (⟨4, ![n0, n1, n2, n]⟩ : Shape).ReducesTo [3] (⟨3, ![n0, n1, n2]⟩ : Shape))
    (hu : 0 < (⟨0, ![]⟩ : Shape).numel) (i0 : Fin n0) (i1 : Fin n1) (i2 : Fin n2) :
    Host.reduce FloatOps.maximumf x (constant (⟨0, ![]⟩ : Shape) .f32 0xFF800000#32) h' hu (ix3 i0 i1 i2)
      = Finset.univ.fold max (⊥ : EReal) fun k : Fin n => x (ix4 i0 i1 i2 k) := by
  have h : (⟨4, ![n0, n1, n2, n]⟩ : Shape).Reduces [3] (⟨3, ![n0, n1, n2]⟩ : Shape) := ⟨h'.1, Nat.succ_pos _, h'.2⟩
  rw [Host.reduce_eq_fold_single FloatOps.maximumf x _ h' h hu]
  have hf : (x ∘ h.lift (ix3 i0 i1 i2)) = fun k : Fin n => x (ix4 i0 i1 i2 k) := funext fun k => congrArg x (lift_last h i0 i1 i2 k)
  exact congrArg (fun f => Finset.fold max (⊥ : EReal) f (Finset.univ : Finset (Fin n))) hf

end

/-- Each row's maximum. -/
def rowmax (sc : FVec Ideal S4x8x8192x8192 .f32) : FVec Ideal S4x8x8192 .f32 :=
  Host.reduce FloatOps.maximumf sc (constant S_ .f32 0xFF800000#32) reducesTo_S4x8x8192x8192_S4x8x8192_d3 h_S_

/-- The exponentials of the scores, each row's maximum taken off. -/
def expd (sc : FVec Ideal S4x8x8192x8192 .f32) (mx : FVec Ideal S4x8x8192 .f32) : FVec Ideal S4x8x8192x8192 .f32 :=
  Host.exp (subf sc (broadcastInDim S4x8x8192x8192 ![0, 1, 2, 3] bcast_S4x8x8192x1_S4x8x8192x8192_0_1_2_3 (broadcastInDim S4x8x8192x1 ![0, 1, 2] bcast_S4x8x8192_S4x8x8192x1_0_1_2 (maximumf (broadcastInDim S4x8x8192 ![] bcast_S_S4x8x8192 (constant S_ .f32 0xFF800000#32)) mx))))

theorem expd_at (sc : FVec Ideal S4x8x8192x8192 .f32) (mx : FVec Ideal S4x8x8192 .f32) (b : Fin 4) (h : Fin 8) (Q s : Fin 8192) :
    expd sc mx (ix4 b h Q s) = Ideal.exp (sc (ix4 b h Q s) - max ⊥ (mx (ix3 b h Q))) := by
  pointwise [expd]
  rfl

/-- The weights: the quotients by each row's sum, zero at later keys. -/
def weights (ex : FVec Ideal S4x8x8192x8192 .f32) : FVec Ideal S4x8x8192x8192 .f32 :=
  select mask (Host.divf ex (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduceAdd ex (constant S_ .f32 0x00000000#32) reducesTo_S4x8x8192x8192_S4x8x8192_d3 h_S_)))) (broadcastInDim S4x8x8192x8192 ![] bcast_S_S4x8x8192x8192 (id (constant S_ .f32 0x00000000#32)))

theorem zero_const : (id (constant (F := Ideal) S_ FTy.f32 0#32) : FVec Ideal S_ .f32) ix0 = (0 : EReal) := by
  pointwise [id]

theorem weights_at (ex : FVec Ideal S4x8x8192x8192 .f32) (b : Fin 4) (h : Fin 8) (Q s : Fin 8192) :
    weights ex (ix4 b h Q s) = if s.val ≤ Q.val then Ideal.div (ex (ix4 b h Q s)) (∑ k : Fin 8192, ex (ix4 b h Q k)) else 0 := by
  rw [← select_if, ← mask_at b h, ← zero_const]
  pointwise [weights]

/-- The weighted values, both head axes folded into one. -/
def weighted (w : FVec Ideal S4x8x8192x8192 .f32) (v : FVec Ideal S4x8192x8x64 .f32) : FVec Ideal S4x8192x512 .bf16 :=
  truncf .bf16 (shapeCast _ (transpose S4x8192x8x64 [0, 2, 1, 3] (Host.dotGeneral dot_S4x8x8192x8192_S4x8x8192x64_S4x8x8192x64_3_2_2_3_01_01 none w (transpose S4x8x8192x64 [0, 2, 1, 3] v transposes_S4x8192x8x64_S4x8x8192x64_0_2_1_3)) transposes_S4x8x8192x64_S4x8192x8x64_0_2_1_3) shapeCasts_S4x8192x8x64_S4x8192x512) bitsLt_bf16_f32

theorem weighted_at (w : FVec Ideal S4x8x8192x8192 .f32) (v : FVec Ideal S4x8192x8x64 .f32) (b : Fin 4) (Q : Fin 8192) (e : Fin 512) :
    weighted w v (ix3 b Q e)
      = ∑ k : Fin 8192, w (ix4 b (⟨e.val / 64, by omega⟩ : Fin 8) Q k) * v (ix4 b k (⟨e.val / 64, by omega⟩ : Fin 8) (⟨e.val % 64, by omega⟩ : Fin 64)) := by
  pointwise [weighted]

variable (m : (ℓ : Loc nD τ sig) → Buf (Elt Ideal) ℓ) (c : Dev nD)

theorem res_eq (q k v : FVec Ideal S4x8192x8x64 .f32) (f : FVec Ideal S4x8192x8 .f32)
    (hq : m ((c.tc : Thread nD τ).loc main_arg0) = q) (hk : m ((c.tc : Thread nD τ).loc main_arg1) = k)
    (hv : m ((c.tc : Thread nD τ).loc main_arg2) = v) (hf : m ((c.tc : Thread nD τ).loc main_arg3) = f) :
    Value.res_main_v35 m c = weighted (weights (expd (scores q k f) (rowmax (scores q k f)))) v := by
  unfold Value.res_main_v35 weighted weights expd rowmax scores mask
  rw [hq, hk, hv, hf]
  rfl

end Cert.ReferenceIdeal.Fox

end
-- ==== Proof.Final.lean ====
module

public import proofs.«01_k».proof.Proof.Arrays
public import proofs.«01_k».proof.Proof.RefAt

@[expose] public section

set_option maxRecDepth 16384

/-! # The result: the reference's, of the same arguments -/

noncomputable section

namespace Cert.KernelIdeal.Fox

open Idealize.ShloMosaic
open Cert.KernelIdeal.Gen Cert.Online

/-- The reference's result of queries, keys, values and forget sums. -/
def refOf (q k v : Vec Ideal S4x8192x8x64 .f32) (f : Vec Ideal S4x8192x8 .f32) : Vec Ideal S4x8192x512 .bf16 :=
  Cert.ReferenceIdeal.Fox.weighted (Cert.ReferenceIdeal.Fox.weights (Cert.ReferenceIdeal.Fox.expd (Cert.ReferenceIdeal.Fox.scores q k f)
    (Cert.ReferenceIdeal.Fox.rowmax (Cert.ReferenceIdeal.Fox.scores q k f)))) v

section
variable (q k v : Vec Ideal S4x8192x8x64 .f32) (f : Vec Ideal S4x8192x8 .f32)

/-- The reference's result, when its scores are known. -/
theorem refOf_at (b : Fin 4) (Q : Fin 8192) (e : Fin 512) (H : Fin 8) (d : Fin 64) (he : e.val = 64 * H.val + d.val) (τ : ℕ → EReal)
    (hs : ∀ s : Fin 8192, Cert.ReferenceIdeal.Fox.scores q k f (ix4 b H Q s) = τ s.val) :
    refOf q k v f (ix3 b Q e) = ∑ s : Fin 8192, (if s.val ≤ Q.val then
        Ideal.div (Ideal.exp (τ s - (Finset.range 8192).sup τ)) (∑ s' : Fin 8192, Ideal.exp (τ s' - (Finset.range 8192).sup τ)) else 0) * v (ix4 b s H d) := by
  have e1 : (⟨e.val / 64, by omega⟩ : Fin 8) = H := Fin.ext (by show e.val / 64 = H.val; have := d.isLt; omega)
  have e2 : (⟨e.val % 64, by omega⟩ : Fin 64) = d := Fin.ext (by show e.val % 64 = d.val; have := d.isLt; omega)
  have hm : max ⊥ (Cert.ReferenceIdeal.Fox.rowmax (Cert.ReferenceIdeal.Fox.scores q k f) (ix3 b H Q)) = (Finset.range 8192).sup τ := by
    rw [← fold_max_eq_sup_range τ 8192]
    refine (max_eq_right bot_le).trans ((Cert.ReferenceIdeal.Fox.rowmax_at _ _ _ b H Q).trans ?_)
    exact congrArg (fun g => Finset.fold max (⊥ : EReal) g (Finset.univ : Finset (Fin 8192))) (funext hs)
  unfold refOf
  refine (Cert.ReferenceIdeal.Fox.weighted_at _ v b Q e).trans ?_
  rw [e1, e2]
  refine Finset.sum_congr rfl fun s _ => ?_
  have he : ∀ s : Fin 8192, Cert.ReferenceIdeal.Fox.expd (Cert.ReferenceIdeal.Fox.scores q k f)
      (Cert.ReferenceIdeal.Fox.rowmax (Cert.ReferenceIdeal.Fox.scores q k f)) (ix4 b H Q s) = Ideal.exp (τ s - (Finset.range 8192).sup τ) := by
    intro s
    rw [Cert.ReferenceIdeal.Fox.expd_at, hm, hs]
  have hsum : ∑ s' : Fin 8192, Cert.ReferenceIdeal.Fox.expd (Cert.ReferenceIdeal.Fox.scores q k f)
      (Cert.ReferenceIdeal.Fox.rowmax (Cert.ReferenceIdeal.Fox.scores q k f)) (ix4 b H Q s')
      = ∑ s' : Fin 8192, Ideal.exp (τ s' - (Finset.range 8192).sup τ) := Finset.sum_congr rfl fun s' _ => he s'
  rw [Cert.ReferenceIdeal.Fox.weights_at, he, hsum]

/-- The reference's scores of real arguments. -/
theorem scores_real (Qa Ka : Fin 4 → Fin 8192 → Fin 8 → Fin 64 → ℝ) (Ca : Fin 4 → Fin 8192 → Fin 8 → ℝ)
    (hQ : ∀ b s h d, q (ix4 b s h d) = (Qa b s h d : EReal)) (hK : ∀ b s h d, k (ix4 b s h d) = (Ka b s h d : EReal))
    (hC : ∀ b s h, f (ix3 b s h) = (Ca b s h : EReal)) (b : Fin 4) (H : Fin 8) (Q s : Fin 8192) :
    Cert.ReferenceIdeal.Fox.scores q k f (ix4 b H Q s)
      = if s.val ≤ Q.val then (((∑ d : Fin 64, Qa b Q H d * Ka b s H d) * (1 / 8) + Ca b Q H - Ca b s H : ℝ) : EReal) else ⊥ := by
  rw [Cert.ReferenceIdeal.Fox.scores_at, eighth_eq, hC, hC]
  have : ∑ x : Fin 64, q (ix4 b Q H x) * k (ix4 b s H x) = ((∑ d : Fin 64, Qa b Q H d * Ka b s H d : ℝ) : EReal) := by
    rw [← coe_sum]
    refine Finset.sum_congr rfl fun x _ => ?_
    rw [hQ, hK, EReal.coe_mul]
  rw [this, ← EReal.coe_mul, ← EReal.coe_add, ← EReal.coe_sub]

end

variable (m : (ℓ : Loc nD τ sig) → Buf (Elt Ideal) ℓ) (c : Dev nD)

/-- One entry of the result's block at a grid point. -/
theorem point (Qa Ka : Fin 4 → Fin 8192 → Fin 8 → Fin 64 → ℝ) (Ca : Fin 4 → Fin 8192 → Fin 8 → ℝ)
    (hQ : ∀ b s h d, qA m c b s h d = (Qa b s h d : EReal)) (hK : ∀ b s h d, kA m c b s h d = (Ka b s h d : EReal))
    (hC : ∀ b s h, cA m c b s h = (Ca b s h : EReal)) (t : Fin cfg0.N) (b p : Fin 4) (i : Fin 16)
    (hb : (grid0.coords t 0).val = b.val) (hp : (grid0.coords t 1).val = p.val) (hi : (grid0.coords t 2).val = i.val)
    (j : Fin 512) (h : Fin 2) (d : Fin 64) :
    outAt m c t (ix3 (0 : Fin 1) j (⟨64 * h.val + d.val, by omega⟩ : Fin 128))
      = refOf (m (c, Proc.tc.devRef main_arg0)) (m (c, Proc.tc.devRef main_arg1)) (m (c, Proc.tc.devRef main_arg2)) (m (c, Proc.tc.devRef main_arg3))
          (ix3 b (⟨512 * i.val + j.val, by omega⟩ : Fin 8192) (⟨128 * p.val + (64 * h.val + d.val), by omega⟩ : Fin 512)) := by
  have hh := h.isLt
  have hd := d.isLt
  have hpl := p.isLt
  obtain ⟨H, hH⟩ : ∃ H : Fin 8, H.val = 2 * p.val + h.val := ⟨⟨2 * p.val + h.val, by omega⟩, rfl⟩
  obtain ⟨Q, hQv⟩ : ∃ Q : Fin 8192, Q.val = 512 * i.val + j.val := ⟨⟨512 * i.val + j.val, by omega⟩, rfl⟩
  have hQe : (⟨512 * i.val + j.val, by omega⟩ : Fin 8192) = Q := Fin.ext hQv.symm
  let fin (s : ℕ) : Fin 8192 := ⟨s % 8192, Nat.mod_lt _ (by omega)⟩
  have hfin : ∀ s : Fin 8192, fin s.val = s := fun s => Fin.ext (by show s.val % 8192 = s.val; have := s.isLt; omega)
  let hd8 (r : ℕ) : Fin 8 := ⟨(2 * p.val + r / 64) % 8, Nat.mod_lt _ (by omega)⟩
  let d64 (r : ℕ) : Fin 64 := ⟨r % 64, Nat.mod_lt _ (by omega)⟩
  let ρ (s : ℕ) : ℝ := nat_score (fun d => Qa b Q (hd8 (64 * h.val + d)) (d64 (64 * h.val + d)))
    (fun d => Ka b (fin s) (hd8 (64 * h.val + d)) (d64 (64 * h.val + d))) (Ca b Q H)
    (if h.val = 0 then Ca b (fin s) (⟨p.val * 2, by omega⟩ : Fin 8) else Ca b (fin s) (⟨p.val * 2 + 1, by omega⟩ : Fin 8))
  let τ (s : ℕ) : EReal := if s ≤ Q.val then (ρ s : EReal) else ⊥
  rw [hQe]
  have hsc : ∀ s : Fin 8192, Cert.ReferenceIdeal.Fox.scores (m (c, Proc.tc.devRef main_arg0)) (m (c, Proc.tc.devRef main_arg1)) (m (c, Proc.tc.devRef main_arg3)) (ix4 b H Q s) = τ s.val := by
    intro s
    rw [scores_real _ _ _ Qa Ka Ca hQ hK hC]
    show _ = if s.val ≤ Q.val then (ρ s.val : EReal) else ⊥
    have hρ : ρ s.val = (∑ d : Fin 64, Qa b Q H d * Ka b s H d) * (1 / 8) + Ca b Q H - Ca b s H := by
      show nat_score _ _ _ _ = _
      unfold nat_score
      rw [hfin, Finset.sum_range]
      have e1 : ∀ x : Fin 64, hd8 (64 * h.val + x.val) = H := fun x => Fin.ext (by
        show (2 * p.val + (64 * h.val + x.val) / 64) % 8 = H.val; have := x.isLt; omega)
      have e2 : ∀ x : Fin 64, d64 (64 * h.val + x.val) = x := fun x => Fin.ext (by
        show (64 * h.val + x.val) % 64 = x.val; have := x.isLt; omega)
      simp only [e1, e2]
      congr 1
      by_cases h0 : h.val = 0
      · rw [if_pos h0]
        congr 1
        exact Fin.ext (by show p.val * 2 = H.val; omega)
      · rw [if_neg h0]
        congr 1
        exact Fin.ext (by show p.val * 2 + 1 = H.val; omega)
    rw [hρ]
  rw [refOf_at _ _ _ _ b Q _ H d (by show 128 * p.val + (64 * h.val + d.val) = 64 * H.val + d.val; omega) τ hsc]
  unfold outAt
  rw [hi]
  refine (fout_softmax (iblk m c 0 t) (iblk m c 1 t) (iblk m c 2 t) (iblk m c 3 t) (iblk m c 4 t) (iblk m c 5 t) i.val i.isLt j h d
    (fun r => Qa b Q (hd8 r) (d64 r)) (fun s r => Ka b (fin s) (hd8 r) (d64 r))
    (fun s => Ca b (fin s) (⟨p.val * 2, by omega⟩ : Fin 8)) (fun s => Ca b (fin s) (⟨p.val * 2 + 1, by omega⟩ : Fin 8)) (Ca b Q H)
    ?_ ?_ ?_ ?_ ?_ (fun s => vA m c b s H d) ?_ ρ (fun _ => rfl) τ ?_ _ rfl).trans ?_
  · intro s r
    rw [blk2 m c t b p i hb hp hi, u3_at, hK, hfin]
    congr 2
    · exact Fin.ext (by show (128 * p.val + r.val) / 64 = (2 * p.val + r.val / 64) % 8; have := r.isLt; omega)
    · exact Fin.ext (by show (128 * p.val + r.val) % 64 = r.val % 64; omega)
  · intro s r
    rw [blk3 m c t b p i hb hp hi, kf_at m c Ca hC, hfin]
  · intro r
    rw [blk0 m c t b p i hb hp hi, ut_at, dif_pos (by show 128 * p.val + r.val < 512; omega), hQ, hQe, EReal.coe_mul, EReal.coe_mul]
    congr 3
    · exact Fin.ext (by show (128 * p.val + r.val) / 64 = (2 * p.val + r.val / 64) % 8; have := r.isLt; omega)
    · exact Fin.ext (by show (128 * p.val + r.val) % 64 = r.val % 64; omega)
  · intro r
    rw [blk1 m c t b p i hb hp hi, qf_at m c Ca hC, hQe]
    congr 3
    exact Fin.ext (by show p.val * 2 + h.val = H.val; omega)
  · intro k
    rw [blk5 m c t b p i hb hp hi, bias_at]
    rfl
  · intro s
    rw [blk4 m c t b p i hb hp hi, ut_at, dif_neg (by show ¬ (128 * (4 + p.val) + (64 * h.val + d.val) < 512); omega)]
    congr 1
    · exact Fin.ext (by show (128 * (4 + p.val) + (64 * h.val + d.val) - 512) / 64 = H.val; omega)
    · exact Fin.ext (by show (128 * (4 + p.val) + (64 * h.val + d.val) - 512) % 64 = d.val; omega)
  · intro s _
    rw [← hQv]
  · rw [hQv]

theorem block_idx (y : S1x512x128.Idx) : ∃ (j : Fin 512) (h : Fin 2) (d : Fin 64),
    y = ix3 (0 : Fin 1) j (⟨64 * h.val + d.val, by omega⟩ : Fin 128) := by
  have h0 : (y 0).val < 1 := (y 0).isLt
  have h2 : (y 2).val < 128 := (y 2).isLt
  refine ⟨y 1, ⟨(y 2).val / 64, by omega⟩, ⟨(y 2).val % 64, by omega⟩, funext fun a => Fin.ext ?_⟩
  match a with
  | ⟨0, _⟩ => show (y 0).val = 0; omega
  | ⟨1, _⟩ => rfl
  | ⟨2, _⟩ => show (y 2).val = 64 * ((y 2).val / 64) + (y 2).val % 64; omega

set_option maxHeartbeats 1600000 in
/-- The result array after the last grid point. -/
theorem final (Qa Ka : Fin 4 → Fin 8192 → Fin 8 → Fin 64 → ℝ) (Ca : Fin 4 → Fin 8192 → Fin 8 → ℝ)
    (hQ : ∀ b s h d, qA m c b s h d = (Qa b s h d : EReal)) (hK : ∀ b s h d, kA m c b s h d = (Ka b s h d : EReal))
    (hC : ∀ b s h, cA m c b s h = (Ca b s h : EReal)) :
    (dats m 0 c).arrAt 6 cfg0.N
      = refOf (m (c, Proc.tc.devRef main_arg0)) (m (c, Proc.tc.devRef main_arg1)) (m (c, Proc.tc.devRef main_arg2)) (m (c, Proc.tc.devRef main_arg3)) := by
  refine (dats m 0 c).arrAt_eq_of_covers 6 _ (by decide +kernel) fun t _ y => ?_
  blk_simp
  rw [after0_6]
  obtain ⟨h0, h1, h2⟩ := coords_lt t
  obtain ⟨j, h, d, hy⟩ := block_idx y
  rw [hy]
  refine (point m c Qa Ka Ca hQ hK hC t ⟨_, h0⟩ ⟨_, h1⟩ ⟨_, h2⟩ rfl rfl rfl j h d).trans ?_
  blk_ext [idx t]

end Cert.KernelIdeal.Fox

end
-- ==== Proof.Finite.lean ====
module

public import proofs.«01_k».proof.Pre_finite
public import Idealize.ShloMosaic.Lib.Pointwise
public import Idealize.ShloMosaic.Lib.ReduceAll
public import Idealize.ShloMosaic.Lib.Affine

@[expose] public section

set_option maxRecDepth 16384

/-! # What the precondition says: queries, keys and forget sums are real numbers -/

noncomputable section

namespace Cert.Pre_finite

open Idealize.ShloMosaic

variable [Facts]
open Facts

theorem real_of_abs_lt {x : EReal} (h : max x (-x) < ⊤) : ∃ r : ℝ, x = (r : EReal) := by
  induction x with
  | bot => exact absurd h (by simp)
  | coe r => exact ⟨r, rfl⟩
  | top => exact absurd h (by simp)

instance : Subsingleton S_.Idx := ⟨fun a b => funext fun i => i.elim0⟩

theorem real_of_olt (x : EReal) (h : BitVec.ofBool (decide (FloatOps.absf (F := Ideal) (φ := .f32) x < Ideal.ofBits FTy.f32 2139095040#32)) = 1#1) :
    ∃ r : ℝ, x = (r : EReal) := by
  by_cases hx : FloatOps.absf (F := Ideal) (φ := .f32) x < Ideal.ofBits FTy.f32 2139095040#32
  · exact real_of_abs_lt hx
  · rw [decide_eq_false hx] at h
    exact absurd h (by decide)

theorem real4 (x : FVec Ideal S4x8192x8x64 .f32)
    (h : Host.reduce IntOp.andi (cmpf .olt (Host.absf x) (broadcastInDim S4x8192x8x64 ![] bcast_S_S4x8192x8x64 (constant S_ .f32 0x7F800000#32)))
      (constantI S_ 1 1#1) reducesTo_S4x8192x8x64_S_d0_1_2_3 h_S_ ix0 = 1#1) (i : S4x8192x8x64.Idx) : ∃ r : ℝ, (x i : EReal) = (r : EReal) := by
  have e := Host.reduce_andi_all _ _ _ _ _ h i
  revert e
  pointwise []
  exact real_of_olt (x i)

theorem real3 (x : FVec Ideal S4x8192x8 .f32)
    (h : Host.reduce IntOp.andi (cmpf .olt (Host.absf x) (broadcastInDim S4x8192x8 ![] bcast_S_S4x8192x8 (constant S_ .f32 0x7F800000#32)))
      (constantI S_ 1 1#1) reducesTo_S4x8192x8_S_d0_1_2 h_S_ ix0 = 1#1) (i : S4x8192x8.Idx) : ∃ r : ℝ, (x i : EReal) = (r : EReal) := by
  have e := Host.reduce_andi_all _ _ _ _ _ h i
  revert e
  pointwise []
  exact real_of_olt (x i)

/-- Under the precondition every query, key and forget sum is a real. -/
theorem reals (q k v : FVec Ideal S4x8192x8x64 .f32) (f : FVec Ideal S4x8192x8 .f32) (h : fn (F := Ideal) q k v f = fun _ => 1#1) :
    (∀ i, ∃ r : ℝ, (q i : EReal) = (r : EReal)) ∧ (∀ i, ∃ r : ℝ, (k i : EReal) = (r : EReal)) ∧ (∀ i, ∃ r : ℝ, (f i : EReal) = (r : EReal)) := by
  have e := congrFun h ix0
  obtain ⟨e1, e2⟩ := IntOp.andi_eq_one.mp e
  obtain ⟨e3, e4⟩ := IntOp.andi_eq_one.mp e1
  exact ⟨real4 q e3, real4 k e4, real3 f e2⟩

end Cert.Pre_finite

end
-- ==== Proof.Last.Out0.lean ====
module

public import proofs.«01_k».proof.Proof.Gen.Out0Ideal.Value
public import proofs.«01_k».proof.Proof.Gen.Out0RefIdeal.Run
public import Idealize.ShloMosaic.Lib.Pipeline.ValueKit

@[expose] public section

set_option maxRecDepth 16384

/-! # The last call of the even layer -/

noncomputable section

namespace Cert.Out0Ideal.Value

open Idealize.ShloMosaic Idealize.ShloMosaic.TcCoe Idealize.SL.Sem
open Idealize.ShloMosaic.Pipeline (Dat)
open Cert.Out0Ideal Cert.Out0Ideal.Gen

variable (m : (ℓ : Loc nD τ sig) → Buf (Elt Ideal) ℓ)

/-- The reference's result over its arguments. -/
def refOf (f r : FVec Ideal S32768x512 .bf16) (u : FVec Ideal S32768x3072 .bf16) (x : FVec Ideal S32768x1024 .f32)
    (w : FVec Ideal S1024x1024 .f32) : FVec Ideal S32768x1024 .f32 :=
  addf x (Host.dotGeneral Cert.Out0RefIdeal.dot_S32768x1024_S1024x1024_S32768x1024_1_0_0_1_n_n none (mulf (extf .f32 (concatenate Cert.Out0RefIdeal.S32768x1024 1 [⟨Cert.Out0RefIdeal.S32768x512, f⟩, ⟨Cert.Out0RefIdeal.S32768x512, r⟩] Cert.Out0RefIdeal.Gen.concatenates_S32768x512_S32768x512_S32768x1024_d1) Cert.Out0RefIdeal.Gen.bitsLt_bf16_f32) (mulf (extf .f32 (extractStridedSlice Cert.Out0RefIdeal.S32768x1024 ![0, 0] u Cert.Out0RefIdeal.Gen.slices_S32768x3072_S32768x1024_0_0) Cert.Out0RefIdeal.Gen.bitsLt_bf16_f32) (Host.divf (broadcastInDim Cert.Out0RefIdeal.S32768x1024 ![] Cert.Out0RefIdeal.Gen.bcast_S_S32768x1024 (constant Cert.Out0RefIdeal.S_ .f32 0x3F800000#32)) (addf (broadcastInDim Cert.Out0RefIdeal.S32768x1024 ![] Cert.Out0RefIdeal.Gen.bcast_S_S32768x1024 (constant Cert.Out0RefIdeal.S_ .f32 0x3F800000#32)) (Host.exp (Host.negf (extf .f32 (extractStridedSlice Cert.Out0RefIdeal.S32768x1024 ![0, 0] u Cert.Out0RefIdeal.Gen.slices_S32768x3072_S32768x1024_0_0) Cert.Out0RefIdeal.Gen.bitsLt_bf16_f32))))))) w)

/-- Every window's block at a grid point: a tile of rows, or the whole array. -/
theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![t.val, 0] ∧ t.val < 32 :=
  (by decide +kernel : ∀ t : Fin grid0.N, _)

theorem final (c : Dev nD) : (dats m 0 c).arrAt 5 cfg0.N
    = refOf (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  frame_out
  pointwise [k0_pay1, refOf]
  refine (add_assoc (G := EReal) _ _ _).trans ?_
  blk_point [iblk, V, idx t]
  all_goals
    refine congrArg Ideal.exp ((zero_sub (G := EReal) _).trans (congrArg (fun z : EReal => -z) ?_))
    blk_ext [iblk, V, idx t]

end Cert.Out0Ideal.Value

end
-- ==== Proof.Last.Out1.lean ====
module

public import proofs.«01_k».proof.Proof.Gen.Out1Ideal.Value
public import proofs.«01_k».proof.Proof.Gen.Out1RefIdeal.Run
public import Idealize.ShloMosaic.Lib.Pipeline.ValueKit

@[expose] public section

set_option maxRecDepth 16384

/-! # The last call of the odd layer -/

noncomputable section

namespace Cert.Out1Ideal.Value

open Idealize.ShloMosaic Idealize.ShloMosaic.TcCoe Idealize.SL.Sem
open Idealize.ShloMosaic.Pipeline (Dat)
open Cert.Out1Ideal Cert.Out1Ideal.Gen

variable (m : (ℓ : Loc nD τ sig) → Buf (Elt Ideal) ℓ)

/-- The reference's rows before the norm. -/
def rows (oc os : FVec Ideal S32768x1024 .bf16) (u : FVec Ideal S32768x2560 .bf16) (x : FVec Ideal S32768x1024 .f32)
    (w : FVec Ideal S1024x1024 .f32) : FVec Ideal S32768x1024 .f32 :=
  addf x (Host.dotGeneral Cert.Out1RefIdeal.dot_S32768x1024_S1024x1024_S32768x1024_1_0_0_1_n_n none (mulf (addf (extf .f32 oc Cert.Out1RefIdeal.Gen.bitsLt_bf16_f32) (extf .f32 os Cert.Out1RefIdeal.Gen.bitsLt_bf16_f32)) (mulf (extf .f32 (extractStridedSlice Cert.Out1RefIdeal.S32768x1024 ![0, 0] u Cert.Out1RefIdeal.Gen.slices_S32768x2560_S32768x1024_0_0) Cert.Out1RefIdeal.Gen.bitsLt_bf16_f32) (Host.divf (broadcastInDim Cert.Out1RefIdeal.S32768x1024 ![] Cert.Out1RefIdeal.Gen.bcast_S_S32768x1024 (constant Cert.Out1RefIdeal.S_ .f32 0x3F800000#32)) (addf (broadcastInDim Cert.Out1RefIdeal.S32768x1024 ![] Cert.Out1RefIdeal.Gen.bcast_S_S32768x1024 (constant Cert.Out1RefIdeal.S_ .f32 0x3F800000#32)) (Host.exp (Host.negf (extf .f32 (extractStridedSlice Cert.Out1RefIdeal.S32768x1024 ![0, 0] u Cert.Out1RefIdeal.Gen.slices_S32768x2560_S32768x1024_0_0) Cert.Out1RefIdeal.Gen.bitsLt_bf16_f32))))))) w)

/-- The reference's result over its arguments. -/
def refOf (oc os : FVec Ideal S32768x1024 .bf16) (u : FVec Ideal S32768x2560 .bf16) (x : FVec Ideal S32768x1024 .f32)
    (w : FVec Ideal S1024x1024 .f32) (g : FVec Ideal S1024 .f32) : FVec Ideal S32768x1024 .f32 :=
  mulf (mulf (rows oc os u x w) (broadcastInDim Cert.Out1RefIdeal.S32768x1024 ![0, 1] Cert.Out1RefIdeal.Gen.bcast_S32768x1_S32768x1024_0_1 (Host.rsqrt (addf (Host.divf (broadcastInDim Cert.Out1RefIdeal.S32768x1 ![0] Cert.Out1RefIdeal.Gen.bcast_S32768_S32768x1_0 (Host.reduceAdd (mulf (rows oc os u x w) (rows oc os u x w)) (constant Cert.Out1RefIdeal.S_ .f32 0x00000000#32) Cert.Out1RefIdeal.Gen.reducesTo_S32768x1024_S32768_d1 Cert.Out1RefIdeal.Gen.h_S_)) (broadcastInDim Cert.Out1RefIdeal.S32768x1 ![] Cert.Out1RefIdeal.Gen.bcast_S_S32768x1 (constant Cert.Out1RefIdeal.S_ .f32 0x44800000#32))) (broadcastInDim Cert.Out1RefIdeal.S32768x1 ![] Cert.Out1RefIdeal.Gen.bcast_S_S32768x1 (constant Cert.Out1RefIdeal.S_ .f32 0x358637BD#32)))))) (broadcastInDim Cert.Out1RefIdeal.S32768x1024 ![0, 1] Cert.Out1RefIdeal.Gen.bcast_S1x1024_S32768x1024_0_1 (broadcastInDim Cert.Out1RefIdeal.S1x1024 ![1] Cert.Out1RefIdeal.Gen.bcast_S1024_S1x1024_1 g))

/-- Every window's block at a grid point: a tile of rows, or the whole array. -/
theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] ∧ t.val < 32 :=
  (by decide +kernel : ∀ t : Fin grid0.N, _)

/-- The gate's block is never cut. -/
theorem gate (c : Dev nD) (t : Fin cfg0.N) : (X0_2 m c t : Vec Ideal S1024x1024 .bf16)
    = fun y => (m ((c : Thread nD τ).loc main_arg2) : Vec Ideal S32768x2560 .bf16)
        (ix2 (⟨1024 * t.val + (y 0).val, by have := (idx t).2.2.2.2.2.2.2; have h : (y 0).val < 1024 := (y 0).isLt; omega⟩ : Fin 32768) (⟨(y 1).val, by have h : (y 1).val < 1024 := (y 1).isLt; omega⟩ : Fin 2560)) := by
  funext y
  unfold X0_2 Pipeline.Window.fill
  rw [dif_pos (moved0_2 t _)]
  blk_ext [iblk, V, idx t]

/-- A grid point's stored rows are the reference's. -/
theorem point (c : Dev nD) (t : Fin cfg0.N) (y) :
    k0_pay1 (X0_2 m c t) (iblk m c 0 t) (iblk m c 1 t) (iblk m c 3 t) (iblk m c 4 t) (iblk m c 5 t) y
      = refOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 6).blk t).view.emb y) := by
  rw [gate m c t]
  pointwise [k0_pay1, refOf, rows]
  blk_point [iblk, V, idx t]
  all_goals
    refine congrArg Ideal.exp ((zero_sub (G := EReal) _).trans (congrArg (fun z : EReal => -z) ?_))
    blk_ext [idx t]

theorem final (c : Dev nD) : (dats m 0 c).arrAt 6 cfg0.N
    = refOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  unfold outsAt0
  frame_out
  exact point m c t y

end Cert.Out1Ideal.Value

end
-- ==== Proof.Project.lean ====
module

public import proofs.«01_k».proof.Proof.Gen.ProjIdeal.Frame
public import proofs.«01_k».proof.Proof.Gen.ProjIdeal.Skeleton
public import Idealize.ShloMosaic.Lib.Exec
public import Idealize.ShloMosaic.Lib.Tactic
public import Idealize.ShloMosaic.Lib.WordCmp
public import Idealize.ShloMosaic.Lib.Pipeline.Kit
public import Idealize.ShloMosaic.Lib.VecWindow
public import Idealize.ShloMosaic.Lib.Claim

@[expose] public section

set_option maxRecDepth 16384

/-! # The even layer's projection: the body of a grid point and the run

At the first column block of a tile of rows the body norms the rows, keeps them in the scratch buffer and writes the transposed
block; at the second the scratch buffer still holds them. -/

noncomputable section

namespace Cert.ProjIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

variable {F : FTy → Type} [FloatOps F]

local notation "𝕄" => MT nD τ sig Unit (Elt F) ℕ (UR sig nD τ) ℕ

section
variable (𝒱 : Variants) (c : Dev nD) (bd : Option 𝒱.V) (E : Set ℕ) (i : grid0.Coords) (arg2 : Memref sig .tc .vmem S1024x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S1024x1024 .bf16) (harg5 : arg5.IsWhole) (arg6 : Memref sig .tc .vmem S1024x1536 .bf16) (harg6 : arg6.IsWhole) (arg7 : Memref sig .tc .vmem S1x1024x1024 .bf16) (harg7 : arg7.IsWhole) (arg8 : Memref sig .tc .vmem S1024x1024 .bf16) (harg8 : arg8.IsWhole)
  (x2 : Vec F S1024x1024 .f32) (x3 : Vec F S1x1024 .f32) (x4 : Vec F S1024x1536 .bf16) (x5 : Vec F S1024x1024 .bf16)

theorem body_first (h : k0_cond1 i = 1#1) :
    ∀ (K : PUnit → sProp 𝕄),
      iprop(owns (c : Thread nD τ) arg2 fullShare x2 ∗ owns (c : Thread nD τ) arg3 fullShare x3 ∗ owns (c : Thread nD τ) arg4 fullShare x4
          ∗ owns (c : Thread nD τ) arg5 fullShare x5 ∗ (∃ d, owns (c : Thread nD τ) arg6 fullShare d)
          ∗ (∃ d, owns (c : Thread nD τ) arg7 fullShare d) ∗ (∃ d, owns (c : Thread nD τ) arg8 fullShare d)
          ∗ (iprop(owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare (k0_pay4 (k0_pay2 x2 x3) x4)
          ∗ owns (c : Thread nD τ) arg7 fullShare (k0_pay3 x2 x3 x5) ∗ owns (c : Thread nD τ) arg8 fullShare (k0_pay2 x2 x3)) -∗ K ⟨⟩))
        ⊢ wp frame (wpE (defs₀ (F := F)) 𝒱 (c : Thread nD τ) bd) E (cc0_proj i arg2 harg2 arg3 harg3 arg4 harg4 arg5 harg5 arg6 harg6 arg7 harg7 arg8 harg8) K := by
  intro K
  simp only [cc0_proj_eq_skeleton]; unfold cc0_proj_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  sl_exec
  have E8 : View.read (Elt F) arg8.view (arg8.view.writes (Elt F) f8 (body_first.sl.H8_1 c arg2 arg3 f2 f3)) = k0_pay2 x2 x3 := by
    delta body_first.sl.H8_1
    rw [View.read_writes_full, View.readAt_full, View.readAt_full, hf2, hf3]
  have Ev : body_first.sl.v3 c arg2 arg3 arg8 f2 f3 = k0_pay2 x2 x3 := by
    delta body_first.sl.v3 body_first.sl.H8_1
    rw [View.readCov_full, View.readAt_full, View.readAt_full, hf2, hf3]
  sl_step
  iapply Hk
  isplitl [H2]; · (iexists f2; isplitr; · (ipureintro; exact hf2)); iexact H2
  isplitl [H3]; · (iexists f3; isplitr; · (ipureintro; exact hf3)); iexact H3
  isplitl [H4]; · (iexists f4; isplitr; · (ipureintro; exact hf4)); iexact H4
  isplitl [H5]; · (iexists f5; isplitr; · (ipureintro; exact hf5)); iexact H5
  isplitl [H6]
  · iexists _
    isplitr; swap
    · iexact H6
    ipureintro
    rw [View.read_writes_full, Ev, View.readAt_full, hf4]
  isplitl [H7]
  · iexists _
    isplitr; swap
    · iexact H7
    ipureintro
    rw [View.read_writes_full, View.readAt_full, View.readAt_full, View.readAt_full, hf2, hf3, hf5]
  iexists _
  isplitr; swap
  · iexact H8
  ipureintro
  exact E8

theorem body_second (h : ¬ k0_cond1 i = 1#1) (y7 : Vec F S1x1024x1024 .bf16) (y8 : Vec F S1024x1024 .bf16) :
    ∀ (K : PUnit → sProp 𝕄),
      iprop(owns (c : Thread nD τ) arg2 fullShare x2 ∗ owns (c : Thread nD τ) arg3 fullShare x3 ∗ owns (c : Thread nD τ) arg4 fullShare x4
          ∗ owns (c : Thread nD τ) arg5 fullShare x5 ∗ (∃ d, owns (c : Thread nD τ) arg6 fullShare d)
          ∗ owns (c : Thread nD τ) arg7 fullShare y7 ∗ owns (c : Thread nD τ) arg8 fullShare y8
          ∗ (iprop(owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare (k0_pay4 y8 x4)
          ∗ owns (c : Thread nD τ) arg7 fullShare y7 ∗ owns (c : Thread nD τ) arg8 fullShare y8) -∗ K ⟨⟩))
        ⊢ wp frame (wpE (defs₀ (F := F)) 𝒱 (c : Thread nD τ) bd) E (cc0_proj i arg2 harg2 arg3 harg3 arg4 harg4 arg5 harg5 arg6 harg6 arg7 harg7 arg8 harg8) K := by
  intro K
  simp only [cc0_proj_eq_skeleton]; unfold cc0_proj_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  sl_exec
  sl_step
  iapply Hk
  isplitl [H2]; · (iexists f2; isplitr; · (ipureintro; exact hf2)); iexact H2
  isplitl [H3]; · (iexists f3; isplitr; · (ipureintro; exact hf3)); iexact H3
  isplitl [H4]; · (iexists f4; isplitr; · (ipureintro; exact hf4)); iexact H4
  isplitl [H5]; · (iexists f5; isplitr; · (ipureintro; exact hf5)); iexact H5
  isplitl [H6]
  · iexists _
    isplitr; swap
    · iexact H6
    ipureintro
    rw [View.read_writes_full, View.readAt_full, View.readAt_full, hf4, hf8]
  isplitl [H7]; · (iexists f7; isplitr; · (ipureintro; exact hf7)); iexact H7
  iexists f8
  isplitr; · (ipureintro; exact hf8)
  iexact H8

end

variable (m : (ℓ : Loc nD τ sig) → Buf (Elt F) ℓ) (ρ : Dev nD → PrngReg)

/-- The normed rows of a grid point's tile. -/
def hid (c : Dev nD) (t : Fin cfg0.N) : Vec F S1024x1024 .bf16 := k0_pay2 (iblk m c 0 t) (iblk m c 1 t)
/-- The rows' output block at a grid point. -/
def outU (c : Dev nD) (t : Fin cfg0.N) : Vec F S1024x1536 .bf16 := k0_pay4 (hid m c t) (iblk m c 2 t)
/-- The transposed output block at a grid point. -/
def outT (c : Dev nD) (t : Fin cfg0.N) : Vec F S1x1024x1024 .bf16 := k0_pay3 (iblk m c 0 t) (iblk m c 1 t) (iblk m c 3 t)

/-- The proof data of the one pipeline on core `c`: after the first point of a tile the scratch buffer holds the tile's
    normed rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outU m c t
    | ⟨5, _⟩ => outT m c t
  Φ s := iprop((∃ d, ⌜∀ t : Fin cfg0.N, t.val + 1 = s.val → t.val % 2 = 0 → d = hid m c t⌝
      ∗ owns (c : Thread nD τ) (Memref.whole cc0_scratch0) fullShare d) ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outU m c t := by dsimp only [dats]
theorem after0_5 (c : Dev nD) (t : Fin cfg0.N) : (dats m 0 c).after 5 t = outT m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The first column block of a tile is at the even points. -/
theorem first_iff : ∀ t : Fin cfg0.N, k0_cond1 (grid0.coords t) = 1#1 ↔ t.val % 2 = 0 :=
  (by decide +kernel : ∀ t : Fin grid0.N, k0_cond1 (grid0.coords t) = 1#1 ↔ t.val % 2 = 0)

theorem idle5 (t : Fin cfg0.N) : cfg0.idle 5 (cfg0.grid.coords t) = !(t.val % 2 == 0) := by
  show (!(k0_cond1 (grid0.coords t) == 1#1)) = _
  by_cases h : t.val % 2 = 0
  · rw [(first_iff t).mpr h, h]; rfl
  · rw [beq_eq_false_iff_ne.mpr (fun e => h ((first_iff t).mp e)), beq_eq_false_iff_ne.mpr h]

/-- The point before. -/
abbrev prev (t : Fin cfg0.N) : Fin cfg0.N := ⟨t.val - 1, Nat.lt_of_le_of_lt (Nat.sub_le _ _) t.isLt⟩

/-- At the second point of a tile the blocks that do not move with the column block are the first point's. -/
theorem same0 (c : Dev nD) (t : Fin cfg0.N) (h : t.val % 2 = 1) : iblk m c 0 t = iblk m c 0 (prev t) := by
  have hf : (cfg0.win 0).fetch t = false := Bool.eq_false_iff.mpr fun e => by have := (fetch0_0 t).mp e; omega
  have e := before0_0 m c t (iblk m c 0 t)
  rw [(dats m 0 c).before_of_pos 0 t (by omega) hf, Pipeline.Window.flush_in _ rfl] at e
  exact e.symm.trans (after0_0 m c (prev t))
theorem same1 (c : Dev nD) (t : Fin cfg0.N) (h : t.val % 2 = 1) : iblk m c 1 t = iblk m c 1 (prev t) := by
  have hf : (cfg0.win 1).fetch t = false := Bool.eq_false_iff.mpr fun e => by have := (fetch0_1 t).mp e; omega
  have e := before0_1 m c t (iblk m c 1 t)
  rw [(dats m 0 c).before_of_pos 1 t (by omega) hf, Pipeline.Window.flush_in _ rfl] at e
  exact e.symm.trans (after0_1 m c (prev t))
theorem same3 (c : Dev nD) (t : Fin cfg0.N) (h : t.val % 2 = 1) : iblk m c 3 t = iblk m c 3 (prev t) := by
  have hf : (cfg0.win 3).fetch t = false := Bool.eq_false_iff.mpr fun e => by have := (fetch0_3 t).mp e; omega
  have e := before0_3 m c t (iblk m c 3 t)
  rw [(dats m 0 c).before_of_pos 3 t (by omega) hf, Pipeline.Window.flush_in _ rfl] at e
  exact e.symm.trans (after0_3 m c (prev t))

theorem hid_prev (c : Dev nD) (t : Fin cfg0.N) (h : t.val % 2 = 1) : hid m c (prev t) = hid m c t := by
  unfold hid; rw [same0 m c t h, same1 m c t h]

/-- At the second point of a tile the transposed block is the one the first point wrote. -/
theorem before0_5 (c : Dev nD) (t : Fin cfg0.N) (h : t.val % 2 = 1) (d) : (dats m 0 c).before 5 t d = outT m c t := by
  have hfl : (cfg0.win 5).flush (prev t) = false := Bool.eq_false_iff.mpr fun e => by
    have := (flush0_5 (prev t)).mp e; have h2 : (prev t).val = t.val - 1 := rfl; omega
  rw [(dats m 0 c).before_of_pos 5 t (by omega) (Pipeline.Window.fetch_out _ rfl _)]
  rw [show (cfg0.win 5).flush ⟨t.val - 1, Nat.lt_of_le_of_lt (Nat.sub_le _ _) t.isLt⟩ = false from hfl]
  unfold Dat.left
  rw [idle5, show ((prev t).val % 2 == 0) = true from by
    have h2 : (prev t).val = t.val - 1 := rfl
    rw [h2]; exact beq_iff_eq.mpr (by omega)]
  refine (after0_5 m c (prev t)).trans ?_
  unfold outT; rw [same0 m c t h, same1 m c t h, same3 m c t h]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem PhiA0_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

theorem Phi_eq (c : Dev nD) (s) : (dats m 0 c).Φ s = iprop((∃ d, ⌜∀ t : Fin cfg0.N, t.val + 1 = s.val → t.val % 2 = 0 → d = hid m c t⌝
      ∗ owns (c : Thread nD τ) (Memref.whole cc0_scratch0) fullShare d) ∗ (∃ r, prngReg c r)) := by
  dsimp only [dats]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, Phi_eq, Phi_eq]
  by_cases hc : t.val % 2 = 0
  · iintro ⟨⟨⟨%s, -, S0⟩, Hg⟩, Ho, ⟨%d0, H0⟩, ⟨%d1, H1⟩, ⟨%d2, H2⟩, ⟨%d3, H3⟩, ⟨%d4, H4⟩, ⟨%d5, H5⟩⟩
    iapply (body_first Variants.none c none Set.univ (grid0.coords t) _ _ _ _ _ _ _ _ _ _ _ _ _ _
      (iblk m c 0 t) (iblk m c 1 t) (iblk m c 2 t) (iblk m c 3 t) ((first_iff t).mpr hc) _)
    isplitl [H0]; · iexact H0
    isplitl [H1]; · iexact H1
    isplitl [H2]; · iexact H2
    isplitl [H3]; · iexact H3
    isplitl [H4]; · iexists _; iexact H4
    isplitl [H5]; · iexists _; iexact H5
    isplitl [S0]; · iexists _; iexact S0
    iintro ⟨H0, H1, H2, H3, H4, H5, S0⟩
    isplitl [S0 Hg]
    · isplitl [S0]
      · iexists _
        isplitr; swap
        · iexact S0
        ipureintro
        intro t' h' _
        have e : t' = t := Fin.ext (by have h3 : t.succ.val = t.val + 1 := rfl; omega)
        rw [e]; rfl
      iexact Hg
    isplitl [Ho]; · iexact Ho
    isplitl [H0]; · iexact H0
    isplitl [H1]; · iexact H1
    isplitl [H2]; · iexact H2
    isplitl [H3]; · iexact H3
    isplitl [H4]; · iexact H4
    iexact H5
  · have h1 : t.val % 2 = 1 := by omega
    simp only [before0_5 m c t h1]
    iintro ⟨⟨⟨%s, %hs, S0⟩, Hg⟩, Ho, ⟨%d0, H0⟩, ⟨%d1, H1⟩, ⟨%d2, H2⟩, ⟨%d3, H3⟩, ⟨%d4, H4⟩, ⟨%d5, H5⟩⟩
    have es : s = hid m c t := (hs (prev t) (by
        have h2 : (prev t).val = t.val - 1 := rfl
        have h3 : t.castSucc.val = t.val := rfl
        omega) (by have h2 : (prev t).val = t.val - 1 := rfl
                   omega)).trans (hid_prev m c t h1)
    subst es
    iapply (body_second Variants.none c none Set.univ (grid0.coords t) _ _ _ _ _ _ _ _ _ _ _ _ _ _
      (iblk m c 0 t) (iblk m c 1 t) (iblk m c 2 t) (iblk m c 3 t) (fun e => hc ((first_iff t).mp e)) (outT m c t) (hid m c t) _)
    isplitl [H0]; · iexact H0
    isplitl [H1]; · iexact H1
    isplitl [H2]; · iexact H2
    isplitl [H3]; · iexact H3
    isplitl [H4]; · iexists _; iexact H4
    isplitl [H5]; · iexact H5
    isplitl [S0]; · iexact S0
    iintro ⟨H0, H1, H2, H3, H4, H5, S0⟩
    isplitl [S0 Hg]
    · isplitl [S0]
      · iexists _
        isplitr; swap
        · iexact S0
        ipureintro
        intro t' h' h2
        exact absurd h2 (by have h3 : t.succ.val = t.val + 1 := rfl; omega)
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  rw [idle5]
  by_cases h : t.val % 2 = 0
  · rw [show (t.val % 2 == 0) = true from beq_iff_eq.mpr h]
    exact triple_restated (sound_body m c t) rfl .rfl fun _ => .rfl
  · rw [show (t.val % 2 == 0) = false from beq_eq_false_iff_ne.mpr h, (flush0_5 t).mpr (by omega)]
    exact triple_restated (sound_body m c t) rfl .rfl fun _ => .rfl

set_option backward.isDefEq.respectTransparency.types false in
/-- The launch: every window's array ends at what the proof data states, and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [Phi_eq, PhiA0_eq]
      iintro ⟨⟨%d, S⟩, Hg⟩
      isplitl [S]
      · iexists d
        isplitr; swap
        · iexact S
        ipureintro
        intro t h _
        exact absurd h (Nat.succ_ne_zero _)
      iexact Hg)
    (hout := fun c => by
      rw [Phi_eq, PhiA0_eq]
      iintro ⟨⟨%d, -, S⟩, Hg⟩
      isplitl [S]; · iexists d; iexact S
      iexact Hg)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.ProjIdeal.Rows

end
-- ==== Proof.ProjectValue.lean ====
module

public import proofs.«01_k».proof.Proof.Project
public import proofs.«01_k».proof.Proof.Online
public import proofs.«01_k».proof.Proof.Gen.ProjRefIdeal.Run
public import Idealize.ShloMosaic.Lib.Pointwise
public import Idealize.ShloMosaic.Lib.Pipeline.ValueKit

@[expose] public section

set_option maxRecDepth 16384

/-! # The even layer's projection: the values

Each result's element is a dot product of a normed row with a column of the weights; where the kernel scales the column, the
reference scales the product. -/

noncomputable section

namespace Cert.ProjIdeal.Rows

open Idealize.ShloMosaic Idealize.ShloMosaic.TcCoe Idealize.SL.Sem
open Idealize.ShloMosaic.Pipeline (Dat)
open Cert.ProjIdeal.Gen

/-- The reference's projection over its arguments, -/
def projOf (x : FVec Ideal S4x8192x1024 .f32) (g : FVec Ideal S1024 .f32) (w : FVec Ideal S1024x4104 .f32) :
    FVec Ideal Cert.ProjRefIdeal.S4x8192x4104 .f32 :=
  Host.dotGeneral Cert.ProjRefIdeal.dot_S4x8192x1024_S1024x4104_S4x8192x4104_2_0_01_1_n_n none (mulf (mulf x (broadcastInDim Cert.ProjRefIdeal.S4x8192x1024 ![0, 1, 2] Cert.ProjRefIdeal.Gen.bcast_S4x8192x1_S4x8192x1024_0_1_2 (Host.rsqrt (addf (Host.divf (broadcastInDim Cert.ProjRefIdeal.S4x8192x1 ![0, 1] Cert.ProjRefIdeal.Gen.bcast_S4x8192_S4x8192x1_0_1 (Host.reduceAdd (mulf x x) (constant Cert.ProjRefIdeal.S_ .f32 0x00000000#32) Cert.ProjRefIdeal.Gen.reducesTo_S4x8192x1024_S4x8192_d2 Cert.ProjRefIdeal.Gen.h_S_)) (broadcastInDim Cert.ProjRefIdeal.S4x8192x1 ![] Cert.ProjRefIdeal.Gen.bcast_S_S4x8192x1 (constant Cert.ProjRefIdeal.S_ .f32 0x44800000#32))) (broadcastInDim Cert.ProjRefIdeal.S4x8192x1 ![] Cert.ProjRefIdeal.Gen.bcast_S_S4x8192x1 (constant Cert.ProjRefIdeal.S_ .f32 0x358637BD#32)))))) (broadcastInDim Cert.ProjRefIdeal.S4x8192x1024 ![0, 1, 2] Cert.ProjRefIdeal.Gen.bcast_S1x1x1024_S4x8192x1024_0_1_2 (broadcastInDim Cert.ProjRefIdeal.S1x1x1024 ![2] Cert.ProjRefIdeal.Gen.bcast_S1024_S1x1x1024_2 g))) w

/-- its first result, -/
def rowsOf (x : FVec Ideal S4x8192x1024 .f32) (g : FVec Ideal S1024 .f32) (w : FVec Ideal S1024x4104 .f32) :
    FVec Ideal Cert.ProjRefIdeal.S32768x3072 .bf16 :=
  truncf .bf16 (shapeCast Cert.ProjRefIdeal.S32768x3072 ((concatenate Cert.ProjRefIdeal.S4x8192x3072 2 [⟨Cert.ProjRefIdeal.S4x8192x1024, ((extractStridedSlice Cert.ProjRefIdeal.S4x8192x1024 ![0, 0, 3080] (projOf x g w) Cert.ProjRefIdeal.Gen.slices_S4x8192x4104_S4x8192x1024_0_0_3080))⟩, ⟨Cert.ProjRefIdeal.S4x8192x512, ((extractStridedSlice Cert.ProjRefIdeal.S4x8192x512 ![0, 0, 512] (projOf x g w) Cert.ProjRefIdeal.Gen.slices_S4x8192x4104_S4x8192x512_0_0_512))⟩, ⟨Cert.ProjRefIdeal.S4x8192x512, ((extractStridedSlice Cert.ProjRefIdeal.S4x8192x512 ![0, 0, 1544] (projOf x g w) Cert.ProjRefIdeal.Gen.slices_S4x8192x4104_S4x8192x512_0_0_1544))⟩, ⟨Cert.ProjRefIdeal.S4x8192x512, ((mulf (extractStridedSlice Cert.ProjRefIdeal.S4x8192x512 ![0, 0, 2056] (projOf x g w) Cert.ProjRefIdeal.Gen.slices_S4x8192x4104_S4x8192x512_0_0_2056) (broadcastInDim Cert.ProjRefIdeal.S4x8192x512 ![] Cert.ProjRefIdeal.Gen.bcast_S_S4x8192x512 (constant Cert.ProjRefIdeal.S_ .f32 0x3E000000#32))))⟩, ⟨Cert.ProjRefIdeal.S4x8192x512, ((extractStridedSlice Cert.ProjRefIdeal.S4x8192x512 ![0, 0, 2568] (projOf x g w) Cert.ProjRefIdeal.Gen.slices_S4x8192x4104_S4x8192x512_0_0_2568))⟩] Cert.ProjRefIdeal.Gen.concatenates_S4x8192x1024_S4x8192x512_S4x8192x512_S4x8192x512_S4x8192x512_S4x8192x3072_d2)) Cert.ProjRefIdeal.Gen.shapeCasts_S4x8192x3072_S32768x3072) Cert.ProjRefIdeal.Gen.bitsLt_bf16_f32

/-- and its second. -/
def colsOf (x : FVec Ideal S4x8192x1024 .f32) (g : FVec Ideal S1024 .f32) (w : FVec Ideal S1024x4104 .f32) :
    FVec Ideal Cert.ProjRefIdeal.S4x1024x8192 .bf16 :=
  truncf .bf16 (transpose Cert.ProjRefIdeal.S4x1024x8192 [0, 2, 1] (concatenate Cert.ProjRefIdeal.S4x8192x1024 2 [⟨Cert.ProjRefIdeal.S4x8192x512, (mulf (extractStridedSlice Cert.ProjRefIdeal.S4x8192x512 ![0, 0, 0] (projOf x g w) Cert.ProjRefIdeal.Gen.slices_S4x8192x4104_S4x8192x512_0_0_0) (broadcastInDim Cert.ProjRefIdeal.S4x8192x512 ![] Cert.ProjRefIdeal.Gen.bcast_S_S4x8192x512 (constant Cert.ProjRefIdeal.S_ .f32 0x3E38AA3B#32)))⟩, ⟨Cert.ProjRefIdeal.S4x8192x512, (extractStridedSlice Cert.ProjRefIdeal.S4x8192x512 ![0, 0, 1024] (projOf x g w) Cert.ProjRefIdeal.Gen.slices_S4x8192x4104_S4x8192x512_0_0_1024)⟩] Cert.ProjRefIdeal.Gen.concatenates_S4x8192x512_S4x8192x512_S4x8192x1024_d2) Cert.ProjRefIdeal.Gen.transposes_S4x8192x1024_S4x1024x8192_0_2_1) Cert.ProjRefIdeal.Gen.bitsLt_bf16_f32

section
variable (x : FVec Ideal S4x8192x1024 .f32) (g : FVec Ideal S1024 .f32) (w : FVec Ideal S1024x4104 .f32)

/-- An element of a normed row. -/
def nrm (b : Fin 4) (s : Fin 8192) (k : Fin 1024) : EReal :=
  x (ix3 b s k) * Ideal.rsqrt (Ideal.div (∑ k', x (ix3 b s k') * x (ix3 b s k')) (Ideal.ofBits FTy.f32 1149239296#32)
    + Ideal.ofBits FTy.f32 897988541#32) * g (ix1 k)

theorem projOf_at (b : Fin 4) (s : Fin 8192) (j : Fin 4104) :
    (projOf x g w (ix3 b s j) : EReal) = ∑ k, nrm x g b s k * w (ix2 k j) := by
  unfold projOf nrm
  pointwise []
theorem rowsOf_at (r : Fin 32768) (j : Fin 3072) : (rowsOf x g w (ix2 r j) : EReal) =
    if h : j.val < 1024 then projOf x g w (ix3 ⟨r.val / 8192, by omega⟩ ⟨r.val % 8192, by omega⟩ ⟨3080 + j.val, by omega⟩)
    else if h : j.val - 1024 < 512 then projOf x g w (ix3 ⟨r.val / 8192, by omega⟩ ⟨r.val % 8192, by omega⟩ ⟨512 + (j.val - 1024), by omega⟩)
    else if h : j.val - 1024 - 512 < 512 then projOf x g w (ix3 ⟨r.val / 8192, by omega⟩ ⟨r.val % 8192, by omega⟩ ⟨1544 + (j.val - 1024 - 512), by omega⟩)
    else if h : j.val - 1024 - 512 - 512 < 512 then
      projOf x g w (ix3 ⟨r.val / 8192, by omega⟩ ⟨r.val % 8192, by omega⟩ ⟨2056 + (j.val - 1024 - 512 - 512), by omega⟩) * Ideal.ofBits FTy.f32 1040187392#32
    else projOf x g w (ix3 ⟨r.val / 8192, by omega⟩ ⟨r.val % 8192, by omega⟩ ⟨2568 + (j.val - 1024 - 512 - 512 - 512), by omega⟩) := by
  unfold rowsOf
  pointwise []
theorem colsOf_at (b : Fin 4) (j : Fin 1024) (s : Fin 8192) : (colsOf x g w (ix3 b j s) : EReal) =
    if h : j.val < 512 then projOf x g w (ix3 b s ⟨j.val, by omega⟩) * Ideal.ofBits FTy.f32 1043900987#32
    else projOf x g w (ix3 b s ⟨1024 + (j.val - 512), by omega⟩) := by
  unfold colsOf
  pointwise []

theorem pay1_at (X : Vec Ideal S1024x1024 .f32) (G : Vec Ideal S1x1024 .f32) (p k : Fin 1024) : (k0_pay1 X G (ix2 p k) : EReal)
    = X (ix2 p k) * Ideal.rsqrt (Ideal.div (∑ k', X (ix2 p k') * X (ix2 p k')) (Ideal.ofBits FTy.f32 1149239296#32)
        + Ideal.ofBits FTy.f32 897988541#32) * G (ix2 0 k) := by
  pointwise [k0_pay1]
theorem pay2_at (X : Vec Ideal S1024x1024 .f32) (G : Vec Ideal S1x1024 .f32) (p k : Fin 1024) : (k0_pay2 X G (ix2 p k) : EReal)
    = k0_pay1 X G (ix2 p k) := by
  pointwise [k0_pay2]
theorem pay3_at (X : Vec Ideal S1024x1024 .f32) (G : Vec Ideal S1x1024 .f32) (W : Vec Ideal S1024x1024 .bf16) (a : Fin 1) (p k : Fin 1024) :
    (k0_pay3 X G W (ix3 a p k) : EReal) = ∑ z, (W (ix2 p z) : EReal) * k0_pay1 X G (ix2 k z) := by
  pointwise [k0_pay3]
theorem pay4_at (X : Vec Ideal S1024x1024 .bf16) (W : Vec Ideal S1024x1536 .bf16) (p : Fin 1024) (k : Fin 1536) :
    (k0_pay4 X W (ix2 p k) : EReal) = ∑ z, (X (ix2 p z) : EReal) * W (ix2 z k) := by
  pointwise [k0_pay4]
end

variable (m : (ℓ : Loc nD τ sig) → Buf (Elt Ideal) ℓ) (c : Dev nD)

/-- The arguments as launched. -/
abbrev xA : FVec Ideal S4x8192x1024 .f32 := m ((c : Thread nD τ).loc main_arg0)
abbrev gA : FVec Ideal S1024 .f32 := m ((c : Thread nD τ).loc main_arg1)
abbrev wA : FVec Ideal S1024x4104 .f32 := m ((c : Thread nD τ).loc main_arg2)

set_option maxHeartbeats 1600000 in
theorem w_at (k : Fin 1024) (j : Fin 3072) :
    ((V m c main_v11 : Vec Ideal S1024x3072 .bf16) (ix2 k j) : EReal) =
    if h : j.val < 1024 then wA m c (ix2 k ⟨3080 + j.val, by omega⟩)
    else if h : j.val - 1024 < 512 then wA m c (ix2 k ⟨512 + (j.val - 1024), by omega⟩)
    else if h : j.val - 1024 - 512 < 512 then wA m c (ix2 k ⟨1544 + (j.val - 1024 - 512), by omega⟩)
    else if h : j.val - 1024 - 512 - 512 < 512 then
      wA m c (ix2 k ⟨2056 + (j.val - 1024 - 512 - 512), by omega⟩) * Ideal.ofBits FTy.f32 1040187392#32
    else wA m c (ix2 k ⟨2568 + (j.val - 1024 - 512 - 512 - 512), by omega⟩) := by
  show StableHlo.after _ _ _ _ = _
  simp only [hostOps0]
  after_results_simp
  pointwise []
  (try dsimp only [Matrix.cons_val])
  after_results_simp
  pointwise []
set_option maxHeartbeats 1600000 in
theorem wt_at (j k : Fin 1024) :
    ((V m c main_v16 : Vec Ideal S1024x1024 .bf16) (ix2 j k) : EReal) =
    if h : j.val < 512 then wA m c (ix2 k ⟨j.val, by omega⟩) * Ideal.ofBits FTy.f32 1043900987#32
    else wA m c (ix2 k ⟨1024 + (j.val - 512), by omega⟩) := by
  show StableHlo.after _ _ _ _ = _
  simp only [hostOps0]
  after_results_simp
  pointwise []
  (try dsimp only [Matrix.cons_val])
  after_results_simp
  pointwise []

/-- Every window's block at a grid point. -/
theorem idx : ∀ t : Fin cfg0.N,
    win0_0.index t = ![t.val / 2, 0] ∧ win0_1.index t = ![0, 0] ∧ win0_2.index t = ![0, t.val % 2] ∧ win0_3.index t = ![0, 0]
    ∧ win0_4.index t = ![t.val / 2, t.val % 2] ∧ win0_5.index t = ![t.val / 16, 0, t.val / 2 % 8] ∧ t.val < 64 :=
  (by decide +kernel : ∀ t : Fin grid0.N, _)

theorem nlt (t : Fin cfg0.N) : t.val < 64 := (idx t).2.2.2.2.2.2

/-- The row of the input that a tile's row is. -/
def row (t : Fin cfg0.N) (p : Fin 1024) : Fin 32768 := ⟨t.val / 2 * 1024 + p.val, by have := nlt t; omega⟩

theorem iblk0_at (t : Fin cfg0.N) (p k : Fin 1024) :
    (iblk m c 0 t (ix2 p k) : EReal) = xA m c (ix3 ⟨(row t p).val / 8192, by have := (row t p).isLt; omega⟩ ⟨(row t p).val % 8192, by omega⟩ k) := by
  unfold row
  blk_point [iblk, V, idx t]
theorem iblk1_at (t : Fin cfg0.N) (k : Fin 1024) : (iblk m c 1 t (ix2 0 k) : EReal) = gA m c (ix1 k) := by
  blk_point [iblk, V, idx t]
theorem iblk2_at (t : Fin cfg0.N) (k : Fin 1024) (q : Fin 1536) :
    (iblk m c 2 t (ix2 k q) : EReal) = (V m c main_v11 : Vec Ideal S1024x3072 .bf16) (ix2 k ⟨t.val % 2 * 1536 + q.val, by omega⟩) := by
  blk_point [iblk, idx t]
theorem iblk3_at (t : Fin cfg0.N) (j k : Fin 1024) :
    (iblk m c 3 t (ix2 j k) : EReal) = (V m c main_v16 : Vec Ideal S1024x1024 .bf16) (ix2 j k) := by
  blk_point [iblk, idx t]

theorem nrm_at (t : Fin cfg0.N) (p k : Fin 1024) :
    (k0_pay1 (iblk m c 0 t) (iblk m c 1 t) (ix2 p k) : EReal)
      = nrm (xA m c) (gA m c) ⟨(row t p).val / 8192, by have := (row t p).isLt; omega⟩ ⟨(row t p).val % 8192, by omega⟩ k := by
  refine (pay1_at _ _ p k).trans ?_
  unfold nrm
  rw [iblk1_at m c t k, iblk0_at m c t p k]
  simp only [iblk0_at m c t p]

end Cert.ProjIdeal.Rows

end
-- ==== Proof.ProjectFinal.lean ====
module

public import proofs.«01_k».proof.Proof.ProjectValue

@[expose] public section

set_option maxRecDepth 16384

/-! # The even layer's projection: the result arrays -/

noncomputable section

namespace Cert.ProjIdeal.Rows

open Idealize.ShloMosaic Idealize.ShloMosaic.TcCoe Idealize.SL.Sem
open Idealize.ShloMosaic.Pipeline (Dat)
open Cert.ProjIdeal.Gen

theorem eighth_lit : Ideal.ofBits FTy.f32 1040187392#32 = ((1 / 8 : ℝ) : EReal) := by
  simp [Ideal.ofBits, Ideal.ieee]
  norm_num
  rw [← EReal.coe_mul]; norm_num

theorem qscale_lit : ∃ r : ℝ, 0 ≤ r ∧ Ideal.ofBits FTy.f32 1043900987#32 = (r : EReal) := by
  simp [Ideal.ofBits, Ideal.ieee]
  refine ⟨_, ?_, (EReal.coe_mul _ _).symm⟩
  positivity

/-- A literal that is a nonnegative real goes through a sum of products. -/
theorem scale_sum {n : ℕ} (C : EReal) (h0 : 0 ≤ C) (ht : C ≠ ⊤) (f g : Fin n → EReal) :
    ∑ k, f k * (g k * C) = (∑ k, f k * g k) * C := by
  rw [mul_comm (∑ k, f k * g k) C, Cert.Online.mul_sum _ C h0 ht]
  exact Finset.sum_congr rfl fun k _ => by rw [mul_comm C, mul_assoc]

variable (m : (ℓ : Loc nD τ sig) → Buf (Elt Ideal) ℓ) (c : Dev nD)

theorem outU_at (t : Fin cfg0.N) (p : Fin 1024) (q : Fin 1536) :
    (outU m c t (ix2 p q) : EReal) = rowsOf (xA m c) (gA m c) (wA m c) (ix2 (row t p) ⟨t.val % 2 * 1536 + q.val, by omega⟩) := by
  refine (pay4_at _ _ p q).trans (Eq.trans ?_ (rowsOf_at _ _ _ _ _).symm)
  have e : ∀ z, (hid m c t (ix2 p z) : EReal) = nrm (xA m c) (gA m c) ⟨(row t p).val / 8192, by have := (row t p).isLt; omega⟩ ⟨(row t p).val % 8192, by omega⟩ z :=
    fun z => (pay2_at _ _ p z).trans (nrm_at m c t p z)
  refine (Finset.sum_congr rfl fun z _ => congrArg₂ (fun a b : EReal => a * b) (e z) ((iblk2_at m c t z q).trans (w_at m c z _))).trans ?_
  generalize xA m c = x
  generalize gA m c = g
  generalize wA m c = w
  simp only [projOf_at]
  split_ifs
  · rfl
  · rfl
  · rfl
  · exact scale_sum _ (by rw [eighth_lit]; exact_mod_cast (by norm_num : (0:ℝ) ≤ 1 / 8)) (by rw [eighth_lit]; exact EReal.coe_ne_top _) _ _
  · rfl

theorem outT_at (t : Fin cfg0.N) (a : Fin 1) (j k : Fin 1024) :
    (outT m c t (ix3 a j k) : EReal) = colsOf (xA m c) (gA m c) (wA m c)
      (ix3 ⟨(row t k).val / 8192, by have := (row t k).isLt; omega⟩ j ⟨(row t k).val % 8192, by omega⟩) := by
  refine (pay3_at _ _ _ a j k).trans (Eq.trans ?_ (colsOf_at _ _ _ _ _ _).symm)
  refine (Finset.sum_congr rfl fun z _ => (congrArg₂ (fun a b : EReal => a * b) ((iblk3_at m c t j z).trans (wt_at m c j z)) (nrm_at m c t k z)).trans (mul_comm _ _)).trans ?_
  generalize xA m c = x
  generalize gA m c = g
  generalize wA m c = w
  obtain ⟨r, hr, e⟩ := qscale_lit
  simp only [projOf_at]
  split_ifs
  · exact scale_sum _ (by rw [e]; exact_mod_cast hr) (by rw [e]; exact EReal.coe_ne_top _) _ _
  · rfl

theorem rows_final : (dats m 0 c).arrAt 4 cfg0.N = rowsOf (xA m c) (gA m c) (wA m c) := by
  refine (dats m 0 c).arrAt_eq_of_covers 4 _ (by decide +kernel) fun t _ y => ?_
  blk_simp
  rw [after0_4]
  have h0 : (y 0).val < 1024 := (y 0).isLt
  have h1 : (y 1).val < 1536 := (y 1).isLt
  have e : y = ix2 ⟨(y 0).val, h0⟩ ⟨(y 1).val, h1⟩ := by funext i; fin_cases i <;> rfl
  refine (congrArg (outU m c t) e).trans ((outU_at m c t _ _).trans ?_)
  unfold row
  generalize rowsOf (xA m c) (gA m c) (wA m c) = R
  blk_point [idx t]

theorem cols_final : (dats m 0 c).arrAt 5 cfg0.N = colsOf (xA m c) (gA m c) (wA m c) := by
  refine (dats m 0 c).arrAt_eq_of_covers 5 _ (by decide +kernel) fun t _ y => ?_
  blk_simp
  rw [after0_5]
  have h0 : (y 0).val < 1 := (y 0).isLt
  have h1 : (y 1).val < 1024 := (y 1).isLt
  have h2 : (y 2).val < 1024 := (y 2).isLt
  have e : y = ix3 ⟨(y 0).val, h0⟩ ⟨(y 1).val, h1⟩ ⟨(y 2).val, h2⟩ := by funext i; fin_cases i <;> rfl
  refine (congrArg (outT m c t) e).trans ((outT_at m c t _ _ _).trans ?_)
  unfold row
  have hn := nlt t
  generalize colsOf (xA m c) (gA m c) (wA m c) = R
  blk_point [idx t]

end Cert.ProjIdeal.Rows

end
-- ==== Proof.OddRows.lean ====
module

public import proofs.«01_k».proof.Proof.Gen.OddIdeal.Frame
public import proofs.«01_k».proof.Proof.Gen.OddIdeal.Skeleton
public import Idealize.ShloMosaic.Lib.Exec
public import Idealize.ShloMosaic.Lib.Tactic
public import Idealize.ShloMosaic.Lib.WordCmp
public import Idealize.ShloMosaic.Lib.Pipeline.Kit
public import Idealize.ShloMosaic.Lib.VecWindow
public import Idealize.ShloMosaic.Lib.Claim

@[expose] public section

set_option maxRecDepth 16384

/-! # The odd layer's projection: the body of a grid point and the run

At the first column block of a tile of rows the body norms the rows, keeps them in the scratch buffer and writes the transposed
block, the gate logits and the first block of keys; at the second the scratch buffer still holds them, and the position features are
added. -/

noncomputable section

namespace Cert.OddIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OddIdeal.Gen

variable {F : FTy → Type} [FloatOps F]

local notation "𝕄" => MT nD τ sig Unit (Elt F) ℕ (UR sig nD τ) ℕ

/-- The rows' output block at a second column block: the position features are added to two runs of columns. -/
def later (h : Vec F S1024x1024 .bf16) (w : Vec F S1024x1280 .bf16) (p : Vec F S1024x512 .bf16) : Vec F S1024x1280 .bf16 :=
  VecWindow.put (s := S1024x1280) (VecWindow.put (s := S1024x1280) (k0_pay6 h w) ![0, 256] S1024x512.size (k0_pay8 h w p)) ![0, 768] S1024x512.size (k0_pay9 h w p)

section
variable (𝒱 : Variants) (c : Dev nD) (bd : Option 𝒱.V) (E : Set ℕ) (i : grid0.Coords) (arg2 : Memref sig .tc .vmem S1024x1024 .f32) (harg2 : arg2.IsWhole) (arg3 : Memref sig .tc .vmem S1x1024 .f32) (harg3 : arg3.IsWhole) (arg4 : Memref sig .tc .vmem S1024x1280 .bf16) (harg4 : arg4.IsWhole) (arg5 : Memref sig .tc .vmem S1024x512 .bf16) (harg5 : arg5.IsWhole) (arg6 : Memref sig .tc .vmem S1536x1024 .bf16) (harg6 : arg6.IsWhole) (arg7 : Memref sig .tc .vmem S64x1024 .bf16) (harg7 : arg7.IsWhole) (arg8 : Memref sig .tc .vmem S1024x1280 .bf16) (harg8 : arg8.IsWhole) (arg9 : Memref sig .tc .vmem S1024x256 .bf16) (harg9 : arg9.IsWhole) (arg10 : Memref sig .tc .vmem S1024x256 .bf16) (harg10 : arg10.IsWhole) (arg11 : Memref sig .tc .vmem S1x1536x1024 .bf16) (harg11 : arg11.IsWhole) (arg12 : Memref sig .tc .vmem S1x64x1024 .f32) (harg12 : arg12.IsWhole) (arg13 : Memref sig .tc .vmem S1024x1024 .bf16) (harg13 : arg13.IsWhole)
  (x2 : Vec F S1024x1024 .f32) (x3 : Vec F S1x1024 .f32) (x4 : Vec F S1024x1280 .bf16) (x5 : Vec F S1024x512 .bf16) (x6 : Vec F S1536x1024 .bf16) (x7 : Vec F S64x1024 .bf16)

theorem body_first (h : k0_cond1 i = 1#1) (h2 : k0_cond2 i = 1#1) (h3 : ¬ k0_cond3 i = 1#1) (y10 : Vec F S1024x256 .bf16) :
    ∀ (K : PUnit → sProp 𝕄),
      iprop(owns (c : Thread nD τ) arg2 fullShare (x2)
          ∗ owns (c : Thread nD τ) arg3 fullShare (x3)
          ∗ owns (c : Thread nD τ) arg4 fullShare (x4)
          ∗ owns (c : Thread nD τ) arg5 fullShare (x5)
          ∗ owns (c : Thread nD τ) arg6 fullShare (x6)
          ∗ owns (c : Thread nD τ) arg7 fullShare (x7)
          ∗ (∃ d, owns (c : Thread nD τ) arg8 fullShare d)
          ∗ (∃ d, owns (c : Thread nD τ) arg9 fullShare d)
          ∗ owns (c : Thread nD τ) arg10 fullShare (y10)
          ∗ (∃ d, owns (c : Thread nD τ) arg11 fullShare d)
          ∗ (∃ d, owns (c : Thread nD τ) arg12 fullShare d)
          ∗ (∃ d, owns (c : Thread nD τ) arg13 fullShare d)
          ∗ (iprop(owns (c : Thread nD τ) arg2 fullShare (x2)
          ∗ owns (c : Thread nD τ) arg3 fullShare (x3)
          ∗ owns (c : Thread nD τ) arg4 fullShare (x4)
          ∗ owns (c : Thread nD τ) arg5 fullShare (x5)
          ∗ owns (c : Thread nD τ) arg6 fullShare (x6)
          ∗ owns (c : Thread nD τ) arg7 fullShare (x7)
          ∗ owns (c : Thread nD τ) arg8 fullShare (k0_pay6 (k0_pay2 x2 x3) x4)
          ∗ owns (c : Thread nD τ) arg9 fullShare (k0_pay7 (k0_pay2 x2 x3) x4)
          ∗ owns (c : Thread nD τ) arg10 fullShare (y10)
          ∗ owns (c : Thread nD τ) arg11 fullShare (k0_pay3 x2 x3 x6)
          ∗ owns (c : Thread nD τ) arg12 fullShare (k0_pay4 x2 x3 x7)
          ∗ owns (c : Thread nD τ) arg13 fullShare (k0_pay2 x2 x3)) -∗ K ⟨⟩))
        ⊢ wp frame (wpE (defs₀ (F := F)) 𝒱 (c : Thread nD τ) bd) E (cc0_proj i arg2 harg2 arg3 harg3 arg4 harg4 arg5 harg5 arg6 harg6 arg7 harg7 arg8 harg8 arg9 harg9 arg10 harg10 arg11 harg11 arg12 harg12 arg13 harg13) K := by
  intro K
  simp only [cc0_proj_eq_skeleton]; unfold cc0_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%d11, %f11, -, H11⟩, ⟨%d12, %f12, -, H12⟩, ⟨%d13, %f13, -, H13⟩, Hk⟩
  sl_exec
  have E13 : View.read (Elt F) arg13.view (arg13.view.writes (Elt F) f13 (body_first.sl.H13_1 c arg2 arg3 f2 f3)) = k0_pay2 x2 x3 := by
    delta body_first.sl.H13_1
    rw [View.read_writes_full, View.readAt_full, View.readAt_full, hf2, hf3]
  have Ev : body_first.sl.v3 c arg2 arg3 arg13 f2 f3 = k0_pay2 x2 x3 := by
    delta body_first.sl.v3 body_first.sl.H13_1
    rw [View.readCov_full, View.readAt_full, View.readAt_full, hf2, hf3]
  sl_step
  iapply Hk
  isplitl [H2]; · (iexists f2; isplitr; · (ipureintro; exact hf2)); iexact H2
  isplitl [H3]; · (iexists f3; isplitr; · (ipureintro; exact hf3)); iexact H3
  isplitl [H4]; · (iexists f4; isplitr; · (ipureintro; exact hf4)); iexact H4
  isplitl [H5]; · (iexists f5; isplitr; · (ipureintro; exact hf5)); iexact H5
  isplitl [H6]; · (iexists f6; isplitr; · (ipureintro; exact hf6)); iexact H6
  isplitl [H7]; · (iexists f7; isplitr; · (ipureintro; exact hf7)); iexact H7
  isplitl [H8]
  · iexists _
    isplitr; swap
    · iexact H8
    ipureintro
    rw [View.read_writes_full, Ev, View.readAt_full, hf4]
  isplitl [H9]
  · iexists _
    isplitr; swap
    · iexact H9
    ipureintro
    rw [View.read_writes_full, Ev, View.readAt_full, hf4]
  isplitl [H10]; · (iexists f10; isplitr; · (ipureintro; exact hf10)); iexact H10
  isplitl [H11]
  · iexists _
    isplitr; swap
    · iexact H11
    ipureintro
    rw [View.read_writes_full, View.readAt_full, View.readAt_full, View.readAt_full, hf2, hf3, hf6]
  isplitl [H12]
  · iexists _
    isplitr; swap
    · iexact H12
    ipureintro
    rw [View.read_writes_full, View.readAt_full, View.readAt_full, View.readAt_full, hf2, hf3, hf7]
  iexists _
  isplitr; swap
  · iexact H13
  ipureintro
  exact E13

theorem body_second (h : ¬ k0_cond1 i = 1#1) (h2 : ¬ k0_cond2 i = 1#1) (h3 : k0_cond3 i = 1#1) (y9 : Vec F S1024x256 .bf16) (y11 : Vec F S1x1536x1024 .bf16) (y12 : Vec F S1x64x1024 .f32) (y13 : Vec F S1024x1024 .bf16) :
    ∀ (K : PUnit → sProp 𝕄),
      iprop(owns (c : Thread nD τ) arg2 fullShare (x2)
          ∗ owns (c : Thread nD τ) arg3 fullShare (x3)
          ∗ owns (c : Thread nD τ) arg4 fullShare (x4)
          ∗ owns (c : Thread nD τ) arg5 fullShare (x5)
          ∗ owns (c : Thread nD τ) arg6 fullShare (x6)
          ∗ owns (c : Thread nD τ) arg7 fullShare (x7)
          ∗ (∃ d, owns (c : Thread nD τ) arg8 fullShare d)
          ∗ owns (c : Thread nD τ) arg9 fullShare (y9)
          ∗ (∃ d, owns (c : Thread nD τ) arg10 fullShare d)
          ∗ owns (c : Thread nD τ) arg11 fullShare (y11)
          ∗ owns (c : Thread nD τ) arg12 fullShare (y12)
          ∗ owns (c : Thread nD τ) arg13 fullShare (y13)
          ∗ (iprop(owns (c : Thread nD τ) arg2 fullShare (x2)
          ∗ owns (c : Thread nD τ) arg3 fullShare (x3)
          ∗ owns (c : Thread nD τ) arg4 fullShare (x4)
          ∗ owns (c : Thread nD τ) arg5 fullShare (x5)
          ∗ owns (c : Thread nD τ) arg6 fullShare (x6)
          ∗ owns (c : Thread nD τ) arg7 fullShare (x7)
          ∗ owns (c : Thread nD τ) arg8 fullShare (later y13 x4 x5)
          ∗ owns (c : Thread nD τ) arg9 fullShare (y9)
          ∗ owns (c : Thread nD τ) arg10 fullShare (k0_pay10 y13 x4)
          ∗ owns (c : Thread nD τ) arg11 fullShare (y11)
          ∗ owns (c : Thread nD τ) arg12 fullShare (y12)
          ∗ owns (c : Thread nD τ) arg13 fullShare (y13)) -∗ K ⟨⟩))
        ⊢ wp frame (wpE (defs₀ (F := F)) 𝒱 (c : Thread nD τ) bd) E (cc0_proj i arg2 harg2 arg3 harg3 arg4 harg4 arg5 harg5 arg6 harg6 arg7 harg7 arg8 harg8 arg9 harg9 arg10 harg10 arg11 harg11 arg12 harg12 arg13 harg13) K := by
  intro K
  simp only [cc0_proj_eq_skeleton]; unfold cc0_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%f11, %hf11, H11⟩, ⟨%f12, %hf12, H12⟩, ⟨%f13, %hf13, H13⟩, Hk⟩
  sl_exec
  sl_step
  iapply Hk
  isplitl [H2]; · (iexists f2; isplitr; · (ipureintro; exact hf2)); iexact H2
  isplitl [H3]; · (iexists f3; isplitr; · (ipureintro; exact hf3)); iexact H3
  isplitl [H4]; · (iexists f4; isplitr; · (ipureintro; exact hf4)); iexact H4
  isplitl [H5]; · (iexists f5; isplitr; · (ipureintro; exact hf5)); iexact H5
  isplitl [H6]; · (iexists f6; isplitr; · (ipureintro; exact hf6)); iexact H6
  isplitl [H7]; · (iexists f7; isplitr; · (ipureintro; exact hf7)); iexact H7
  isplitl [H8]
  · iexists _
    isplitr; swap
    · iexact H8
    ipureintro
    rw [View.read_writes_cons_put _ _ _ _ _ rfl, View.read_writes_cons_put _ _ _ _ _ rfl, View.read_writes_full]
    rw [View.readAt_full, View.readAt_full, View.readAt_full, hf4, hf5, hf13]
    rfl
  isplitl [H9]; · (iexists f9; isplitr; · (ipureintro; exact hf9)); iexact H9
  isplitl [H10]
  · iexists _
    isplitr; swap
    · iexact H10
    ipureintro
    rw [View.read_writes_full, View.readAt_full, View.readAt_full, hf4, hf13]
  isplitl [H11]; · (iexists f11; isplitr; · (ipureintro; exact hf11)); iexact H11
  isplitl [H12]; · (iexists f12; isplitr; · (ipureintro; exact hf12)); iexact H12
  iexists f13
  isplitr; · (ipureintro; exact hf13)
  iexact H13

end

variable (m : (ℓ : Loc nD τ sig) → Buf (Elt F) ℓ) (ρ : Dev nD → PrngReg)

/-- The first point of a tile. -/
abbrev fst (t : Fin cfg0.N) : Fin cfg0.N := ⟨t.val - t.val % 2, Nat.lt_of_le_of_lt (Nat.sub_le _ _) t.isLt⟩

/-- The normed rows of a grid point's tile. -/
def hid (c : Dev nD) (t : Fin cfg0.N) : Vec F S1024x1024 .bf16 := k0_pay2 (iblk m c 0 t) (iblk m c 1 t)
/-- The rows' output block at a grid point. -/
def outU (c : Dev nD) (t : Fin cfg0.N) : Vec F S1024x1280 .bf16 :=
  if t.val % 2 = 0 then k0_pay6 (hid m c t) (iblk m c 2 t) else later (hid m c t) (iblk m c 2 t) (iblk m c 3 t)
/-- The compressed keys' block of a tile, written at its first point. -/
def outK (c : Dev nD) (t : Fin cfg0.N) : Vec F S1024x256 .bf16 := k0_pay7 (hid m c t) (iblk m c 2 (fst t))
/-- The compressed values' block of a tile, written at its second point. -/
def outV (c : Dev nD) (t : Fin cfg0.N) : Vec F S1024x256 .bf16 := k0_pay10 (hid m c t) (iblk m c 2 t)
/-- The transposed output block at a grid point. -/
def outT (c : Dev nD) (t : Fin cfg0.N) : Vec F S1x1536x1024 .bf16 := k0_pay3 (iblk m c 0 t) (iblk m c 1 t) (iblk m c 4 t)
/-- The gate logits' block at a grid point. -/
def outG (c : Dev nD) (t : Fin cfg0.N) : Vec F S1x64x1024 .f32 := k0_pay4 (iblk m c 0 t) (iblk m c 1 t) (iblk m c 5 t)

/-- The proof data of the one pipeline on core `c`: after the first point of a tile the scratch buffer holds the tile's
    normed rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outU m c t
    | ⟨7, _⟩ => outK m c t
    | ⟨8, _⟩ => outV m c t
    | ⟨9, _⟩ => outT m c t
    | ⟨10, _⟩ => outG m c t
  Φ s := iprop((∃ d, ⌜∀ t : Fin cfg0.N, t.val + 1 = s.val → t.val % 2 = 0 → d = hid m c t⌝
      ∗ owns (c : Thread nD τ) (Memref.whole cc0_scratch0) fullShare d) ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outU m c t := by dsimp only [dats]
theorem after0_7 (c : Dev nD) (t : Fin cfg0.N) : (dats m 0 c).after 7 t = outK m c t := by dsimp only [dats]
theorem after0_8 (c : Dev nD) (t : Fin cfg0.N) : (dats m 0 c).after 8 t = outV m c t := by dsimp only [dats]
theorem after0_9 (c : Dev nD) (t : Fin cfg0.N) : (dats m 0 c).after 9 t = outT m c t := by dsimp only [dats]
theorem after0_10 (c : Dev nD) (t : Fin cfg0.N) : (dats m 0 c).after 10 t = outG m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The first column block of a tile is at the even points, the second at the odd ones. -/
theorem first_iff : ∀ t : Fin cfg0.N, k0_cond1 (grid0.coords t) = 1#1 ↔ t.val % 2 = 0 :=
  (by decide +kernel : ∀ t : Fin grid0.N, k0_cond1 (grid0.coords t) = 1#1 ↔ t.val % 2 = 0)
theorem keys_iff : ∀ t : Fin cfg0.N, k0_cond2 (grid0.coords t) = 1#1 ↔ t.val % 2 = 0 :=
  (by decide +kernel : ∀ t : Fin grid0.N, k0_cond2 (grid0.coords t) = 1#1 ↔ t.val % 2 = 0)
theorem second_iff : ∀ t : Fin cfg0.N, k0_cond3 (grid0.coords t) = 1#1 ↔ t.val % 2 = 1 :=
  (by decide +kernel : ∀ t : Fin grid0.N, k0_cond3 (grid0.coords t) = 1#1 ↔ t.val % 2 = 1)

theorem idle7 (t : Fin cfg0.N) : cfg0.idle 7 (cfg0.grid.coords t) = !(t.val % 2 == 0) := by
  show (!(k0_cond2 (grid0.coords t) == 1#1)) = _
  by_cases h : t.val % 2 = 0
  · rw [(keys_iff t).mpr h, h]; rfl
  · rw [beq_eq_false_iff_ne.mpr (fun e => h ((keys_iff t).mp e)), beq_eq_false_iff_ne.mpr h]
theorem idle8 (t : Fin cfg0.N) : cfg0.idle 8 (cfg0.grid.coords t) = !(t.val % 2 == 1) := by
  show (!(k0_cond3 (grid0.coords t) == 1#1)) = _
  by_cases h : t.val % 2 = 1
  · rw [(second_iff t).mpr h, h]; rfl
  · rw [beq_eq_false_iff_ne.mpr (fun e => h ((second_iff t).mp e)), beq_eq_false_iff_ne.mpr h]
theorem idle9 (t : Fin cfg0.N) : cfg0.idle 9 (cfg0.grid.coords t) = !(t.val % 2 == 0) := by
  show (!(k0_cond1 (grid0.coords t) == 1#1)) = _
  by_cases h : t.val % 2 = 0
  · rw [(first_iff t).mpr h, h]; rfl
  · rw [beq_eq_false_iff_ne.mpr (fun e => h ((first_iff t).mp e)), beq_eq_false_iff_ne.mpr h]
theorem idle10 (t : Fin cfg0.N) : cfg0.idle 10 (cfg0.grid.coords t) = !(t.val % 2 == 0) := by
  show (!(k0_cond1 (grid0.coords t) == 1#1)) = _
  by_cases h : t.val % 2 = 0
  · rw [(first_iff t).mpr h, h]; rfl
  · rw [beq_eq_false_iff_ne.mpr (fun e => h ((first_iff t).mp e)), beq_eq_false_iff_ne.mpr h]

/-- The point before. -/
abbrev prev (t : Fin cfg0.N) : Fin cfg0.N := ⟨t.val - 1, Nat.lt_of_le_of_lt (Nat.sub_le _ _) t.isLt⟩

/-- At the second point of a tile the blocks that do not move with the column block are the first point's. -/
theorem same0 (c : Dev nD) (t : Fin cfg0.N) (h : t.val % 2 = 1) : iblk m c 0 t = iblk m c 0 (prev t) := by
  have hf : (cfg0.win 0).fetch t = false := Bool.eq_false_iff.mpr fun e => by have := (fetch0_0 t).mp e; omega
  have e := before0_0 m c t (iblk m c 0 t)
  rw [(dats m 0 c).before_of_pos 0 t (by omega) hf, Pipeline.Window.flush_in _ rfl] at e
  exact e.symm.trans (after0_0 m c (prev t))
theorem same1 (c : Dev nD) (t : Fin cfg0.N) (h : t.val % 2 = 1) : iblk m c 1 t = iblk m c 1 (prev t) := by
  have hf : (cfg0.win 1).fetch t = false := Bool.eq_false_iff.mpr fun e => by have := (fetch0_1 t).mp e; omega
  have e := before0_1 m c t (iblk m c 1 t)
  rw [(dats m 0 c).before_of_pos 1 t (by omega) hf, Pipeline.Window.flush_in _ rfl] at e
  exact e.symm.trans (after0_1 m c (prev t))
theorem same4 (c : Dev nD) (t : Fin cfg0.N) (h : t.val % 2 = 1) : iblk m c 4 t = iblk m c 4 (prev t) := by
  have hf : (cfg0.win 4).fetch t = false := Bool.eq_false_iff.mpr fun e => by have := (fetch0_4 t).mp e; omega
  have e := before0_4 m c t (iblk m c 4 t)
  rw [(dats m 0 c).before_of_pos 4 t (by omega) hf, Pipeline.Window.flush_in _ rfl] at e
  exact e.symm.trans (after0_4 m c (prev t))
theorem same5 (c : Dev nD) (t : Fin cfg0.N) (h : t.val % 2 = 1) : iblk m c 5 t = iblk m c 5 (prev t) := by
  have hf : (cfg0.win 5).fetch t = false := Bool.eq_false_iff.mpr fun e => by have := (fetch0_5 t).mp e; omega
  have e := before0_5 m c t (iblk m c 5 t)
  rw [(dats m 0 c).before_of_pos 5 t (by omega) hf, Pipeline.Window.flush_in _ rfl] at e
  exact e.symm.trans (after0_5 m c (prev t))

theorem hid_prev (c : Dev nD) (t : Fin cfg0.N) (h : t.val % 2 = 1) : hid m c (prev t) = hid m c t := by
  unfold hid; rw [same0 m c t h, same1 m c t h]

theorem fst_prev (t : Fin cfg0.N) (h : t.val % 2 = 1) : fst (prev t) = fst t :=
  Fin.ext (by show t.val - 1 - (t.val - 1) % 2 = t.val - t.val % 2; omega)

theorem fst_even (t : Fin cfg0.N) (h : t.val % 2 = 0) : fst t = t :=
  Fin.ext (by show t.val - t.val % 2 = t.val; omega)

/-- At the second point of a tile the blocks only the first point writes are the ones it wrote. -/
theorem before0_7 (c : Dev nD) (t : Fin cfg0.N) (h : t.val % 2 = 1) (d) : (dats m 0 c).before 7 t d = outK m c t := by
  have hfl : (cfg0.win 7).flush (prev t) = false := Bool.eq_false_iff.mpr fun e => by
    have := (flush0_7 (prev t)).mp e; have h2 : (prev t).val = t.val - 1 := rfl; omega
  rw [(dats m 0 c).before_of_pos 7 t (by omega) (Pipeline.Window.fetch_out _ rfl _)]
  rw [show (cfg0.win 7).flush ⟨t.val - 1, Nat.lt_of_le_of_lt (Nat.sub_le _ _) t.isLt⟩ = false from hfl]
  unfold Dat.left
  rw [idle7, show ((prev t).val % 2 == 0) = true from by
    have h2 : (prev t).val = t.val - 1 := rfl
    rw [h2]; exact beq_iff_eq.mpr (by omega)]
  refine (after0_7 m c (prev t)).trans ?_
  unfold outK; rw [hid_prev m c t h, fst_prev t h]
theorem before0_9 (c : Dev nD) (t : Fin cfg0.N) (h : t.val % 2 = 1) (d) : (dats m 0 c).before 9 t d = outT m c t := by
  have hfl : (cfg0.win 9).flush (prev t) = false := Bool.eq_false_iff.mpr fun e => by
    have := (flush0_9 (prev t)).mp e; have h2 : (prev t).val = t.val - 1 := rfl; omega
  rw [(dats m 0 c).before_of_pos 9 t (by omega) (Pipeline.Window.fetch_out _ rfl _)]
  rw [show (cfg0.win 9).flush ⟨t.val - 1, Nat.lt_of_le_of_lt (Nat.sub_le _ _) t.isLt⟩ = false from hfl]
  unfold Dat.left
  rw [idle9, show ((prev t).val % 2 == 0) = true from by
    have h2 : (prev t).val = t.val - 1 := rfl
    rw [h2]; exact beq_iff_eq.mpr (by omega)]
  refine (after0_9 m c (prev t)).trans ?_
  unfold outT; rw [same0 m c t h, same1 m c t h, same4 m c t h]
theorem before0_10 (c : Dev nD) (t : Fin cfg0.N) (h : t.val % 2 = 1) (d) : (dats m 0 c).before 10 t d = outG m c t := by
  have hfl : (cfg0.win 10).flush (prev t) = false := Bool.eq_false_iff.mpr fun e => by
    have := (flush0_10 (prev t)).mp e; have h2 : (prev t).val = t.val - 1 := rfl; omega
  rw [(dats m 0 c).before_of_pos 10 t (by omega) (Pipeline.Window.fetch_out _ rfl _)]
  rw [show (cfg0.win 10).flush ⟨t.val - 1, Nat.lt_of_le_of_lt (Nat.sub_le _ _) t.isLt⟩ = false from hfl]
  unfold Dat.left
  rw [idle10, show ((prev t).val % 2 == 0) = true from by
    have h2 : (prev t).val = t.val - 1 := rfl
    rw [h2]; exact beq_iff_eq.mpr (by omega)]
  refine (after0_10 m c (prev t)).trans ?_
  unfold outG; rw [same0 m c t h, same1 m c t h, same5 m c t h]

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- what it returns at a first point, -/
def bodyPostEven (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare ((dats m 0 c).before 8 t d))
    ∗ owns (c : Thread nD τ) (st0_9 t) fullShare ((dats m 0 c).after 9 t)
    ∗ owns (c : Thread nD τ) (st0_10 t) fullShare ((dats m 0 c).after 10 t))

/-- and at a second one. -/
def bodyPostOdd (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem PhiA0_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

theorem Phi_eq (c : Dev nD) (s) : (dats m 0 c).Φ s = iprop((∃ d, ⌜∀ t : Fin cfg0.N, t.val + 1 = s.val → t.val % 2 = 0 → d = hid m c t⌝
      ∗ owns (c : Thread nD τ) (Memref.whole cc0_scratch0) fullShare d) ∗ (∃ r, prngReg c r)) := by
  dsimp only [dats]

theorem sound_even (c : Dev nD) (t : Fin cfg0.N) (hc : t.val % 2 = 0) :
    bodyPre m c t ⊢ wp frame (wpE (defs₀ (F := F)) Variants.none c none) Set.univ (bodyAt0 t) (fun _ => bodyPostEven m c t) := by
  unfold bodyPre bodyPostEven bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_9, after0_10, Phi_eq, Phi_eq]
  have eU : outU m c t = k0_pay6 (hid m c t) (iblk m c 2 t) := if_pos hc
  have eK : outK m c t = k0_pay7 (hid m c t) (iblk m c 2 t) := by unfold outK; rw [fst_even t hc]
  rw [eU, eK]
  iintro ⟨⟨⟨%s, -, S0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_first Variants.none c none Set.univ (grid0.coords t) _ _ _ _ _ _ _ _ _ _ _ _ _ _ _ _ _ _ _ _ _ _ _ _
    (iblk m c 0 t) (iblk m c 1 t) (iblk m c 2 t) (iblk m c 3 t) (iblk m c 4 t) (iblk m c 5 t) ((first_iff t).mpr hc) ((keys_iff t).mpr hc) (fun e => by have := (second_iff t).mp e; omega) ((dats m 0 c).before 8 t d8) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexists _; iexact H9
  isplitl [H10]; · iexists _; iexact H10
  isplitl [S0]; · iexists _; iexact S0
  iintro ⟨H0, H1, H2, H3, H4, H5, H6, H7, H8, H9, H10, S0⟩
  isplitl [S0 Hg]
  · isplitl [S0]
    · iexists _
      isplitr; swap
      · iexact S0
      ipureintro
      intro t' h' _
      have e : t' = t := Fin.ext (by have h3 : t.succ.val = t.val + 1 := rfl; omega)
      rw [e]; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  isplitl [H9]; · iexact H9
  iexact H10

theorem sound_odd (c : Dev nD) (t : Fin cfg0.N) (h1 : t.val % 2 = 1) :
    bodyPre m c t ⊢ wp frame (wpE (defs₀ (F := F)) Variants.none c none) Set.univ (bodyAt0 t) (fun _ => bodyPostOdd m c t) := by
  unfold bodyPre bodyPostOdd bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8, after0_9, after0_10, Phi_eq, Phi_eq]
  have eU : outU m c t = later (hid m c t) (iblk m c 2 t) (iblk m c 3 t) := if_neg (by omega)
  rw [eU]
  simp only [before0_7 m c t h1, before0_9 m c t h1, before0_10 m c t h1]
  iintro ⟨⟨⟨%s, %hs, S0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have es : s = hid m c t := (hs (prev t) (by
      have h2 : (prev t).val = t.val - 1 := rfl
      have h3 : t.castSucc.val = t.val := rfl
      omega) (by have h2 : (prev t).val = t.val - 1 := rfl
                 omega)).trans (hid_prev m c t h1)
  subst es
  iapply (body_second Variants.none c none Set.univ (grid0.coords t) _ _ _ _ _ _ _ _ _ _ _ _ _ _ _ _ _ _ _ _ _ _ _ _
    (iblk m c 0 t) (iblk m c 1 t) (iblk m c 2 t) (iblk m c 3 t) (iblk m c 4 t) (iblk m c 5 t) (fun e => by have := (first_iff t).mp e; omega) (fun e => by have := (keys_iff t).mp e; omega) ((second_iff t).mpr h1)
    (outK m c t) (outT m c t) (outG m c t) (hid m c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexact H9
  isplitl [H10]; · iexact H10
  isplitl [S0]; · iexact S0
  iintro ⟨H0, H1, H2, H3, H4, H5, H6, H7, H8, H9, H10, S0⟩
  isplitl [S0 Hg]
  · isplitl [S0]
    · iexists _
      isplitr; swap
      · iexact S0
      ipureintro
      intro t' h' h2
      exact absurd h2 (by have h3 : t.succ.val = t.val + 1 := rfl; omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases h : t.val % 2 = 0
  · have f8 : (cfg0.win 8).flush t = false := Bool.eq_false_iff.mpr fun e => by have := (flush0_8 t).mp e; omega
    have e0 : (!(t.val % 2 == 0)) = false := by rw [h]; rfl
    have e1 : (!(t.val % 2 == 1)) = true := by rw [h]; rfl
    have i7 := (idle7 t).trans e0
    have i8 := (idle8 t).trans e1
    have i9 := (idle9 t).trans e0
    rw [i7, i8, i9, f8]
    exact triple_restated (sound_even m c t h) rfl .rfl fun _ => .rfl
  · have h1 : t.val % 2 = 1 := by omega
    have e0 : (!(t.val % 2 == 0)) = true := by rw [h1]; rfl
    have e1 : (!(t.val % 2 == 1)) = false := by rw [h1]; rfl
    have i7 := (idle7 t).trans e0
    have i8 := (idle8 t).trans e1
    have i9 := (idle9 t).trans e0
    rw [i7, i8, i9, (flush0_7 t).mpr h1, (flush0_9 t).mpr h1, (flush0_10 t).mpr h1]
    exact triple_restated (sound_odd m c t h1) rfl .rfl fun _ => .rfl

set_option backward.isDefEq.respectTransparency.types false in
/-- The launch: every window's array ends at what the proof data states, and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [Phi_eq, PhiA0_eq]
      iintro ⟨⟨%d, S⟩, Hg⟩
      isplitl [S]
      · iexists d
        isplitr; swap
        · iexact S
        ipureintro
        intro t h _
        exact absurd h (Nat.succ_ne_zero _)
      iexact Hg)
    (hout := fun c => by
      rw [Phi_eq, PhiA0_eq]
      iintro ⟨⟨%d, -, S⟩, Hg⟩
      isplitl [S]; · iexists d; iexact S
      iexact Hg)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.OddIdeal.Rows

end
-- ==== Proof.OddValue.lean ====
module

public import proofs.«01_k».proof.Proof.OddRows
public import proofs.«01_k».proof.Proof.Online
public import proofs.«01_k».proof.Proof.Gen.OddRefIdeal.Run
public import Idealize.ShloMosaic.Lib.Pointwise
public import Idealize.ShloMosaic.Lib.Pipeline.ValueKit

@[expose] public section

set_option maxRecDepth 16384

/-! # The odd layer's projection: the reference's results and the kernel's blocks, element by element -/

noncomputable section

namespace Cert.OddIdeal.Rows

open Idealize.ShloMosaic Idealize.ShloMosaic.TcCoe Idealize.SL.Sem
open Idealize.ShloMosaic.Pipeline (Dat)
open Cert.OddIdeal.Gen

/-- The reference's projection over its arguments, -/
def projOf (x : FVec Ideal S4x8192x1024 .f32) (g : FVec Ideal S1024 .f32) (w : FVec Ideal S1024x3632 .f32) :
    FVec Ideal Cert.OddRefIdeal.S4x8192x3632 .f32 :=
  Host.dotGeneral Cert.OddRefIdeal.dot_S4x8192x1024_S1024x3632_S4x8192x3632_2_0_01_1_n_n none (mulf (mulf x (broadcastInDim Cert.OddRefIdeal.S4x8192x1024 ![0, 1, 2] Cert.OddRefIdeal.Gen.bcast_S4x8192x1_S4x8192x1024_0_1_2 (Host.rsqrt (addf (Host.divf (broadcastInDim Cert.OddRefIdeal.S4x8192x1 ![0, 1] Cert.OddRefIdeal.Gen.bcast_S4x8192_S4x8192x1_0_1 (Host.reduceAdd (mulf x x) (constant Cert.OddRefIdeal.S_ .f32 0x00000000#32) Cert.OddRefIdeal.Gen.reducesTo_S4x8192x1024_S4x8192_d2 Cert.OddRefIdeal.Gen.h_S_)) (broadcastInDim Cert.OddRefIdeal.S4x8192x1 ![] Cert.OddRefIdeal.Gen.bcast_S_S4x8192x1 (constant Cert.OddRefIdeal.S_ .f32 0x44800000#32))) (broadcastInDim Cert.OddRefIdeal.S4x8192x1 ![] Cert.OddRefIdeal.Gen.bcast_S_S4x8192x1 (constant Cert.OddRefIdeal.S_ .f32 0x358637BD#32)))))) (broadcastInDim Cert.OddRefIdeal.S4x8192x1024 ![0, 1, 2] Cert.OddRefIdeal.Gen.bcast_S1x1x1024_S4x8192x1024_0_1_2 (broadcastInDim Cert.OddRefIdeal.S1x1x1024 ![2] Cert.OddRefIdeal.Gen.bcast_S1024_S1x1x1024_2 g))) w

/-- four groups of columns, each filled up with zeros, -/
def wideOf (k : FVec Ideal Cert.OddRefIdeal.S4x8192x256 .f32) : FVec Ideal Cert.OddRefIdeal.S4x8192x512 .f32 :=
  shapeCast Cert.OddRefIdeal.S4x8192x512 (pad Cert.OddRefIdeal.S4x8192x4x128 ![0, 0, 0, 0] ![0, 0, 0, 64] ![0, 0, 0, 0] (shapeCast Cert.OddRefIdeal.S4x8192x4x64 k Cert.OddRefIdeal.Gen.shapeCasts_S4x8192x256_S4x8192x4x64) (sitofp .f32 (constantI Cert.OddRefIdeal.S_ 32 0#32)) Cert.OddRefIdeal.Gen.pads_S4x8192x4x64_S4x8192x4x128_000_000_000_0640 Cert.OddRefIdeal.Gen.h_S_) Cert.OddRefIdeal.Gen.shapeCasts_S4x8192x4x128_S4x8192x512

/-- with the position features added, -/
def featOf (k : FVec Ideal Cert.OddRefIdeal.S4x8192x512 .f32) (p : FVec Ideal S8192x512 .bf16) : FVec Ideal Cert.OddRefIdeal.S4x8192x512 .f32 :=
  addf k (broadcastInDim Cert.OddRefIdeal.S4x8192x512 ![0, 1, 2] Cert.OddRefIdeal.Gen.bcast_S1x8192x512_S4x8192x512_0_1_2 (broadcastInDim Cert.OddRefIdeal.S1x8192x512 ![1, 2] Cert.OddRefIdeal.Gen.bcast_S8192x512_S1x8192x512_1_2 (extf .f32 p Cert.OddRefIdeal.Gen.bitsLt_bf16_f32)))

/-- runs of its columns, -/
def partOf2608 (x : FVec Ideal S4x8192x1024 .f32) (g : FVec Ideal S1024 .f32) (w : FVec Ideal S1024x3632 .f32) : FVec Ideal Cert.OddRefIdeal.S4x8192x1024 .f32 :=
  extractStridedSlice Cert.OddRefIdeal.S4x8192x1024 ![0, 0, 2608] (projOf x g w) Cert.OddRefIdeal.Gen.slices_S4x8192x3632_S4x8192x1024_0_0_2608

def partOf1024 (x : FVec Ideal S4x8192x1024 .f32) (g : FVec Ideal S1024 .f32) (w : FVec Ideal S1024x3632 .f32) : FVec Ideal Cert.OddRefIdeal.S4x8192x256 .f32 :=
  extractStridedSlice Cert.OddRefIdeal.S4x8192x256 ![0, 0, 1024] (projOf x g w) Cert.OddRefIdeal.Gen.slices_S4x8192x3632_S4x8192x256_0_0_1024

def partOf1280 (x : FVec Ideal S4x8192x1024 .f32) (g : FVec Ideal S1024 .f32) (w : FVec Ideal S1024x3632 .f32) : FVec Ideal Cert.OddRefIdeal.S4x8192x256 .f32 :=
  extractStridedSlice Cert.OddRefIdeal.S4x8192x256 ![0, 0, 1280] (projOf x g w) Cert.OddRefIdeal.Gen.slices_S4x8192x3632_S4x8192x256_0_0_1280

def partOf1536 (x : FVec Ideal S4x8192x1024 .f32) (g : FVec Ideal S1024 .f32) (w : FVec Ideal S1024x3632 .f32) : FVec Ideal Cert.OddRefIdeal.S4x8192x256 .f32 :=
  extractStridedSlice Cert.OddRefIdeal.S4x8192x256 ![0, 0, 1536] (projOf x g w) Cert.OddRefIdeal.Gen.slices_S4x8192x3632_S4x8192x256_0_0_1536

def partOf2048 (x : FVec Ideal S4x8192x1024 .f32) (g : FVec Ideal S1024 .f32) (w : FVec Ideal S1024x3632 .f32) : FVec Ideal Cert.OddRefIdeal.S4x8192x256 .f32 :=
  extractStridedSlice Cert.OddRefIdeal.S4x8192x256 ![0, 0, 2048] (projOf x g w) Cert.OddRefIdeal.Gen.slices_S4x8192x3632_S4x8192x256_0_0_2048

/-- five runs of columns side by side, -/
def catOf (a : FVec Ideal Cert.OddRefIdeal.S4x8192x1024 .f32) (b c : FVec Ideal Cert.OddRefIdeal.S4x8192x256 .f32) (d e : FVec Ideal Cert.OddRefIdeal.S4x8192x512 .f32) :
    FVec Ideal Cert.OddRefIdeal.S4x8192x2560 .f32 :=
  concatenate Cert.OddRefIdeal.S4x8192x2560 2 [⟨Cert.OddRefIdeal.S4x8192x1024, a⟩, ⟨Cert.OddRefIdeal.S4x8192x256, b⟩, ⟨Cert.OddRefIdeal.S4x8192x256, c⟩, ⟨Cert.OddRefIdeal.S4x8192x512, d⟩, ⟨Cert.OddRefIdeal.S4x8192x512, e⟩] Cert.OddRefIdeal.Gen.concatenates_S4x8192x1024_S4x8192x256_S4x8192x256_S4x8192x512_S4x8192x512_S4x8192x2560_d2

/-- all rows under one another, -/
def flatOf (C : FVec Ideal Cert.OddRefIdeal.S4x8192x2560 .f32) : FVec Ideal Cert.OddRefIdeal.S32768x2560 .bf16 :=
  truncf .bf16 (shapeCast Cert.OddRefIdeal.S32768x2560 C Cert.OddRefIdeal.Gen.shapeCasts_S4x8192x2560_S32768x2560) Cert.OddRefIdeal.Gen.bitsLt_bf16_f32

/-- its first result, -/
def rowsOf (x : FVec Ideal S4x8192x1024 .f32) (g : FVec Ideal S1024 .f32) (w : FVec Ideal S1024x3632 .f32) (p : FVec Ideal S8192x512 .bf16) :
    FVec Ideal Cert.OddRefIdeal.S32768x2560 .bf16 :=
  flatOf (catOf (partOf2608 x g w) (partOf1024 x g w) (partOf1280 x g w) (featOf (wideOf (partOf1536 x g w)) p) (featOf (wideOf (partOf2048 x g w)) p))

/-- its second, -/
def keysOf (x : FVec Ideal S4x8192x1024 .f32) (g : FVec Ideal S1024 .f32) (w : FVec Ideal S1024x3632 .f32) :
    FVec Ideal Cert.OddRefIdeal.S32768x256 .bf16 :=
  truncf .bf16 (shapeCast Cert.OddRefIdeal.S32768x256 (extractStridedSlice Cert.OddRefIdeal.S4x8192x256 ![0, 0, 1024] (projOf x g w) Cert.OddRefIdeal.Gen.slices_S4x8192x3632_S4x8192x256_0_0_1024) Cert.OddRefIdeal.Gen.shapeCasts_S4x8192x256_S32768x256) Cert.OddRefIdeal.Gen.bitsLt_bf16_f32

/-- its third, -/
def valuesOf (x : FVec Ideal S4x8192x1024 .f32) (g : FVec Ideal S1024 .f32) (w : FVec Ideal S1024x3632 .f32) :
    FVec Ideal Cert.OddRefIdeal.S32768x256 .bf16 :=
  truncf .bf16 (shapeCast Cert.OddRefIdeal.S32768x256 (extractStridedSlice Cert.OddRefIdeal.S4x8192x256 ![0, 0, 1280] (projOf x g w) Cert.OddRefIdeal.Gen.slices_S4x8192x3632_S4x8192x256_0_0_1280) Cert.OddRefIdeal.Gen.shapeCasts_S4x8192x256_S32768x256) Cert.OddRefIdeal.Gen.bitsLt_bf16_f32

/-- its fourth, -/
def colsOf (x : FVec Ideal S4x8192x1024 .f32) (g : FVec Ideal S1024 .f32) (w : FVec Ideal S1024x3632 .f32) :
    FVec Ideal Cert.OddRefIdeal.S4x1536x8192 .bf16 :=
  truncf .bf16 (transpose Cert.OddRefIdeal.S4x1536x8192 [0, 2, 1] ((concatenate Cert.OddRefIdeal.S4x8192x1536 2 [⟨Cert.OddRefIdeal.S4x8192x1024, ((mulf (extractStridedSlice Cert.OddRefIdeal.S4x8192x1024 ![0, 0, 0] (projOf x g w) Cert.OddRefIdeal.Gen.slices_S4x8192x3632_S4x8192x1024_0_0_0) (broadcastInDim Cert.OddRefIdeal.S4x8192x1024 ![] Cert.OddRefIdeal.Gen.bcast_S_S4x8192x1024 (constant Cert.OddRefIdeal.S_ .f32 0x3E38AA3B#32))))⟩, ⟨Cert.OddRefIdeal.S4x8192x256, ((extractStridedSlice Cert.OddRefIdeal.S4x8192x256 ![0, 0, 1792] (projOf x g w) Cert.OddRefIdeal.Gen.slices_S4x8192x3632_S4x8192x256_0_0_1792))⟩, ⟨Cert.OddRefIdeal.S4x8192x256, ((extractStridedSlice Cert.OddRefIdeal.S4x8192x256 ![0, 0, 2304] (projOf x g w) Cert.OddRefIdeal.Gen.slices_S4x8192x3632_S4x8192x256_0_0_2304))⟩] Cert.OddRefIdeal.Gen.concatenates_S4x8192x1024_S4x8192x256_S4x8192x256_S4x8192x1536_d2)) Cert.OddRefIdeal.Gen.transposes_S4x8192x1536_S4x1536x8192_0_2_1) Cert.OddRefIdeal.Gen.bitsLt_bf16_f32

/-- and its fifth. -/
def gatesOf (x : FVec Ideal S4x8192x1024 .f32) (g : FVec Ideal S1024 .f32) (w : FVec Ideal S1024x3632 .f32) :
    FVec Ideal Cert.OddRefIdeal.S4x64x8192 .f32 :=
  transpose Cert.OddRefIdeal.S4x64x8192 [0, 2, 1] (shapeCast Cert.OddRefIdeal.S4x8192x64 (pad Cert.OddRefIdeal.S4x8192x4x16 ![0, 0, 0, 0] ![0, 0, 0, 4] ![0, 0, 0, 0] (shapeCast Cert.OddRefIdeal.S4x8192x4x12 (extractStridedSlice Cert.OddRefIdeal.S4x8192x48 ![0, 0, 2560] (projOf x g w) Cert.OddRefIdeal.Gen.slices_S4x8192x3632_S4x8192x48_0_0_2560) Cert.OddRefIdeal.Gen.shapeCasts_S4x8192x48_S4x8192x4x12) (sitofp .f32 (constantI Cert.OddRefIdeal.S_ 32 0#32)) Cert.OddRefIdeal.Gen.pads_S4x8192x4x12_S4x8192x4x16_000_000_000_040 Cert.OddRefIdeal.Gen.h_S_) Cert.OddRefIdeal.Gen.shapeCasts_S4x8192x4x16_S4x8192x64) Cert.OddRefIdeal.Gen.transposes_S4x8192x64_S4x64x8192_0_2_1

section
variable (x : FVec Ideal S4x8192x1024 .f32) (g : FVec Ideal S1024 .f32) (w : FVec Ideal S1024x3632 .f32) (p : FVec Ideal S8192x512 .bf16)

/-- An element of a normed row. -/
def nrm (b : Fin 4) (s : Fin 8192) (k : Fin 1024) : EReal :=
  x (ix3 b s k) * Ideal.rsqrt (Ideal.div (∑ k', x (ix3 b s k') * x (ix3 b s k')) (Ideal.ofBits FTy.f32 1149239296#32)
    + Ideal.ofBits FTy.f32 897988541#32) * g (ix1 k)

/-- The padding's value. -/
theorem sitofp_zero : (FloatOps.sitofp (F := Ideal) FTy.f32 0#32 : EReal) = 0 := by
  show (((0#32 : BitVec 32).toInt : ℝ) : EReal) = 0
  simp

theorem projOf_at (b : Fin 4) (s : Fin 8192) (j : Fin 3632) :
    (projOf x g w (ix3 b s j) : EReal) = ∑ k, nrm x g b s k * w (ix2 k j) := by
  unfold projOf nrm
  pointwise []
theorem wideOf_at (k) (b : Fin 4) (s : Fin 8192) (j : Fin 512) : (wideOf k (ix3 b s j) : EReal) =
    if h : j.val / 128 < 4 ∧ j.val % 128 < 64 then k (ix3 b s ⟨j.val / 128 * 64 + j.val % 128, by omega⟩) else (0 : EReal) := by
  rw [← sitofp_zero]
  unfold wideOf
  pointwise []
theorem featOf_at (k) (b : Fin 4) (s : Fin 8192) (j : Fin 512) : (featOf k p (ix3 b s j) : EReal) = (k (ix3 b s j) : EReal) + p (ix2 s j) := by
  unfold featOf
  pointwise []
theorem part2608_at (b : Fin 4) (s : Fin 8192) (j : Fin 1024) : (partOf2608 x g w (ix3 b s j) : EReal) = projOf x g w (ix3 b s ⟨2608 + j.val, by omega⟩) := by
  unfold partOf2608
  pointwise []
theorem part1024_at (b : Fin 4) (s : Fin 8192) (j : Fin 256) : (partOf1024 x g w (ix3 b s j) : EReal) = projOf x g w (ix3 b s ⟨1024 + j.val, by omega⟩) := by
  unfold partOf1024
  pointwise []
theorem part1280_at (b : Fin 4) (s : Fin 8192) (j : Fin 256) : (partOf1280 x g w (ix3 b s j) : EReal) = projOf x g w (ix3 b s ⟨1280 + j.val, by omega⟩) := by
  unfold partOf1280
  pointwise []
theorem part1536_at (b : Fin 4) (s : Fin 8192) (j : Fin 256) : (partOf1536 x g w (ix3 b s j) : EReal) = projOf x g w (ix3 b s ⟨1536 + j.val, by omega⟩) := by
  unfold partOf1536
  pointwise []
theorem part2048_at (b : Fin 4) (s : Fin 8192) (j : Fin 256) : (partOf2048 x g w (ix3 b s j) : EReal) = projOf x g w (ix3 b s ⟨2048 + j.val, by omega⟩) := by
  unfold partOf2048
  pointwise []
theorem flatOf_at (C : FVec Ideal Cert.OddRefIdeal.S4x8192x2560 .f32) (r : Fin 32768) (j : Fin 2560) : (flatOf C (ix2 r j) : EReal) = C (ix3 ⟨r.val / 8192, by omega⟩ ⟨r.val % 8192, by omega⟩ j) := by
  unfold flatOf
  pointwise []
theorem catOf_at (a : FVec Ideal Cert.OddRefIdeal.S4x8192x1024 .f32) (b c : FVec Ideal Cert.OddRefIdeal.S4x8192x256 .f32) (d e : FVec Ideal Cert.OddRefIdeal.S4x8192x512 .f32)
    (u : Fin 4) (v : Fin 8192) (j : Fin 2560) : (catOf a b c d e (ix3 u v j) : EReal) =
    if h : j.val < 1024 then a (ix3 u v ⟨j.val, by omega⟩)
    else if h : j.val - 1024 < 256 then b (ix3 u v ⟨j.val - 1024, by omega⟩)
    else if h : j.val - 1024 - 256 < 256 then c (ix3 u v ⟨j.val - 1024 - 256, by omega⟩)
    else if h : j.val - 1024 - 256 - 256 < 512 then d (ix3 u v ⟨j.val - 1024 - 256 - 256, by omega⟩)
    else e (ix3 u v ⟨j.val - 1024 - 256 - 256 - 512, by omega⟩) := by
  unfold catOf
  pointwise []
theorem rowsOf_at (r : Fin 32768) (j : Fin 2560) : (rowsOf x g w p (ix2 r j) : EReal) =
    if h : j.val < 1024 then projOf x g w (ix3 ⟨r.val / 8192, by omega⟩ ⟨r.val % 8192, by omega⟩ ⟨2608 + j.val, by omega⟩)
    else if h : j.val - 1024 < 256 then projOf x g w (ix3 ⟨r.val / 8192, by omega⟩ ⟨r.val % 8192, by omega⟩ ⟨1024 + (j.val - 1024), by omega⟩)
    else if h : j.val - 1024 - 256 < 256 then projOf x g w (ix3 ⟨r.val / 8192, by omega⟩ ⟨r.val % 8192, by omega⟩ ⟨1280 + (j.val - 1024 - 256), by omega⟩)
    else if h : j.val - 1024 - 256 - 256 < 512 then featOf (wideOf (partOf1536 x g w)) p (ix3 ⟨r.val / 8192, by omega⟩ ⟨r.val % 8192, by omega⟩ ⟨j.val - 1024 - 256 - 256, by omega⟩)
    else featOf (wideOf (partOf2048 x g w)) p (ix3 ⟨r.val / 8192, by omega⟩ ⟨r.val % 8192, by omega⟩ ⟨j.val - 1024 - 256 - 256 - 512, by omega⟩) := by
  unfold rowsOf
  refine (flatOf_at _ r j).trans ((catOf_at _ _ _ _ _ _ _ j).trans ?_)
  simp only [part2608_at, part1024_at, part1280_at]
theorem keysOf_at (r : Fin 32768) (j : Fin 256) : (keysOf x g w (ix2 r j) : EReal) = projOf x g w (ix3 ⟨r.val / 8192, by omega⟩ ⟨r.val % 8192, by omega⟩ ⟨1024 + j.val, by omega⟩) := by
  unfold keysOf
  pointwise []
theorem valuesOf_at (r : Fin 32768) (j : Fin 256) : (valuesOf x g w (ix2 r j) : EReal) = projOf x g w (ix3 ⟨r.val / 8192, by omega⟩ ⟨r.val % 8192, by omega⟩ ⟨1280 + j.val, by omega⟩) := by
  unfold valuesOf
  pointwise []
theorem colsOf_at (b : Fin 4) (j : Fin 1536) (s : Fin 8192) : (colsOf x g w (ix3 b j s) : EReal) =
    if h : j.val < 1024 then projOf x g w (ix3 b s ⟨j.val, by omega⟩) * Ideal.ofBits FTy.f32 1043900987#32
    else if h : j.val - 1024 < 256 then projOf x g w (ix3 b s ⟨1792 + (j.val - 1024), by omega⟩)
    else projOf x g w (ix3 b s ⟨2304 + (j.val - 1024 - 256), by omega⟩) := by
  unfold colsOf
  pointwise []
theorem gatesOf_at (b : Fin 4) (j : Fin 64) (s : Fin 8192) : (gatesOf x g w (ix3 b j s) : EReal) =
    if h : j.val / 16 < 4 ∧ j.val % 16 < 12 then projOf x g w (ix3 b s ⟨2560 + (j.val / 16 * 12 + j.val % 16), by omega⟩) else (0 : EReal) := by
  rw [← sitofp_zero]
  unfold gatesOf
  pointwise []

/-- The kernel's weights for the rows, column by column. -/
def wcol (k : Fin 1024) (j : Fin 2560) : EReal :=
  if h : j.val < 1024 then w (ix2 k ⟨2608 + j.val, by omega⟩)
  else if h : j.val - 1024 < 256 then w (ix2 k ⟨1024 + (j.val - 1024), by omega⟩)
  else if h : j.val - 1024 - 256 < 256 then w (ix2 k ⟨1280 + (j.val - 1024 - 256), by omega⟩)
  else if h : j.val - 1024 - 256 - 256 < 512 then
    if h_1 : (j.val - 1024 - 256 - 256) / 128 < 4 ∧ (j.val - 1024 - 256 - 256) % 128 < 64 then
      w (ix2 k ⟨1536 + ((j.val - 1024 - 256 - 256) / 128 * 64 + (j.val - 1024 - 256 - 256) % 128), by omega⟩)
    else (0 : EReal)
  else if h_1 : (j.val - 1024 - 256 - 256 - 512) / 128 < 4 ∧ (j.val - 1024 - 256 - 256 - 512) % 128 < 64 then
    w (ix2 k ⟨2048 + ((j.val - 1024 - 256 - 256 - 512) / 128 * 64 + (j.val - 1024 - 256 - 256 - 512) % 128), by omega⟩)
  else (0 : EReal)

/-- A row's dot product with such a column. -/
def colv (b : Fin 4) (s : Fin 8192) (j : Fin 2560) : EReal := ∑ k, nrm x g b s k * wcol w k j

theorem colv_z (b s) (j : Fin 2560) (h : j.val < 1024) : colv x g w b s j = projOf x g w (ix3 b s ⟨2608 + j.val, by omega⟩) := by
  unfold colv wcol
  rw [projOf_at]
  simp only [dif_pos h]
theorem colv_kc (b s) (j : Fin 2560) (h0 : ¬ j.val < 1024) (h : j.val - 1024 < 256) :
    colv x g w b s j = projOf x g w (ix3 b s ⟨1024 + (j.val - 1024), by omega⟩) := by
  unfold colv wcol
  rw [projOf_at]
  simp only [dif_neg h0, dif_pos h]
theorem colv_vc (b s) (j : Fin 2560) (h0 : ¬ j.val < 1024) (h1 : ¬ j.val - 1024 < 256) (h : j.val - 1024 - 256 < 256) :
    colv x g w b s j = projOf x g w (ix3 b s ⟨1280 + (j.val - 1024 - 256), by omega⟩) := by
  unfold colv wcol
  rw [projOf_at]
  simp only [dif_neg h0, dif_neg h1, dif_pos h]
theorem colv_ks (b s) (j : Fin 2560) (h0 : ¬ j.val < 1024) (h1 : ¬ j.val - 1024 < 256) (h2 : ¬ j.val - 1024 - 256 < 256) (h : j.val - 1024 - 256 - 256 < 512) :
    colv x g w b s j = wideOf (partOf1536 x g w) (ix3 b s ⟨j.val - 1024 - 256 - 256, h⟩) := by
  unfold colv wcol
  rw [wideOf_at]
  simp only [dif_neg h0, dif_neg h1, dif_neg h2, dif_pos h]
  by_cases hl : (j.val - 1024 - 256 - 256) / 128 < 4 ∧ (j.val - 1024 - 256 - 256) % 128 < 64
  · simp only [dif_pos hl]
    rw [part1536_at, projOf_at]
  · simp only [dif_neg hl, mul_zero, Finset.sum_const_zero]
theorem colv_kw (b s) (j : Fin 2560) (h0 : ¬ j.val < 1024) (h1 : ¬ j.val - 1024 < 256) (h2 : ¬ j.val - 1024 - 256 < 256) (h3 : ¬ j.val - 1024 - 256 - 256 < 512) :
    colv x g w b s j = wideOf (partOf2048 x g w) (ix3 b s ⟨j.val - 1024 - 256 - 256 - 512, by omega⟩) := by
  unfold colv wcol
  rw [wideOf_at]
  simp only [dif_neg h0, dif_neg h1, dif_neg h2, dif_neg h3]
  by_cases hl : (j.val - 1024 - 256 - 256 - 512) / 128 < 4 ∧ (j.val - 1024 - 256 - 256 - 512) % 128 < 64
  · simp only [dif_pos hl]
    rw [part2048_at, projOf_at]
  · simp only [dif_neg hl, mul_zero, Finset.sum_const_zero]

/-- The reference's rows: the plain columns, -/
theorem rows_low (r : Fin 32768) (j : Fin 2560) (h : j.val < 1536) : (rowsOf x g w p (ix2 r j) : EReal) = colv x g w ⟨r.val / 8192, by omega⟩ ⟨r.val % 8192, by omega⟩ j := by
  rw [rowsOf_at]
  by_cases h0 : j.val < 1024
  · rw [dif_pos h0]; exact (colv_z x g w _ _ j h0).symm
  rw [dif_neg h0]
  by_cases h1 : j.val - 1024 < 256
  · rw [dif_pos h1]; exact (colv_kc x g w _ _ j h0 h1).symm
  rw [dif_neg h1, dif_pos (by omega)]
  exact (colv_vc x g w _ _ j h0 h1 (by omega)).symm
/-- the first keys' columns, -/
theorem rows_ks (r : Fin 32768) (j : Fin 2560) (h : 1536 ≤ j.val) (h' : j.val < 2048) : (rowsOf x g w p (ix2 r j) : EReal)
    = colv x g w ⟨r.val / 8192, by omega⟩ ⟨r.val % 8192, by omega⟩ j + p (ix2 ⟨r.val % 8192, by omega⟩ ⟨j.val - 1024 - 256 - 256, by omega⟩) := by
  rw [rowsOf_at, dif_neg (by omega), dif_neg (by omega), dif_neg (by omega), dif_pos (by omega), featOf_at,
    colv_ks x g w _ _ j (by omega) (by omega) (by omega) (by omega)]
/-- and the second's. -/
theorem rows_kw (r : Fin 32768) (j : Fin 2560) (h : 2048 ≤ j.val) : (rowsOf x g w p (ix2 r j) : EReal)
    = colv x g w ⟨r.val / 8192, by omega⟩ ⟨r.val % 8192, by omega⟩ j + p (ix2 ⟨r.val % 8192, by omega⟩ ⟨j.val - 1024 - 256 - 256 - 512, by omega⟩) := by
  rw [rowsOf_at, dif_neg (by omega), dif_neg (by omega), dif_neg (by omega), dif_neg (by omega), featOf_at,
    colv_kw x g w _ _ j (by omega) (by omega) (by omega) (by omega)]
end

theorem pay1_at (X : Vec Ideal S1024x1024 .f32) (G : Vec Ideal S1x1024 .f32) (p k : Fin 1024) : (k0_pay1 X G (ix2 p k) : EReal)
    = X (ix2 p k) * Ideal.rsqrt (Ideal.div (∑ k', X (ix2 p k') * X (ix2 p k')) (Ideal.ofBits FTy.f32 1149239296#32)
        + Ideal.ofBits FTy.f32 897988541#32) * G (ix2 0 k) := by
  pointwise [k0_pay1]
theorem pay2_at (X : Vec Ideal S1024x1024 .f32) (G : Vec Ideal S1x1024 .f32) (p k : Fin 1024) : (k0_pay2 X G (ix2 p k) : EReal)
    = k0_pay1 X G (ix2 p k) := by
  pointwise [k0_pay2]
theorem pay3_at (X : Vec Ideal S1024x1024 .f32) (G : Vec Ideal S1x1024 .f32) (W : Vec Ideal S1536x1024 .bf16) (a : Fin 1) (p : Fin 1536) (k : Fin 1024) :
    (k0_pay3 X G W (ix3 a p k) : EReal) = ∑ z, (W (ix2 p z) : EReal) * k0_pay1 X G (ix2 k z) := by
  pointwise [k0_pay3]
theorem pay4_at (X : Vec Ideal S1024x1024 .f32) (G : Vec Ideal S1x1024 .f32) (W : Vec Ideal S64x1024 .bf16) (a : Fin 1) (p : Fin 64) (k : Fin 1024) :
    (k0_pay4 X G W (ix3 a p k) : EReal) = ∑ z, (W (ix2 p z) : EReal) * k0_pay1 X G (ix2 k z) := by
  pointwise [k0_pay4]

section
variable (H : Vec Ideal S1024x1024 .bf16) (W : Vec Ideal S1024x1280 .bf16) (P : Vec Ideal S1024x512 .bf16)

theorem pay5_at (p : Fin 1024) (k : Fin 1280) : (k0_pay5 H W (ix2 p k) : EReal) = ∑ z, (H (ix2 p z) : EReal) * W (ix2 z k) := by
  pointwise [k0_pay5]
theorem pay6_at (p : Fin 1024) (k : Fin 1280) : (k0_pay6 H W (ix2 p k) : EReal) = k0_pay5 H W (ix2 p k) := by
  pointwise [k0_pay6]
theorem pay7_at (p : Fin 1024) (k : Fin 256) : (k0_pay7 H W (ix2 p k) : EReal) = k0_pay5 H W (ix2 p ⟨1024 + k.val, by omega⟩) := by
  pointwise [k0_pay7]
theorem pay8_at (p : Fin 1024) (k : Fin 512) : (k0_pay8 H W P (ix2 p k) : EReal)
    = (k0_pay5 H W (ix2 p ⟨256 + k.val, by omega⟩) : EReal) + P (ix2 p k) := by
  pointwise [k0_pay8]
theorem pay9_at (p : Fin 1024) (k : Fin 512) : (k0_pay9 H W P (ix2 p k) : EReal)
    = (k0_pay5 H W (ix2 p ⟨768 + k.val, by omega⟩) : EReal) + P (ix2 p k) := by
  pointwise [k0_pay9]
theorem pay10_at (p : Fin 1024) (k : Fin 256) : (k0_pay10 H W (ix2 p k) : EReal) = k0_pay5 H W (ix2 p ⟨k.val, by omega⟩) := by
  pointwise [k0_pay10]

/-- The block of a second point: three runs of columns. -/
theorem later_low (p : Fin 1024) (k : Fin 1280) (h : k.val < 256) : later H W P (ix2 p k) = k0_pay6 H W (ix2 p k) := by
  unfold later VecWindow.put
  rw [dif_neg (fun e => by have h1 := (e 1).1; simp at h1; omega), dif_neg (fun e => by have h1 := (e 1).1; simp at h1; omega)]
theorem later_ks (p : Fin 1024) (k : Fin 1280) (h : 256 ≤ k.val) (h' : k.val < 768) :
    later H W P (ix2 p k) = k0_pay8 H W P (ix2 p ⟨k.val - 256, by omega⟩) := by
  unfold later VecWindow.put
  have hin : ∀ a : Fin 2, (![0, 256] : Fin 2 → ℕ) a ≤ ((ix2 p k : S1024x1280.Idx) a).val ∧ ((ix2 p k : S1024x1280.Idx) a).val < (![0, 256] : Fin 2 → ℕ) a + S1024x512.size a :=
    Fin.forall_fin_two.mpr ⟨⟨Nat.zero_le _, by show p.val < 0 + 1024; omega⟩, ⟨h, by show k.val < 256 + 512; omega⟩⟩
  rw [dif_neg (fun e => by have h1 := (e 1).1; simp at h1; omega)]
  refine (dif_pos hin).trans (congrArg (k0_pay8 H W P) ?_)
  funext a
  fin_cases a
  · exact Fin.ext (show p.val - 0 = p.val by omega)
  · rfl
theorem later_kw (p : Fin 1024) (k : Fin 1280) (h : 768 ≤ k.val) :
    later H W P (ix2 p k) = k0_pay9 H W P (ix2 p ⟨k.val - 768, by omega⟩) := by
  unfold later VecWindow.put
  have hin : ∀ a : Fin 2, (![0, 768] : Fin 2 → ℕ) a ≤ ((ix2 p k : S1024x1280.Idx) a).val ∧ ((ix2 p k : S1024x1280.Idx) a).val < (![0, 768] : Fin 2 → ℕ) a + S1024x512.size a :=
    Fin.forall_fin_two.mpr ⟨⟨Nat.zero_le _, by show p.val < 0 + 1024; omega⟩, ⟨h, by show k.val < 768 + 512; omega⟩⟩
  refine (dif_pos hin).trans (congrArg (k0_pay9 H W P) ?_)
  funext a
  fin_cases a
  · exact Fin.ext (show p.val - 0 = p.val by omega)
  · rfl
end

end Cert.OddIdeal.Rows

end
-- ==== Proof.OddHost.lean ====
module

public import proofs.«01_k».proof.Proof.OddRows
public import Idealize.ShloMosaic.Lib.Pointwise
public import Idealize.ShloMosaic.Lib.Pipeline.ValueKit

@[expose] public section

set_option maxRecDepth 16384

/-! # The odd layer's projection: the weights the host lays out -/

noncomputable section

namespace Cert.OddIdeal.Rows

open Idealize.ShloMosaic Idealize.ShloMosaic.TcCoe Idealize.SL.Sem
open Idealize.ShloMosaic.Pipeline (Dat)
open Cert.OddIdeal.Gen

variable (m : (ℓ : Loc nD τ sig) → Buf (Elt Ideal) ℓ) (c : Dev nD)

/-- The arguments as launched. -/
abbrev xA : FVec Ideal S4x8192x1024 .f32 := m ((c : Thread nD τ).loc main_arg0)
abbrev gA : FVec Ideal S1024 .f32 := m ((c : Thread nD τ).loc main_arg1)
abbrev wA : FVec Ideal S1024x3632 .f32 := m ((c : Thread nD τ).loc main_arg2)
abbrev pA : FVec Ideal S8192x512 .bf16 := m ((c : Thread nD τ).loc main_arg3)

set_option maxHeartbeats 1600000 in
theorem w_at (k : Fin 1024) (j : Fin 2560) :
    ((V m c main_v16 : Vec Ideal S1024x2560 .bf16) (ix2 k j) : EReal) =
    if h : j.val < 1024 then wA m c (ix2 k ⟨2608 + j.val, by omega⟩)
    else if h : j.val - 1024 < 256 then wA m c (ix2 k ⟨1024 + (j.val - 1024), by omega⟩)
    else if h : j.val - 1024 - 256 < 256 then wA m c (ix2 k ⟨1280 + (j.val - 1024 - 256), by omega⟩)
    else if h : j.val - 1024 - 256 - 256 < 512 then
      if h_1 : (j.val - 1024 - 256 - 256) / 128 < 4 ∧ (j.val - 1024 - 256 - 256) % 128 < 64 then
        wA m c (ix2 k ⟨1536 + ((j.val - 1024 - 256 - 256) / 128 * 64 + (j.val - 1024 - 256 - 256) % 128), by omega⟩)
      else FloatOps.sitofp (F := Ideal) FTy.f32 0#32
    else if h_1 : (j.val - 1024 - 256 - 256 - 512) / 128 < 4 ∧ (j.val - 1024 - 256 - 256 - 512) % 128 < 64 then
      wA m c (ix2 k ⟨2048 + ((j.val - 1024 - 256 - 256 - 512) / 128 * 64 + (j.val - 1024 - 256 - 256 - 512) % 128), by omega⟩)
    else FloatOps.sitofp (F := Ideal) FTy.f32 0#32 := by
  show StableHlo.after _ _ _ _ = _
  simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
  after_results_simp
  pointwise []
  (try dsimp only [Matrix.cons_val])
  (try after_results_simp)
  (try pointwise [])
set_option maxHeartbeats 1600000 in
theorem wt_at (j : Fin 1536) (k : Fin 1024) :
    ((V m c main_v26 : Vec Ideal S1536x1024 .bf16) (ix2 j k) : EReal) =
    if h : j.val < 1024 then wA m c (ix2 k ⟨j.val, by omega⟩) * Ideal.ofBits FTy.f32 1043900987#32
    else if h : j.val - 1024 < 256 then wA m c (ix2 k ⟨1792 + (j.val - 1024), by omega⟩)
    else wA m c (ix2 k ⟨2304 + (j.val - 1024 - 256), by omega⟩) := by
  show StableHlo.after _ _ _ _ = _
  simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
  after_results_simp
  pointwise []
  (try dsimp only [Matrix.cons_val])
  (try after_results_simp)
  (try pointwise [])
set_option maxHeartbeats 1600000 in
theorem wg_at (j : Fin 64) (k : Fin 1024) :
    ((V m c main_v21 : Vec Ideal S64x1024 .bf16) (ix2 j k) : EReal) =
    if h : j.val / 16 < 4 ∧ j.val % 16 < 12 then wA m c (ix2 k ⟨2560 + (j.val / 16 * 12 + j.val % 16), by omega⟩)
    else FloatOps.sitofp (F := Ideal) FTy.f32 0#32 := by
  show StableHlo.after _ _ _ _ = _
  simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
  after_results_simp
  pointwise []
  (try dsimp only [Matrix.cons_val])
  (try after_results_simp)
  (try pointwise [])

/-- Every window's block at a grid point. -/
theorem idx : ∀ t : Fin cfg0.N,
    win0_0.index t = ![t.val / 2, 0] ∧ win0_1.index t = ![0, 0] ∧ win0_2.index t = ![0, t.val % 2] ∧ win0_3.index t = ![t.val / 2 % 8, 0]
    ∧ win0_4.index t = ![0, 0] ∧ win0_5.index t = ![0, 0] ∧ win0_6.index t = ![t.val / 2, t.val % 2] ∧ win0_7.index t = ![t.val / 2, 0]
    ∧ win0_8.index t = ![t.val / 2, 0] ∧ win0_9.index t = ![t.val / 16, 0, t.val / 2 % 8] ∧ win0_10.index t = ![t.val / 16, 0, t.val / 2 % 8] ∧ t.val < 64 :=
  (by decide +kernel : ∀ t : Fin grid0.N, _)

theorem nlt (t : Fin cfg0.N) : t.val < 64 := (idx t).2.2.2.2.2.2.2.2.2.2.2

/-- The row of the input that a tile's row is. -/
def row (t : Fin cfg0.N) (p : Fin 1024) : Fin 32768 := ⟨t.val / 2 * 1024 + p.val, by have := nlt t; omega⟩

theorem iblk0_at (t : Fin cfg0.N) (p k : Fin 1024) :
    (iblk m c 0 t (ix2 p k) : EReal) = xA m c (ix3 ⟨(row t p).val / 8192, by have := (row t p).isLt; omega⟩ ⟨(row t p).val % 8192, by omega⟩ k) := by
  refine Eq.trans (b := ((V m c main_v27 : Vec Ideal S32768x1024 .f32) (ix2 (row t p) k) : EReal)) ?_ ?_
  · unfold row
    blk_point [iblk, idx t]
  · show StableHlo.after _ _ _ _ = _
    simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
    after_results_simp
    pointwise []
theorem iblk1_at (t : Fin cfg0.N) (k : Fin 1024) : (iblk m c 1 t (ix2 0 k) : EReal) = gA m c (ix1 k) := by
  refine Eq.trans (b := ((V m c main_v28 : Vec Ideal S1x1024 .f32) (ix2 0 k) : EReal)) ?_ ?_
  · blk_point [iblk, idx t]
  · show StableHlo.after _ _ _ _ = _
    simp only [hostOps0, hostOps0_1, hostOps0_2, hostOps0_3, hostOps0_4, hostOps0_5, hostOps0_6, List.flatten_cons, List.flatten_nil, List.append_nil, List.cons_append, List.nil_append, StableHlo.TRef.binary, StableHlo.TRef.unary, StableHlo.TRef.toBuf, StableHlo.TRef.ofBuf, cast_eq]
    after_results_simp
    pointwise []
theorem iblk2_at (t : Fin cfg0.N) (k : Fin 1024) (q : Fin 1280) :
    (iblk m c 2 t (ix2 k q) : EReal) = (V m c main_v16 : Vec Ideal S1024x2560 .bf16) (ix2 k ⟨t.val % 2 * 1280 + q.val, by omega⟩) := by
  blk_point [iblk, idx t]
theorem iblk3_at (t : Fin cfg0.N) (p : Fin 1024) (k : Fin 512) :
    (iblk m c 3 t (ix2 p k) : EReal) = pA m c (ix2 ⟨(row t p).val % 8192, by omega⟩ k) := by
  have e : (row t p).val % 8192 = t.val / 2 % 8 * 1024 + p.val := by
    have h : (row t p).val = t.val / 2 * 1024 + p.val := rfl
    omega
  refine Eq.trans (b := ((V m c main_arg3 : Vec Ideal S8192x512 .bf16) (ix2 ⟨t.val / 2 % 8 * 1024 + p.val, by omega⟩ k) : EReal)) ?_ ?_
  · blk_point [iblk, idx t]
  · rw [V_main_arg3 m c]
    exact congrArg (fun z => pA m c (ix2 z k)) (Fin.ext e.symm)
theorem iblk4_at (t : Fin cfg0.N) (j : Fin 1536) (k : Fin 1024) :
    (iblk m c 4 t (ix2 j k) : EReal) = (V m c main_v26 : Vec Ideal S1536x1024 .bf16) (ix2 j k) := by
  blk_point [iblk, idx t]
theorem iblk5_at (t : Fin cfg0.N) (j : Fin 64) (k : Fin 1024) :
    (iblk m c 5 t (ix2 j k) : EReal) = (V m c main_v21 : Vec Ideal S64x1024 .bf16) (ix2 j k) := by
  blk_point [iblk, idx t]

end Cert.OddIdeal.Rows

end
-- ==== Proof.OddTiles.lean ====
module

public import proofs.«01_k».proof.Proof.OddValue
public import proofs.«01_k».proof.Proof.OddHost
public import proofs.«01_k».proof.Proof.ProjectFinal

@[expose] public section

set_option maxRecDepth 16384

/-! # The odd layer's projection: the tiles -/

noncomputable section

namespace Cert.OddIdeal.Rows

open Idealize.ShloMosaic Idealize.ShloMosaic.TcCoe Idealize.SL.Sem
open Idealize.ShloMosaic.Pipeline (Dat)
open Cert.OddIdeal.Gen

variable (m : (ℓ : Loc nD τ sig) → Buf (Elt Ideal) ℓ) (c : Dev nD)

theorem nrm_at (t : Fin cfg0.N) (p k : Fin 1024) :
    (k0_pay1 (iblk m c 0 t) (iblk m c 1 t) (ix2 p k) : EReal)
      = nrm (xA m c) (gA m c) ⟨(row t p).val / 8192, by have := (row t p).isLt; omega⟩ ⟨(row t p).val % 8192, by omega⟩ k := by
  refine (pay1_at _ _ p k).trans ?_
  unfold nrm
  rw [iblk1_at m c t k, iblk0_at m c t p k]
  simp only [iblk0_at m c t p]

theorem wcol_at (k : Fin 1024) (j : Fin 2560) : ((V m c main_v16 : Vec Ideal S1024x2560 .bf16) (ix2 k j) : EReal) = wcol (wA m c) k j := by
  refine (w_at m c k j).trans ?_
  unfold wcol
  rw [sitofp_zero]

/-- A tile's rows times a block of columns. -/
theorem prod_at (t t' : Fin cfg0.N) (p : Fin 1024) (q : Fin 1280) :
    (k0_pay5 (hid m c t) (iblk m c 2 t') (ix2 p q) : EReal)
      = colv (xA m c) (gA m c) (wA m c) ⟨(row t p).val / 8192, by have := (row t p).isLt; omega⟩ ⟨(row t p).val % 8192, by omega⟩ ⟨t'.val % 2 * 1280 + q.val, by omega⟩ := by
  refine (pay5_at _ _ p q).trans ?_
  unfold colv
  exact Finset.sum_congr rfl fun z _ => congrArg₂ (fun a b : EReal => a * b) ((pay2_at _ _ p z).trans (nrm_at m c t p z))
    ((iblk2_at m c t' z q).trans (wcol_at m c z _))

theorem outU_at (t : Fin cfg0.N) (p : Fin 1024) (q : Fin 1280) :
    (outU m c t (ix2 p q) : EReal) = rowsOf (xA m c) (gA m c) (wA m c) (pA m c) (ix2 (row t p) ⟨t.val % 2 * 1280 + q.val, by omega⟩) := by
  by_cases h : t.val % 2 = 0
  · have e : outU m c t = k0_pay6 (hid m c t) (iblk m c 2 t) := if_pos h
    rw [e]
    refine (pay6_at _ _ p q).trans ((prod_at m c t t p q).trans ?_)
    exact (rows_low _ _ _ _ _ _ (by show t.val % 2 * 1280 + q.val < 1536; omega)).symm
  · have e : outU m c t = later (hid m c t) (iblk m c 2 t) (iblk m c 3 t) := if_neg h
    rw [e]
    by_cases h1 : q.val < 256
    · refine (congrArg (fun a : EReal => a) (later_low _ _ _ p q h1)).trans ((pay6_at _ _ p q).trans ((prod_at m c t t p q).trans ?_))
      exact (rows_low _ _ _ _ _ _ (by show t.val % 2 * 1280 + q.val < 1536; omega)).symm
    by_cases h2 : q.val < 768
    · refine (congrArg (fun a : EReal => a) (later_ks _ _ _ p q (by omega) h2)).trans ((pay8_at _ _ _ p _).trans ?_)
      refine Eq.trans ?_ (rows_ks _ _ _ _ _ _ (by show 1536 ≤ t.val % 2 * 1280 + q.val; omega) (by show t.val % 2 * 1280 + q.val < 2048; omega)).symm
      refine congrArg₂ (fun a b : EReal => a + b) ((prod_at m c t t p _).trans ?_) ((iblk3_at m c t p _).trans ?_)
      · exact congrArg (colv (xA m c) (gA m c) (wA m c) _ _) (Fin.ext (show t.val % 2 * 1280 + (256 + (q.val - 256)) = t.val % 2 * 1280 + q.val by omega))
      · exact congrArg (fun z => pA m c (ix2 _ z)) (Fin.ext (show q.val - 256 = t.val % 2 * 1280 + q.val - 1024 - 256 - 256 by omega))
    · refine (congrArg (fun a : EReal => a) (later_kw _ _ _ p q (by omega))).trans ((pay9_at _ _ _ p _).trans ?_)
      refine Eq.trans ?_ (rows_kw _ _ _ _ _ _ (by show 2048 ≤ t.val % 2 * 1280 + q.val; omega)).symm
      refine congrArg₂ (fun a b : EReal => a + b) ((prod_at m c t t p _).trans ?_) ((iblk3_at m c t p _).trans ?_)
      · exact congrArg (colv (xA m c) (gA m c) (wA m c) _ _) (Fin.ext (show t.val % 2 * 1280 + (768 + (q.val - 768)) = t.val % 2 * 1280 + q.val by omega))
      · exact congrArg (fun z => pA m c (ix2 _ z)) (Fin.ext (show q.val - 768 = t.val % 2 * 1280 + q.val - 1024 - 256 - 256 - 512 by omega))

theorem outK_at (t : Fin cfg0.N) (p : Fin 1024) (q : Fin 256) :
    (outK m c t (ix2 p q) : EReal) = keysOf (xA m c) (gA m c) (wA m c) (ix2 (row t p) q) := by
  refine (pay7_at _ _ p q).trans ((prod_at m c t (fst t) p _).trans (Eq.trans ?_ (keysOf_at _ _ _ _ _).symm))
  have hf : (fst t).val = t.val - t.val % 2 := rfl
  have e : (fst t).val % 2 * 1280 + (1024 + q.val) = 1024 + q.val := by omega
  refine (congrArg (colv (xA m c) (gA m c) (wA m c) _ _) (Fin.ext e : (⟨(fst t).val % 2 * 1280 + (1024 + q.val), by omega⟩ : Fin 2560) = ⟨1024 + q.val, by omega⟩)).trans ?_
  refine (colv_kc _ _ _ _ _ _ (by show ¬ 1024 + q.val < 1024; omega) (by show 1024 + q.val - 1024 < 256; omega)).trans ?_
  exact congrArg (fun z => projOf (xA m c) (gA m c) (wA m c) (ix3 _ _ z)) (Fin.ext (show 1024 + (1024 + q.val - 1024) = 1024 + q.val by omega))

theorem outV_at (t : Fin cfg0.N) (h : t.val % 2 = 1) (p : Fin 1024) (q : Fin 256) :
    (outV m c t (ix2 p q) : EReal) = valuesOf (xA m c) (gA m c) (wA m c) (ix2 (row t p) q) := by
  refine (pay10_at _ _ p q).trans ((prod_at m c t t p _).trans (Eq.trans ?_ (valuesOf_at _ _ _ _ _).symm))
  have e : t.val % 2 * 1280 + q.val = 1280 + q.val := by omega
  refine (congrArg (colv (xA m c) (gA m c) (wA m c) _ _) (Fin.ext e : (⟨t.val % 2 * 1280 + q.val, by omega⟩ : Fin 2560) = ⟨1280 + q.val, by omega⟩)).trans ?_
  refine (colv_vc _ _ _ _ _ _ (by show ¬ 1280 + q.val < 1024; omega) (by show ¬ 1280 + q.val - 1024 < 256; omega) (by show 1280 + q.val - 1024 - 256 < 256; omega)).trans ?_
  exact congrArg (fun z => projOf (xA m c) (gA m c) (wA m c) (ix3 _ _ z)) (Fin.ext (show 1280 + (1280 + q.val - 1024 - 256) = 1280 + q.val by omega))

theorem outT_at (t : Fin cfg0.N) (a : Fin 1) (j : Fin 1536) (k : Fin 1024) :
    (outT m c t (ix3 a j k) : EReal) = colsOf (xA m c) (gA m c) (wA m c)
      (ix3 ⟨(row t k).val / 8192, by have := (row t k).isLt; omega⟩ j ⟨(row t k).val % 8192, by omega⟩) := by
  refine (pay3_at _ _ _ a j k).trans (Eq.trans ?_ (colsOf_at _ _ _ _ _ _).symm)
  refine (Finset.sum_congr rfl fun z _ => (congrArg₂ (fun a b : EReal => a * b) ((iblk4_at m c t j z).trans (wt_at m c j z)) (nrm_at m c t k z)).trans (mul_comm _ _)).trans ?_
  generalize xA m c = x
  generalize gA m c = g
  generalize wA m c = w
  obtain ⟨r, hr, e⟩ := Cert.ProjIdeal.Rows.qscale_lit
  simp only [projOf_at]
  split_ifs
  · exact Cert.ProjIdeal.Rows.scale_sum _ (by rw [e]; exact_mod_cast hr) (by rw [e]; exact EReal.coe_ne_top _) _ _
  · rfl
  · rfl

theorem outG_at (t : Fin cfg0.N) (a : Fin 1) (j : Fin 64) (k : Fin 1024) :
    (outG m c t (ix3 a j k) : EReal) = gatesOf (xA m c) (gA m c) (wA m c)
      (ix3 ⟨(row t k).val / 8192, by have := (row t k).isLt; omega⟩ j ⟨(row t k).val % 8192, by omega⟩) := by
  refine (pay4_at _ _ _ a j k).trans (Eq.trans ?_ (gatesOf_at _ _ _ _ _ _).symm)
  refine (Finset.sum_congr rfl fun z _ => (congrArg₂ (fun a b : EReal => a * b) ((iblk5_at m c t j z).trans (wg_at m c j z)) (nrm_at m c t k z)).trans (mul_comm _ _)).trans ?_
  generalize xA m c = x
  generalize gA m c = g
  generalize wA m c = w
  simp only [projOf_at]
  split_ifs
  · rfl
  · rw [sitofp_zero]
    simp only [mul_zero, Finset.sum_const_zero]

end Cert.OddIdeal.Rows

end
-- ==== Proof.OddFinal.lean ====
module

public import proofs.«01_k».proof.Proof.OddTiles

@[expose] public section

set_option maxRecDepth 16384

/-! # The odd layer's projection: the rows and the keys -/

noncomputable section

namespace Cert.OddIdeal.Rows

open Idealize.ShloMosaic Idealize.ShloMosaic.TcCoe Idealize.SL.Sem
open Idealize.ShloMosaic.Pipeline (Dat)
open Cert.OddIdeal.Gen

variable (m : (ℓ : Loc nD τ sig) → Buf (Elt Ideal) ℓ) (c : Dev nD)

theorem rows_final : (dats m 0 c).arrAt 6 cfg0.N = rowsOf (xA m c) (gA m c) (wA m c) (pA m c) := by
  refine (dats m 0 c).arrAt_eq_of_covers 6 _ (by decide +kernel) fun t ht y => ?_
  blk_simp
  rw [after0_6]
  have h0 : (y 0).val < 1024 := (y 0).isLt
  have h1 : (y 1).val < 1280 := (y 1).isLt
  have e : y = ix2 ⟨(y 0).val, h0⟩ ⟨(y 1).val, h1⟩ := by funext i; fin_cases i <;> rfl
  refine (congrArg (outU m c t) e).trans ((outU_at m c t _ _).trans ?_)
  unfold row
  have hn := nlt t
  generalize rowsOf (xA m c) (gA m c) (wA m c) (pA m c) = R
  blk_point [idx t]

theorem keys_final : (dats m 0 c).arrAt 7 cfg0.N = keysOf (xA m c) (gA m c) (wA m c) := by
  refine (dats m 0 c).arrAt_eq_of_covers 7 _ (by decide +kernel) fun t ht y => ?_
  blk_simp
  rw [after0_7]
  have h0 : (y 0).val < 1024 := (y 0).isLt
  have h1 : (y 1).val < 256 := (y 1).isLt
  have e : y = ix2 ⟨(y 0).val, h0⟩ ⟨(y 1).val, h1⟩ := by funext i; fin_cases i <;> rfl
  refine (congrArg (outK m c t) e).trans ((outK_at m c t _ _).trans ?_)
  unfold row
  have hn := nlt t
  generalize keysOf (xA m c) (gA m c) (wA m c) = R
  blk_point [idx t]

end Cert.OddIdeal.Rows

end
-- ==== Proof.OddFinalCols.lean ====
module

public import proofs.«01_k».proof.Proof.OddTiles

@[expose] public section

set_option maxRecDepth 16384

/-! # The odd layer's projection: the values and the columns -/

noncomputable section

namespace Cert.OddIdeal.Rows

open Idealize.ShloMosaic Idealize.ShloMosaic.TcCoe Idealize.SL.Sem
open Idealize.ShloMosaic.Pipeline (Dat)
open Cert.OddIdeal.Gen

variable (m : (ℓ : Loc nD τ sig) → Buf (Elt Ideal) ℓ) (c : Dev nD)

theorem values_final : (dats m 0 c).arrAt 8 cfg0.N = valuesOf (xA m c) (gA m c) (wA m c) := by
  refine (dats m 0 c).arrAt_eq_of_covers 8 _ (by decide +kernel) fun t ht y => ?_
  have hp : t.val % 2 = 1 := (flush0_8 t).mp ht
  blk_simp
  rw [after0_8]
  have h0 : (y 0).val < 1024 := (y 0).isLt
  have h1 : (y 1).val < 256 := (y 1).isLt
  have e : y = ix2 ⟨(y 0).val, h0⟩ ⟨(y 1).val, h1⟩ := by funext i; fin_cases i <;> rfl
  refine (congrArg (outV m c t) e).trans ((outV_at m c t hp _ _).trans ?_)
  unfold row
  have hn := nlt t
  generalize valuesOf (xA m c) (gA m c) (wA m c) = R
  blk_point [idx t]

theorem cols_final : (dats m 0 c).arrAt 9 cfg0.N = colsOf (xA m c) (gA m c) (wA m c) := by
  refine (dats m 0 c).arrAt_eq_of_covers 9 _ (by decide +kernel) fun t ht y => ?_
  blk_simp
  rw [after0_9]
  have h0 : (y 0).val < 1 := (y 0).isLt
  have h1 : (y 1).val < 1536 := (y 1).isLt
  have h2 : (y 2).val < 1024 := (y 2).isLt
  have e : y = ix3 ⟨(y 0).val, h0⟩ ⟨(y 1).val, h1⟩ ⟨(y 2).val, h2⟩ := by funext i; fin_cases i <;> rfl
  refine (congrArg (outT m c t) e).trans ((outT_at m c t _ _ _).trans ?_)
  unfold row
  have hn := nlt t
  generalize colsOf (xA m c) (gA m c) (wA m c) = R
  blk_point [idx t]

end Cert.OddIdeal.Rows

end
-- ==== Proof.OddFinalGates.lean ====
module

public import proofs.«01_k».proof.Proof.OddTiles

@[expose] public section

set_option maxRecDepth 16384

/-! # The odd layer's projection: the gates -/

noncomputable section

namespace Cert.OddIdeal.Rows

open Idealize.ShloMosaic Idealize.ShloMosaic.TcCoe Idealize.SL.Sem
open Idealize.ShloMosaic.Pipeline (Dat)
open Cert.OddIdeal.Gen

variable (m : (ℓ : Loc nD τ sig) → Buf (Elt Ideal) ℓ) (c : Dev nD)

theorem gates_final : (dats m 0 c).arrAt 10 cfg0.N = gatesOf (xA m c) (gA m c) (wA m c) := by
  refine (dats m 0 c).arrAt_eq_of_covers 10 _ (by decide +kernel) fun t ht y => ?_
  blk_simp
  rw [after0_10]
  have h0 : (y 0).val < 1 := (y 0).isLt
  have h1 : (y 1).val < 64 := (y 1).isLt
  have h2 : (y 2).val < 1024 := (y 2).isLt
  have e : y = ix3 ⟨(y 0).val, h0⟩ ⟨(y 1).val, h1⟩ ⟨(y 2).val, h2⟩ := by funext i; fin_cases i <;> rfl
  refine (congrArg (outG m c t) e).trans ((outG_at m c t _ _ _).trans ?_)
  unfold row
  have hn := nlt t
  generalize gatesOf (xA m c) (gA m c) (wA m c) = R
  blk_point [idx t]

end Cert.OddIdeal.Rows

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Gen.ReferenceIdeal.Run
public import proofs.«01_k».proof.Proof.Word.Run
public import proofs.«01_k».proof.Proof.Final
public import proofs.«01_k».proof.Proof.Finite
public import proofs.«01_k».proof.Proof.Gen.Out0
public import proofs.«01_k».proof.Proof.Gen.Out0.Frame
public import proofs.«01_k».proof.Proof.Gen.Out0Ideal
public import proofs.«01_k».proof.Proof.Gen.Out0Ideal.Frame
public import proofs.«01_k».proof.Proof.Last.Out0
public import proofs.«01_k».proof.Proof.Gen.Out0RefIdeal
public import proofs.«01_k».proof.Proof.Gen.Out0RefIdeal.Run
public import proofs.«01_k».proof.Proof.Gen.Out1
public import proofs.«01_k».proof.Proof.Gen.Out1.Frame
public import proofs.«01_k».proof.Proof.Gen.Out1Ideal
public import proofs.«01_k».proof.Proof.Gen.Out1Ideal.Frame
public import proofs.«01_k».proof.Proof.Last.Out1
public import proofs.«01_k».proof.Proof.Gen.Out1RefIdeal
public import proofs.«01_k».proof.Proof.Gen.Out1RefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.ProjectFinal
public import proofs.«01_k».proof.Proof.Word.Project
public import proofs.«01_k».proof.Proof.Gen.ProjRefIdeal
public import proofs.«01_k».proof.Proof.Gen.ProjRefIdeal.Run
public import proofs.«01_k».proof.Proof.Gen.Odd
public import proofs.«01_k».proof.Proof.Gen.Odd.Frame
public import proofs.«01_k».proof.Proof.Gen.Odd.Skeleton
public import proofs.«01_k».proof.Proof.Gen.OddIdeal
public import proofs.«01_k».proof.Proof.Gen.OddIdeal.Frame
public import proofs.«01_k».proof.Proof.Gen.OddIdeal.Skeleton
public import proofs.«01_k».proof.Proof.Gen.OddRefIdeal
public import proofs.«01_k».proof.Proof.Gen.OddRefIdeal.Run
public import proofs.«01_k».proof.Proof.OddFinal
public import proofs.«01_k».proof.Proof.OddFinalCols
public import proofs.«01_k».proof.Proof.OddFinalGates
public import proofs.«01_k».proof.Proof.Word.OddRows
public import Idealize.ShloMosaic.Lib.Claim

@[expose] public section

set_option maxRecDepth 16384

/-! # The certificate -/

noncomputable section

namespace Cert.Proof

open Idealize.ShloMosaic Idealize.SL.Sem

theorem quiescent_Kernel : Cert.quiescent_Kernel := fun m g _ => Cert.Kernel.Fox.frame m g

theorem quiescent_KernelIdeal : Cert.quiescent_KernelIdeal := fun m g _ => Cert.KernelIdeal.Fox.frame m g

/-- The shape facts of the precondition's program. -/
theorem preFacts : Cert.Pre_finite.Facts where
  bcast_S_S4x8192x8x64 := by decide
  reducesTo_S4x8192x8x64_S_d0_1_2_3 := by decide
  h_S_ := by decide
  bcast_S_S4x8192x8 := by decide
  reducesTo_S4x8192x8_S_d0_1_2 := by decide

/-- The reference program names no semaphore. -/
theorem no_semaphore (sm : SemLoc Cert.ReferenceIdeal.sig) : False := by
  cases sm with
  | reg s => exact (by decide : ∀ s : Sem Cert.ReferenceIdeal.sig, False) s
  | dma s => exact (by decide : ∀ s : DmaSem Cert.ReferenceIdeal.sig, False) s

theorem quiescent_ReferenceIdeal : Cert.quiescent_ReferenceIdeal := fun m g _ =>
  (θ_run _ _ _).mono (fun _ h => ⟨fun c => (h c).2, funext fun x => (no_semaphore x.2).elim⟩)
    (Cert.ReferenceIdeal.Value.run m g)

theorem preserves : Cert.preserves_Kernel_KernelIdeal :=
  IdealRules.named_const.statement _ _ _ _ _ rfl

/-- Under the precondition the kernel's result is the reference's. -/
theorem result (m : (ℓ : Loc Cert.KernelIdeal.nD Cert.KernelIdeal.τ Cert.KernelIdeal.sig) → Buf (Elt Ideal) ℓ) (c : Dev Cert.KernelIdeal.nD)
    (hpre : letI := preFacts; Cert.Pre_KernelIdeal_finite m) :
    (Cert.KernelIdeal.Fox.dats m 0 c).arrAt 6 Cert.KernelIdeal.cfg0.N
      = Cert.KernelIdeal.Fox.refOf (m (c, Proc.tc.devRef Cert.KernelIdeal.main_arg0)) (m (c, Proc.tc.devRef Cert.KernelIdeal.main_arg1))
          (m (c, Proc.tc.devRef Cert.KernelIdeal.main_arg2)) (m (c, Proc.tc.devRef Cert.KernelIdeal.main_arg3)) := by
  letI := preFacts
  obtain ⟨hq, hk, hf⟩ := Cert.Pre_finite.reals _ _ _ _ (hpre c)
  choose Q hQ using hq
  choose K hK using hk
  choose C hC using hf
  exact Cert.KernelIdeal.Fox.final m c (fun b s h d => Q (ix4 b s h d)) (fun b s h d => K (ix4 b s h d)) (fun b s h => C (ix3 b s h))
    (fun b s h d => hQ _) (fun b s h d => hK _) (fun b s h => hC _)

theorem algebraic : letI := Cert.KernelIdeal.Gen.facts; letI := Cert.ReferenceIdeal.Gen.facts; letI := preFacts;
    Cert.algebraic_KernelIdeal_ReferenceIdeal_pre_finite := by
  letI := Cert.KernelIdeal.Gen.facts
  letI := Cert.ReferenceIdeal.Gen.facts
  letI := preFacts
  pair_intro
  · run_from Cert.KernelIdeal.Fox.run_main m g
    · exact Cert.KernelIdeal.Gen.V_main_arg0 m c
    · exact Cert.KernelIdeal.Gen.V_main_arg1 m c
    · exact Cert.KernelIdeal.Gen.V_main_arg2 m c
    · exact Cert.KernelIdeal.Gen.V_main_arg3 m c
  · run_from Cert.ReferenceIdeal.Value.run m' g'
    rw [result m c hpre]
    obtain ⟨a0, a1, a2, a3⟩ := hagree c
    exact Cert.ReferenceIdeal.Fox.res_eq m' c _ _ _ _ a0 a1 a2 a3

theorem quiescent_Out0 : Cert.quiescent_Out0 := fun m g _ => Cert.Out0.Gen.frame m g

theorem quiescent_Out0Ideal : Cert.quiescent_Out0Ideal := fun m g _ => Cert.Out0Ideal.Gen.frame m g

theorem no_semaphore_Out0 (sm : SemLoc Cert.Out0RefIdeal.sig) : False := by
  cases sm with
  | reg s => exact (by decide : ∀ s : Sem Cert.Out0RefIdeal.sig, False) s
  | dma s => exact (by decide : ∀ s : DmaSem Cert.Out0RefIdeal.sig, False) s

theorem quiescent_Out0RefIdeal : Cert.quiescent_Out0RefIdeal := fun m g _ =>
  (θ_run _ _ _).mono (fun _ h => ⟨fun c => (h c).2, funext fun x => (no_semaphore_Out0 x.2).elim⟩)
    (Cert.Out0RefIdeal.Value.run m g)

theorem algebraic_Out0 : letI := Cert.Out0Ideal.Gen.facts; letI := Cert.Out0RefIdeal.Gen.facts;
    Cert.algebraic_Out0Ideal_Out0RefIdeal := by
  letI := Cert.Out0Ideal.Gen.facts
  letI := Cert.Out0RefIdeal.Gen.facts
  pair_intro
  · run_from Cert.Out0Ideal.Gen.run_main m g
  · run_from Cert.Out0RefIdeal.Value.run m' g'
    rw [Cert.Out0Ideal.Value.final m c]
    rfl

theorem quiescent_Out1 : Cert.quiescent_Out1 := fun m g _ => Cert.Out1.Gen.frame m g

theorem quiescent_Out1Ideal : Cert.quiescent_Out1Ideal := fun m g _ => Cert.Out1Ideal.Gen.frame m g

theorem no_semaphore_Out1 (sm : SemLoc Cert.Out1RefIdeal.sig) : False := by
  cases sm with
  | reg s => exact (by decide : ∀ s : Sem Cert.Out1RefIdeal.sig, False) s
  | dma s => exact (by decide : ∀ s : DmaSem Cert.Out1RefIdeal.sig, False) s

theorem quiescent_Out1RefIdeal : Cert.quiescent_Out1RefIdeal := fun m g _ =>
  (θ_run _ _ _).mono (fun _ h => ⟨fun c => (h c).2, funext fun x => (no_semaphore_Out1 x.2).elim⟩)
    (Cert.Out1RefIdeal.Value.run m g)

theorem algebraic_Out1 : letI := Cert.Out1Ideal.Gen.facts; letI := Cert.Out1RefIdeal.Gen.facts;
    Cert.algebraic_Out1Ideal_Out1RefIdeal := by
  letI := Cert.Out1Ideal.Gen.facts
  letI := Cert.Out1RefIdeal.Gen.facts
  pair_intro
  · run_from Cert.Out1Ideal.Gen.run_main m g
  · run_from Cert.Out1RefIdeal.Value.run m' g'
    rw [Cert.Out1Ideal.Value.final m c]
    rfl

theorem quiescent_Proj : Cert.quiescent_Proj := fun m g _ => Cert.Proj.Rows.frame m g

theorem quiescent_ProjIdeal : Cert.quiescent_ProjIdeal := fun m g _ => Cert.ProjIdeal.Rows.frame m g

theorem no_semaphore_Proj (sm : SemLoc Cert.ProjRefIdeal.sig) : False := by
  cases sm with
  | reg s => exact (by decide : ∀ s : Sem Cert.ProjRefIdeal.sig, False) s
  | dma s => exact (by decide : ∀ s : DmaSem Cert.ProjRefIdeal.sig, False) s

theorem quiescent_ProjRefIdeal : Cert.quiescent_ProjRefIdeal := fun m g _ =>
  (θ_run _ _ _).mono (fun _ h => ⟨fun c => (h c).2.2, funext fun x => (no_semaphore_Proj x.2).elim⟩)
    (Cert.ProjRefIdeal.Value.run m g)

theorem algebraic_Proj : letI := Cert.ProjIdeal.Gen.facts; letI := Cert.ProjRefIdeal.Gen.facts;
    Cert.algebraic_ProjIdeal_ProjRefIdeal := by
  letI := Cert.ProjIdeal.Gen.facts
  letI := Cert.ProjRefIdeal.Gen.facts
  pair_intro
  · run_from Cert.ProjIdeal.Rows.run_main m g
  · run_from Cert.ProjRefIdeal.Value.run m' g'
    · obtain ⟨a0, a1, a2⟩ := hagree c
      refine Eq.trans ?_ (Cert.ProjIdeal.Rows.rows_final m c).symm
      unfold Cert.ProjRefIdeal.Value.res_main_v30
      rw [a0, a1, a2]
      rfl
    · obtain ⟨a0, a1, a2⟩ := hagree c
      refine Eq.trans ?_ (Cert.ProjIdeal.Rows.cols_final m c).symm
      rw [a2]
      rfl

theorem quiescent_Odd : Cert.quiescent_Odd := fun m g _ => Cert.Odd.Rows.frame m g

theorem quiescent_OddIdeal : Cert.quiescent_OddIdeal := fun m g _ => Cert.OddIdeal.Rows.frame m g

theorem no_semaphore_Odd (sm : SemLoc Cert.OddRefIdeal.sig) : False := by
  cases sm with
  | reg s => exact (by decide : ∀ s : Sem Cert.OddRefIdeal.sig, False) s
  | dma s => exact (by decide : ∀ s : DmaSem Cert.OddRefIdeal.sig, False) s

theorem quiescent_OddRefIdeal : Cert.quiescent_OddRefIdeal := fun m g _ =>
  (θ_run _ _ _).mono (fun _ h => ⟨fun c => (h c).2.2.2.2.2, funext fun x => (no_semaphore_Odd x.2).elim⟩)
    (Cert.OddRefIdeal.Value.run m g)

set_option maxHeartbeats 4000000 in
theorem algebraic_Odd : letI := Cert.OddIdeal.Gen.facts; letI := Cert.OddRefIdeal.Gen.facts;
    Cert.algebraic_OddIdeal_OddRefIdeal := by
  letI := Cert.OddIdeal.Gen.facts
  letI := Cert.OddRefIdeal.Gen.facts
  pair_intro
  · run_from Cert.OddIdeal.Rows.run_main m g
    · exact Cert.OddIdeal.Gen.V_main_arg0 m c
    · exact Cert.OddIdeal.Gen.V_main_arg1 m c
    · exact Cert.OddIdeal.Gen.V_main_arg2 m c
  · run_from Cert.OddRefIdeal.Value.run m' g'
    · obtain ⟨a0, a1, a2, a3⟩ := hagree c
      refine Eq.trans ?_ (Cert.OddIdeal.Rows.rows_final m c).symm
      unfold Cert.OddRefIdeal.Value.res_main_v49
      (try rw [a0]); (try rw [a1]); (try rw [a2]); (try rw [a3])
      rfl
    · obtain ⟨a0, a1, a2, a3⟩ := hagree c
      refine Eq.trans ?_ (Cert.OddIdeal.Rows.keys_final m c).symm
      (try rw [a0]); (try rw [a1]); (try rw [a2]); (try rw [a3])
      rfl
    · obtain ⟨a0, a1, a2, a3⟩ := hagree c
      refine Eq.trans ?_ (Cert.OddIdeal.Rows.values_final m c).symm
      (try rw [a0]); (try rw [a1]); (try rw [a2]); (try rw [a3])
      rfl
    · obtain ⟨a0, a1, a2, a3⟩ := hagree c
      refine Eq.trans ?_ (Cert.OddIdeal.Rows.cols_final m c).symm
      (try rw [a0]); (try rw [a1]); (try rw [a2]); (try rw [a3])
      rfl
    · obtain ⟨a0, a1, a2, a3⟩ := hagree c
      refine Eq.trans ?_ (Cert.OddIdeal.Rows.gates_final m c).symm
      rfl

theorem claim : Cert.Claim := ⟨Cert.Kernel.Gen.facts, Cert.KernelIdeal.Gen.facts, Cert.ReferenceIdeal.Gen.facts,
  Cert.Out0.Gen.facts, Cert.Out0Ideal.Gen.facts, Cert.Out0RefIdeal.Gen.facts,
  Cert.Out1.Gen.facts, Cert.Out1Ideal.Gen.facts, Cert.Out1RefIdeal.Gen.facts,
  Cert.Proj.Gen.facts, Cert.ProjIdeal.Gen.facts, Cert.ProjRefIdeal.Gen.facts,
  Cert.Odd.Gen.facts, Cert.OddIdeal.Gen.facts, Cert.OddRefIdeal.Gen.facts, preFacts,
  quiescent_Kernel, quiescent_KernelIdeal, fun m g _ => quiescent_KernelIdeal m g trivial,
  quiescent_ReferenceIdeal, fun m g _ => quiescent_ReferenceIdeal m g trivial,
  quiescent_Out0, quiescent_Out0Ideal, quiescent_Out0RefIdeal, quiescent_Out1, quiescent_Out1Ideal, quiescent_Out1RefIdeal,
  quiescent_Proj, quiescent_ProjIdeal, quiescent_ProjRefIdeal,
  quiescent_Odd, quiescent_OddIdeal, quiescent_OddRefIdeal,
  preserves, algebraic, trivial, algebraic_Out0, trivial, algebraic_Out1, trivial, algebraic_Proj, trivial, algebraic_Odd⟩

end Cert.Proof

end
